-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v527)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v527) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v424) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S8x3x224x224 : Shape := ⟨4, ![8, 3, 224, 224]⟩
abbrev S192x3x4x4 : Shape := ⟨4, ![192, 3, 4, 4]⟩
abbrev S192 : Shape := ⟨1, ![192]⟩
abbrev S64x192x4x4 : Shape := ⟨4, ![64, 192, 4, 4]⟩
abbrev S64 : Shape := ⟨1, ![64]⟩
abbrev S512x64 : Shape := ⟨2, ![512, 64]⟩
abbrev S192x64x4x4 : Shape := ⟨4, ![192, 64, 4, 4]⟩
abbrev S3x192x4x4 : Shape := ⟨4, ![3, 192, 4, 4]⟩
abbrev S3 : Shape := ⟨1, ![3]⟩
abbrev S_ : Shape := ⟨0, ![]⟩
abbrev S8x3x226x226 : Shape := ⟨4, ![8, 3, 226, 226]⟩
abbrev S8x3x112x112 : Shape := ⟨4, ![8, 3, 112, 112]⟩
abbrev S192x3x1x1 : Shape := ⟨4, ![192, 3, 1, 1]⟩
abbrev S192x3 : Shape := ⟨2, ![192, 3]⟩
abbrev S192x8x112x112 : Shape := ⟨4, ![192, 8, 112, 112]⟩
abbrev S8x192x112x112 : Shape := ⟨4, ![8, 192, 112, 112]⟩
abbrev S1x192x1x1 : Shape := ⟨4, ![1, 192, 1, 1]⟩
abbrev S8x192x114x114 : Shape := ⟨4, ![8, 192, 114, 114]⟩
abbrev S8x192x56x56 : Shape := ⟨4, ![8, 192, 56, 56]⟩
abbrev S64x192x1x1 : Shape := ⟨4, ![64, 192, 1, 1]⟩
abbrev S64x192 : Shape := ⟨2, ![64, 192]⟩
abbrev S64x8x56x56 : Shape := ⟨4, ![64, 8, 56, 56]⟩
abbrev S8x64x56x56 : Shape := ⟨4, ![8, 64, 56, 56]⟩
abbrev S1x64x1x1 : Shape := ⟨4, ![1, 64, 1, 1]⟩
abbrev S8x56x56x64 : Shape := ⟨4, ![8, 56, 56, 64]⟩
abbrev S25088x64 : Shape := ⟨2, ![25088, 64]⟩
abbrev S25088 : Shape := ⟨1, ![25088]⟩
abbrev S25088x1 : Shape := ⟨2, ![25088, 1]⟩
abbrev S64x512 : Shape := ⟨2, ![64, 512]⟩
abbrev S25088x512 : Shape := ⟨2, ![25088, 512]⟩
abbrev S512 : Shape := ⟨1, ![512]⟩
abbrev S1x512 : Shape := ⟨2, ![1, 512]⟩
abbrev S25088x2x256 : Shape := ⟨3, ![25088, 2, 256]⟩
abbrev S25088x2 : Shape := ⟨2, ![25088, 2]⟩
abbrev S25088x2x1 : Shape := ⟨3, ![25088, 2, 1]⟩

class Facts : Prop where
  pads_S8x3x224x224_S8x3x226x226_000_000_110_110 : S8x3x224x224.Pads (![0, 0, 1, 1] : Fin 4 → Nat) ![0, 0, 1, 1] ![0, 0, 0, 0] S8x3x226x226
  h_S_ : 0 < S_.numel
  slicesBy_S8x3x226x226_S8x3x112x112_0s1_0s1_0s2_0s2 : S8x3x226x226.SlicesBy (![0, 0, 0, 0] : Fin 4 → Nat) ![1, 1, 2, 2] S8x3x112x112
  slices_S192x3x4x4_S192x3x1x1_0_0_0_0 : S192x3x4x4.Slices ![0, 0, 0, 0] S192x3x1x1
  shapeCasts_S192x3x1x1_S192x3 : S192x3x1x1.ShapeCasts S192x3
  transposes_S192x8x112x112_S8x192x112x112_1_0_2_3 : S192x8x112x112.Transposes [1, 0, 2, 3] S8x192x112x112
  slicesBy_S8x3x226x226_S8x3x112x112_0s1_0s1_0s2_1s2 : S8x3x226x226.SlicesBy (![0, 0, 0, 1] : Fin 4 → Nat) ![1, 1, 2, 2] S8x3x112x112
  slices_S192x3x4x4_S192x3x1x1_0_0_0_1 : S192x3x4x4.Slices ![0, 0, 0, 1] S192x3x1x1
  slicesBy_S8x3x226x226_S8x3x112x112_0s1_0s1_0s2_2s2 : S8x3x226x226.SlicesBy (![0, 0, 0, 2] : Fin 4 → Nat) ![1, 1, 2, 2] S8x3x112x112
  slices_S192x3x4x4_S192x3x1x1_0_0_0_2 : S192x3x4x4.Slices ![0, 0, 0, 2] S192x3x1x1
  slicesBy_S8x3x226x226_S8x3x112x112_0s1_0s1_0s2_3s2 : S8x3x226x226.SlicesBy (![0, 0, 0, 3] : Fin 4 → Nat) ![1, 1, 2, 2] S8x3x112x112
  slices_S192x3x4x4_S192x3x1x1_0_0_0_3 : S192x3x4x4.Slices ![0, 0, 0, 3] S192x3x1x1
  slicesBy_S8x3x226x226_S8x3x112x112_0s1_0s1_1s2_0s2 : S8x3x226x226.SlicesBy (![0, 0, 1, 0] : Fin 4 → Nat) ![1, 1, 2, 2] S8x3x112x112
  slices_S192x3x4x4_S192x3x1x1_0_0_1_0 : S192x3x4x4.Slices ![0, 0, 1, 0] S192x3x1x1
  slicesBy_S8x3x226x226_S8x3x112x112_0s1_0s1_1s2_1s2 : S8x3x226x226.SlicesBy (![0, 0, 1, 1] : Fin 4 → Nat) ![1, 1, 2, 2] S8x3x112x112
  slices_S192x3x4x4_S192x3x1x1_0_0_1_1 : S192x3x4x4.Slices ![0, 0, 1, 1] S192x3x1x1
  slicesBy_S8x3x226x226_S8x3x112x112_0s1_0s1_1s2_2s2 : S8x3x226x226.SlicesBy (![0, 0, 1, 2] : Fin 4 → Nat) ![1, 1, 2, 2] S8x3x112x112
  slices_S192x3x4x4_S192x3x1x1_0_0_1_2 : S192x3x4x4.Slices ![0, 0, 1, 2] S192x3x1x1
  slicesBy_S8x3x226x226_S8x3x112x112_0s1_0s1_1s2_3s2 : S8x3x226x226.SlicesBy (![0, 0, 1, 3] : Fin 4 → Nat) ![1, 1, 2, 2] S8x3x112x112
  slices_S192x3x4x4_S192x3x1x1_0_0_1_3 : S192x3x4x4.Slices ![0, 0, 1, 3] S192x3x1x1
  slicesBy_S8x3x226x226_S8x3x112x112_0s1_0s1_2s2_0s2 : S8x3x226x226.SlicesBy (![0, 0, 2, 0] : Fin 4 → Nat) ![1, 1, 2, 2] S8x3x112x112
  slices_S192x3x4x4_S192x3x1x1_0_0_2_0 : S192x3x4x4.Slices ![0, 0, 2, 0] S192x3x1x1
  slicesBy_S8x3x226x226_S8x3x112x112_0s1_0s1_2s2_1s2 : S8x3x226x226.SlicesBy (![0, 0, 2, 1] : Fin 4 → Nat) ![1, 1, 2, 2] S8x3x112x112
  slices_S192x3x4x4_S192x3x1x1_0_0_2_1 : S192x3x4x4.Slices ![0, 0, 2, 1] S192x3x1x1
  slicesBy_S8x3x226x226_S8x3x112x112_0s1_0s1_2s2_2s2 : S8x3x226x226.SlicesBy (![0, 0, 2, 2] : Fin 4 → Nat) ![1, 1, 2, 2] S8x3x112x112
  slices_S192x3x4x4_S192x3x1x1_0_0_2_2 : S192x3x4x4.Slices ![0, 0, 2, 2] S192x3x1x1
  slicesBy_S8x3x226x226_S8x3x112x112_0s1_0s1_2s2_3s2 : S8x3x226x226.SlicesBy (![0, 0, 2, 3] : Fin 4 → Nat) ![1, 1, 2, 2] S8x3x112x112
  slices_S192x3x4x4_S192x3x1x1_0_0_2_3 : S192x3x4x4.Slices ![0, 0, 2, 3] S192x3x1x1
  slicesBy_S8x3x226x226_S8x3x112x112_0s1_0s1_3s2_0s2 : S8x3x226x226.SlicesBy (![0, 0, 3, 0] : Fin 4 → Nat) ![1, 1, 2, 2] S8x3x112x112
  slices_S192x3x4x4_S192x3x1x1_0_0_3_0 : S192x3x4x4.Slices ![0, 0, 3, 0] S192x3x1x1
  slicesBy_S8x3x226x226_S8x3x112x112_0s1_0s1_3s2_1s2 : S8x3x226x226.SlicesBy (![0, 0, 3, 1] : Fin 4 → Nat) ![1, 1, 2, 2] S8x3x112x112
  slices_S192x3x4x4_S192x3x1x1_0_0_3_1 : S192x3x4x4.Slices ![0, 0, 3, 1] S192x3x1x1
  slicesBy_S8x3x226x226_S8x3x112x112_0s1_0s1_3s2_2s2 : S8x3x226x226.SlicesBy (![0, 0, 3, 2] : Fin 4 → Nat) ![1, 1, 2, 2] S8x3x112x112
  slices_S192x3x4x4_S192x3x1x1_0_0_3_2 : S192x3x4x4.Slices ![0, 0, 3, 2] S192x3x1x1
  slicesBy_S8x3x226x226_S8x3x112x112_0s1_0s1_3s2_3s2 : S8x3x226x226.SlicesBy (![0, 0, 3, 3] : Fin 4 → Nat) ![1, 1, 2, 2] S8x3x112x112
  slices_S192x3x4x4_S192x3x1x1_0_0_3_3 : S192x3x4x4.Slices ![0, 0, 3, 3] S192x3x1x1
  bcast_S192_S1x192x1x1_1 : S192.BroadcastsInDim S1x192x1x1 (![1] : Fin 1 → Fin S1x192x1x1.rank)
  bcast_S1x192x1x1_S8x192x112x112_0_1_2_3 : S1x192x1x1.BroadcastsInDim S8x192x112x112 (![0, 1, 2, 3] : Fin 4 → Fin S8x192x112x112.rank)
  bcast_S_S8x192x112x112 : S_.BroadcastsInDim S8x192x112x112 (![] : Fin 0 → Fin S8x192x112x112.rank)
  pads_S8x192x112x112_S8x192x114x114_000_000_110_110 : S8x192x112x112.Pads (![0, 0, 1, 1] : Fin 4 → Nat) ![0, 0, 1, 1] ![0, 0, 0, 0] S8x192x114x114
  slicesBy_S8x192x114x114_S8x192x56x56_0s1_0s1_0s2_0s2 : S8x192x114x114.SlicesBy (![0, 0, 0, 0] : Fin 4 → Nat) ![1, 1, 2, 2] S8x192x56x56
  slices_S64x192x4x4_S64x192x1x1_0_0_0_0 : S64x192x4x4.Slices ![0, 0, 0, 0] S64x192x1x1
  shapeCasts_S64x192x1x1_S64x192 : S64x192x1x1.ShapeCasts S64x192
  transposes_S64x8x56x56_S8x64x56x56_1_0_2_3 : S64x8x56x56.Transposes [1, 0, 2, 3] S8x64x56x56
  slicesBy_S8x192x114x114_S8x192x56x56_0s1_0s1_0s2_1s2 : S8x192x114x114.SlicesBy (![0, 0, 0, 1] : Fin 4 → Nat) ![1, 1, 2, 2] S8x192x56x56
  slices_S64x192x4x4_S64x192x1x1_0_0_0_1 : S64x192x4x4.Slices ![0, 0, 0, 1] S64x192x1x1
  slicesBy_S8x192x114x114_S8x192x56x56_0s1_0s1_0s2_2s2 : S8x192x114x114.SlicesBy (![0, 0, 0, 2] : Fin 4 → Nat) ![1, 1, 2, 2] S8x192x56x56
  slices_S64x192x4x4_S64x192x1x1_0_0_0_2 : S64x192x4x4.Slices ![0, 0, 0, 2] S64x192x1x1
  slicesBy_S8x192x114x114_S8x192x56x56_0s1_0s1_0s2_3s2 : S8x192x114x114.SlicesBy (![0, 0, 0, 3] : Fin 4 → Nat) ![1, 1, 2, 2] S8x192x56x56
  slices_S64x192x4x4_S64x192x1x1_0_0_0_3 : S64x192x4x4.Slices ![0, 0, 0, 3] S64x192x1x1
  slicesBy_S8x192x114x114_S8x192x56x56_0s1_0s1_1s2_0s2 : S8x192x114x114.SlicesBy (![0, 0, 1, 0] : Fin 4 → Nat) ![1, 1, 2, 2] S8x192x56x56
  slices_S64x192x4x4_S64x192x1x1_0_0_1_0 : S64x192x4x4.Slices ![0, 0, 1, 0] S64x192x1x1
  slicesBy_S8x192x114x114_S8x192x56x56_0s1_0s1_1s2_1s2 : S8x192x114x114.SlicesBy (![0, 0, 1, 1] : Fin 4 → Nat) ![1, 1, 2, 2] S8x192x56x56
  slices_S64x192x4x4_S64x192x1x1_0_0_1_1 : S64x192x4x4.Slices ![0, 0, 1, 1] S64x192x1x1
  slicesBy_S8x192x114x114_S8x192x56x56_0s1_0s1_1s2_2s2 : S8x192x114x114.SlicesBy (![0, 0, 1, 2] : Fin 4 → Nat) ![1, 1, 2, 2] S8x192x56x56
  slices_S64x192x4x4_S64x192x1x1_0_0_1_2 : S64x192x4x4.Slices ![0, 0, 1, 2] S64x192x1x1
  slicesBy_S8x192x114x114_S8x192x56x56_0s1_0s1_1s2_3s2 : S8x192x114x114.SlicesBy (![0, 0, 1, 3] : Fin 4 → Nat) ![1, 1, 2, 2] S8x192x56x56
  slices_S64x192x4x4_S64x192x1x1_0_0_1_3 : S64x192x4x4.Slices ![0, 0, 1, 3] S64x192x1x1
  slicesBy_S8x192x114x114_S8x192x56x56_0s1_0s1_2s2_0s2 : S8x192x114x114.SlicesBy (![0, 0, 2, 0] : Fin 4 → Nat) ![1, 1, 2, 2] S8x192x56x56
  slices_S64x192x4x4_S64x192x1x1_0_0_2_0 : S64x192x4x4.Slices ![0, 0, 2, 0] S64x192x1x1
  slicesBy_S8x192x114x114_S8x192x56x56_0s1_0s1_2s2_1s2 : S8x192x114x114.SlicesBy (![0, 0, 2, 1] : Fin 4 → Nat) ![1, 1, 2, 2] S8x192x56x56
  slices_S64x192x4x4_S64x192x1x1_0_0_2_1 : S64x192x4x4.Slices ![0, 0, 2, 1] S64x192x1x1
  slicesBy_S8x192x114x114_S8x192x56x56_0s1_0s1_2s2_2s2 : S8x192x114x114.SlicesBy (![0, 0, 2, 2] : Fin 4 → Nat) ![1, 1, 2, 2] S8x192x56x56
  slices_S64x192x4x4_S64x192x1x1_0_0_2_2 : S64x192x4x4.Slices ![0, 0, 2, 2] S64x192x1x1
  slicesBy_S8x192x114x114_S8x192x56x56_0s1_0s1_2s2_3s2 : S8x192x114x114.SlicesBy (![0, 0, 2, 3] : Fin 4 → Nat) ![1, 1, 2, 2] S8x192x56x56
  slices_S64x192x4x4_S64x192x1x1_0_0_2_3 : S64x192x4x4.Slices ![0, 0, 2, 3] S64x192x1x1
  slicesBy_S8x192x114x114_S8x192x56x56_0s1_0s1_3s2_0s2 : S8x192x114x114.SlicesBy (![0, 0, 3, 0] : Fin 4 → Nat) ![1, 1, 2, 2] S8x192x56x56
  slices_S64x192x4x4_S64x192x1x1_0_0_3_0 : S64x192x4x4.Slices ![0, 0, 3, 0] S64x192x1x1
  slicesBy_S8x192x114x114_S8x192x56x56_0s1_0s1_3s2_1s2 : S8x192x114x114.SlicesBy (![0, 0, 3, 1] : Fin 4 → Nat) ![1, 1, 2, 2] S8x192x56x56
  slices_S64x192x4x4_S64x192x1x1_0_0_3_1 : S64x192x4x4.Slices ![0, 0, 3, 1] S64x192x1x1
  slicesBy_S8x192x114x114_S8x192x56x56_0s1_0s1_3s2_2s2 : S8x192x114x114.SlicesBy (![0, 0, 3, 2] : Fin 4 → Nat) ![1, 1, 2, 2] S8x192x56x56
  slices_S64x192x4x4_S64x192x1x1_0_0_3_2 : S64x192x4x4.Slices ![0, 0, 3, 2] S64x192x1x1
  slicesBy_S8x192x114x114_S8x192x56x56_0s1_0s1_3s2_3s2 : S8x192x114x114.SlicesBy (![0, 0, 3, 3] : Fin 4 → Nat) ![1, 1, 2, 2] S8x192x56x56
  slices_S64x192x4x4_S64x192x1x1_0_0_3_3 : S64x192x4x4.Slices ![0, 0, 3, 3] S64x192x1x1
  bcast_S64_S1x64x1x1_1 : S64.BroadcastsInDim S1x64x1x1 (![1] : Fin 1 → Fin S1x64x1x1.rank)
  bcast_S1x64x1x1_S8x64x56x56_0_1_2_3 : S1x64x1x1.BroadcastsInDim S8x64x56x56 (![0, 1, 2, 3] : Fin 4 → Fin S8x64x56x56.rank)
  transposes_S8x64x56x56_S8x56x56x64_0_2_3_1 : S8x64x56x56.Transposes [0, 2, 3, 1] S8x56x56x64
  shapeCasts_S8x56x56x64_S25088x64 : S8x56x56x64.ShapeCasts S25088x64
  reducesTo_S25088x64_S25088_d1 : S25088x64.ReducesTo [1] S25088
  bcast_S25088_S25088x1_0 : S25088.BroadcastsInDim S25088x1 (![0] : Fin 1 → Fin S25088x1.rank)
  transposes_S512x64_S64x512_1_0 : S512x64.Transposes [1, 0] S64x512
  bcast_S_S25088x512 : S_.BroadcastsInDim S25088x512 (![] : Fin 0 → Fin S25088x512.rank)
  bcast_S25088x1_S25088x512_0_1 : S25088x1.BroadcastsInDim S25088x512 (![0, 1] : Fin 2 → Fin S25088x512.rank)
  reducesTo_S512x64_S512_d1 : S512x64.ReducesTo [1] S512
  bcast_S512_S1x512_1 : S512.BroadcastsInDim S1x512 (![1] : Fin 1 → Fin S1x512.rank)
  bcast_S1x512_S25088x512_0_1 : S1x512.BroadcastsInDim S25088x512 (![0, 1] : Fin 2 → Fin S25088x512.rank)
  shapeCasts_S25088x512_S25088x2x256 : S25088x512.ShapeCasts S25088x2x256
  reducesTo_S25088x2x256_S25088x2_d2 : S25088x2x256.ReducesTo [2] S25088x2
  bcast_S25088x2_S25088x2x1_0_1 : S25088x2.BroadcastsInDim S25088x2x1 (![0, 1] : Fin 2 → Fin S25088x2x1.rank)
  bcast_S25088x2x1_S25088x2x256_0_1_2 : S25088x2x1.BroadcastsInDim S25088x2x256 (![0, 1, 2] : Fin 3 → Fin S25088x2x256.rank)
  natLt_1_32 : 1 < 32
  bcast_S_S25088x2 : S_.BroadcastsInDim S25088x2 (![] : Fin 0 → Fin S25088x2.rank)
  dot_S192x3_S8x3x112x112_S192x8x112x112_1_1_0_023_n_n_wf : DotDims.WF S192x3 S8x3x112x112 S192x8x112x112 [1] [1] [0] [0, 2, 3] [] []
  dot_S64x192_S8x192x56x56_S64x8x56x56_1_1_0_023_n_n_wf : DotDims.WF S64x192 S8x192x56x56 S64x8x56x56 [1] [1] [0] [0, 2, 3] [] []
  dot_S25088x64_S64x512_S25088x512_1_0_0_1_n_n_wf : DotDims.WF S25088x64 S64x512 S25088x512 [1] [0] [0] [1] [] []

variable [Facts]

def dot_S192x3_S8x3x112x112_S192x8x112x112_1_1_0_023_n_n : DotDims S192x3 S8x3x112x112 S192x8x112x112 where
  lhsContracting := [1]
  rhsContracting := [1]
  lhsNonContracting := [0]
  rhsNonContracting := [0, 2, 3]
  lhsBatch := []
  rhsBatch := []
  wf := dot_S192x3_S8x3x112x112_S192x8x112x112_1_1_0_023_n_n_wf
def dot_S64x192_S8x192x56x56_S64x8x56x56_1_1_0_023_n_n : DotDims S64x192 S8x192x56x56 S64x8x56x56 where
  lhsContracting := [1]
  rhsContracting := [1]
  lhsNonContracting := [0]
  rhsNonContracting := [0, 2, 3]
  lhsBatch := []
  rhsBatch := []
  wf := dot_S64x192_S8x192x56x56_S64x8x56x56_1_1_0_023_n_n_wf
def dot_S25088x64_S64x512_S25088x512_1_0_0_1_n_n : DotDims S25088x64 S64x512 S25088x512 where
  lhsContracting := [1]
  rhsContracting := [0]
  lhsNonContracting := [0]
  rhsNonContracting := [1]
  lhsBatch := []
  rhsBatch := []
  wf := dot_S25088x64_S64x512_S25088x512_1_0_0_1_n_n_wf
def fn_pad {F : FTy → Type} [FloatOps F] (arg0 : FVec F S8x3x224x224 .f32) (arg1 : IVec S_ 32) : FVec F S8x3x226x226 .f32 :=
  let v0 : FVec F S_ .f32 := sitofp .f32 arg1
  let v1 : FVec F S8x3x226x226 .f32 := (fun x v => pad S8x3x226x226 ![0, 0, 1, 1] ![0, 0, 1, 1] ![0, 0, 0, 0] x v pads_S8x3x224x224_S8x3x226x226_000_000_110_110 h_S_) arg0 v0
  v1

def fn_relu {F : FTy → Type} [FloatOps F] (arg0 : FVec F S8x192x112x112 .f32) : FVec F S8x192x112x112 .f32 :=
  let cst : FVec F S_ .f32 := constant S_ .f32 0x00000000#32
  let v0 : FVec F S8x192x112x112 .f32 := broadcastInDim S8x192x112x112 ![] bcast_S_S8x192x112x112 cst
  let v1 : FVec F S8x192x112x112 .f32 := maximumf arg0 v0
  v1

def fn_pad_0 {F : FTy → Type} [FloatOps F] (arg0 : FVec F S8x192x112x112 .f32) (arg1 : IVec S_ 32) : FVec F S8x192x114x114 .f32 :=
  let v0 : FVec F S_ .f32 := sitofp .f32 arg1
  let v1 : FVec F S8x192x114x114 .f32 := (fun x v => pad S8x192x114x114 ![0, 0, 1, 1] ![0, 0, 1, 1] ![0, 0, 0, 0] x v pads_S8x192x112x112_S8x192x114x114_000_000_110_110 h_S_) arg0 v0
  v1

def fn_part9 {F : FTy → Type} [FloatOps F] (main_v209 : FVec F S25088x512 .f32) (main_v210 : FVec F S512x64 .f32) (main_cst_2 : FVec F S_ .f32) : IVec S25088x2 1 :=
  let main_v211 : FVec F S512 .f32 := (fun x v => Host.reduceAdd x v reducesTo_S512x64_S512_d1 h_S_) main_v210 main_cst_2
  let main_v212 : FVec F S1x512 .f32 := broadcastInDim S1x512 ![1] bcast_S512_S1x512_1 main_v211
  let main_v213 : FVec F S25088x512 .f32 := broadcastInDim S25088x512 ![0, 1] bcast_S1x512_S25088x512_0_1 main_v212
  let main_v214 : FVec F S25088x512 .f32 := addf main_v209 main_v213
  let main_v215 : FVec F S25088x2x256 .f32 := shapeCast S25088x2x256 main_v214 shapeCasts_S25088x512_S25088x2x256
  let main_cst_3 : FVec F S_ .f32 := constant S_ .f32 0x7F800000#32
  let main_v216 : FVec F S25088x2 .f32 := (fun x v => Host.reduce FloatOps.minimumf x v reducesTo_S25088x2x256_S25088x2_d2 h_S_) main_v215 main_cst_3
  let main_v217 : FVec F S25088x2x1 .f32 := broadcastInDim S25088x2x1 ![0, 1] bcast_S25088x2_S25088x2x1_0_1 main_v216
  let main_v218 : FVec F S25088x2x256 .f32 := broadcastInDim S25088x2x256 ![0, 1, 2] bcast_S25088x2x1_S25088x2x256_0_1_2 main_v217
  let main_v219 : IVec S25088x2x256 1 := cmpf .oeq main_v215 main_v218
  let main_v220 : IVec S25088x2x256 32 := (extui 32 · natLt_1_32) main_v219
  let main_c_4 : IVec S_ 32 := constantI S_ 32 0#32
  let main_v221 : IVec S25088x2 32 := (fun x v => Host.reduce IntOp.addi x v reducesTo_S25088x2x256_S25088x2_d2 h_S_) main_v220 main_c_4
  let main_c_5 : IVec S_ 32 := constantI S_ 32 1#32
  let main_v222 : IVec S25088x2 32 := broadcastInDim S25088x2 ![] bcast_S_S25088x2 main_c_5
  let main_v223 : IVec S25088x2 1 := cmpi .eq main_v221 main_v222
  main_v223

def fn_part8 {F : FTy → Type} [FloatOps F] (main_arg3 : FVec F S64x192x4x4 .f32) (main_arg4 : FVec F S64 .f32) (main_arg5 : FVec F S512x64 .f32) (main_v100 : FVec F S8x192x114x114 .f32) (main_v189 : FVec F S8x64x56x56 .f32) : IVec S25088x2 1 :=
  let main_v190 : FVec F S8x192x56x56 .f32 := (Host.slice S8x192x56x56 ![0, 0, 3, 3] ![1, 1, 2, 2] · slicesBy_S8x192x114x114_S8x192x56x56_0s1_0s1_3s2_3s2) main_v100
  let main_v191 : FVec F S64x192x1x1 .f32 := (extractStridedSlice S64x192x1x1 ![0, 0, 3, 3] · slices_S64x192x4x4_S64x192x1x1_0_0_3_3) main_arg3
  let main_v192 : FVec F S64x192 .f32 := shapeCast S64x192 main_v191 shapeCasts_S64x192x1x1_S64x192
  let main_v193 : FVec F S64x8x56x56 .f32 := (fun l r => Host.dotGeneral dot_S64x192_S8x192x56x56_S64x8x56x56_1_1_0_023_n_n none l r) main_v192 main_v190
  let main_v194 : FVec F S8x64x56x56 .f32 := (transpose S8x64x56x56 [1, 0, 2, 3] · transposes_S64x8x56x56_S8x64x56x56_1_0_2_3) main_v193
  let main_v195 : FVec F S8x64x56x56 .f32 := addf main_v189 main_v194
  let main_v196 : FVec F S1x64x1x1 .f32 := broadcastInDim S1x64x1x1 ![1] bcast_S64_S1x64x1x1_1 main_arg4
  let main_v197 : FVec F S8x64x56x56 .f32 := broadcastInDim S8x64x56x56 ![0, 1, 2, 3] bcast_S1x64x1x1_S8x64x56x56_0_1_2_3 main_v196
  let main_v198 : FVec F S8x64x56x56 .f32 := addf main_v195 main_v197
  let main_v199 : FVec F S8x56x56x64 .f32 := (transpose S8x56x56x64 [0, 2, 3, 1] · transposes_S8x64x56x56_S8x56x56x64_0_2_3_1) main_v198
  let main_v200 : FVec F S25088x64 .f32 := shapeCast S25088x64 main_v199 shapeCasts_S8x56x56x64_S25088x64
  let main_v201 : FVec F S25088x64 .f32 := mulf main_v200 main_v200
  let main_cst : FVec F S_ .f32 := constant S_ .f32 0x00000000#32
  let main_v202 : FVec F S25088 .f32 := (fun x v => Host.reduceAdd x v reducesTo_S25088x64_S25088_d1 h_S_) main_v201 main_cst
  let main_v203 : FVec F S25088x1 .f32 := broadcastInDim S25088x1 ![0] bcast_S25088_S25088x1_0 main_v202
  let main_v204 : FVec F S64x512 .f32 := (transpose S64x512 [1, 0] · transposes_S512x64_S64x512_1_0) main_arg5
  let main_v205 : FVec F S25088x512 .f32 := (fun l r => Host.dotGeneral dot_S25088x64_S64x512_S25088x512_1_0_0_1_n_n none l r) main_v200 main_v204
  let main_cst_1 : FVec F S_ .f32 := constant S_ .f32 0x40000000#32
  let main_v206 : FVec F S25088x512 .f32 := broadcastInDim S25088x512 ![] bcast_S_S25088x512 main_cst_1
  let main_v207 : FVec F S25088x512 .f32 := mulf main_v206 main_v205
  let main_v208 : FVec F S25088x512 .f32 := broadcastInDim S25088x512 ![0, 1] bcast_S25088x1_S25088x512_0_1 main_v203
  let main_v209 : FVec F S25088x512 .f32 := subf main_v208 main_v207
  let main_v210 : FVec F S512x64 .f32 := mulf main_arg5 main_arg5
  let main_cst_2 : FVec F S_ .f32 := constant S_ .f32 0x00000000#32
  fn_part9 (F := F) main_v209 main_v210 main_cst_2

def fn_part7 {F : FTy → Type} [FloatOps F] (main_arg3 : FVec F S64x192x4x4 .f32) (main_arg4 : FVec F S64 .f32) (main_arg5 : FVec F S512x64 .f32) (main_v100 : FVec F S8x192x114x114 .f32) (main_v165 : FVec F S8x64x56x56 .f32) : IVec S25088x2 1 :=
  let main_v166 : FVec F S8x192x56x56 .f32 := (Host.slice S8x192x56x56 ![0, 0, 2, 3] ![1, 1, 2, 2] · slicesBy_S8x192x114x114_S8x192x56x56_0s1_0s1_2s2_3s2) main_v100
  let main_v167 : FVec F S64x192x1x1 .f32 := (extractStridedSlice S64x192x1x1 ![0, 0, 2, 3] · slices_S64x192x4x4_S64x192x1x1_0_0_2_3) main_arg3
  let main_v168 : FVec F S64x192 .f32 := shapeCast S64x192 main_v167 shapeCasts_S64x192x1x1_S64x192
  let main_v169 : FVec F S64x8x56x56 .f32 := (fun l r => Host.dotGeneral dot_S64x192_S8x192x56x56_S64x8x56x56_1_1_0_023_n_n none l r) main_v168 main_v166
  let main_v170 : FVec F S8x64x56x56 .f32 := (transpose S8x64x56x56 [1, 0, 2, 3] · transposes_S64x8x56x56_S8x64x56x56_1_0_2_3) main_v169
  let main_v171 : FVec F S8x64x56x56 .f32 := addf main_v165 main_v170
  let main_v172 : FVec F S8x192x56x56 .f32 := (Host.slice S8x192x56x56 ![0, 0, 3, 0] ![1, 1, 2, 2] · slicesBy_S8x192x114x114_S8x192x56x56_0s1_0s1_3s2_0s2) main_v100
  let main_v173 : FVec F S64x192x1x1 .f32 := (extractStridedSlice S64x192x1x1 ![0, 0, 3, 0] · slices_S64x192x4x4_S64x192x1x1_0_0_3_0) main_arg3
  let main_v174 : FVec F S64x192 .f32 := shapeCast S64x192 main_v173 shapeCasts_S64x192x1x1_S64x192
  let main_v175 : FVec F S64x8x56x56 .f32 := (fun l r => Host.dotGeneral dot_S64x192_S8x192x56x56_S64x8x56x56_1_1_0_023_n_n none l r) main_v174 main_v172
  let main_v176 : FVec F S8x64x56x56 .f32 := (transpose S8x64x56x56 [1, 0, 2, 3] · transposes_S64x8x56x56_S8x64x56x56_1_0_2_3) main_v175
  let main_v177 : FVec F S8x64x56x56 .f32 := addf main_v171 main_v176
  let main_v178 : FVec F S8x192x56x56 .f32 := (Host.slice S8x192x56x56 ![0, 0, 3, 1] ![1, 1, 2, 2] · slicesBy_S8x192x114x114_S8x192x56x56_0s1_0s1_3s2_1s2) main_v100
  let main_v179 : FVec F S64x192x1x1 .f32 := (extractStridedSlice S64x192x1x1 ![0, 0, 3, 1] · slices_S64x192x4x4_S64x192x1x1_0_0_3_1) main_arg3
  let main_v180 : FVec F S64x192 .f32 := shapeCast S64x192 main_v179 shapeCasts_S64x192x1x1_S64x192
  let main_v181 : FVec F S64x8x56x56 .f32 := (fun l r => Host.dotGeneral dot_S64x192_S8x192x56x56_S64x8x56x56_1_1_0_023_n_n none l r) main_v180 main_v178
  let main_v182 : FVec F S8x64x56x56 .f32 := (transpose S8x64x56x56 [1, 0, 2, 3] · transposes_S64x8x56x56_S8x64x56x56_1_0_2_3) main_v181
  let main_v183 : FVec F S8x64x56x56 .f32 := addf main_v177 main_v182
  let main_v184 : FVec F S8x192x56x56 .f32 := (Host.slice S8x192x56x56 ![0, 0, 3, 2] ![1, 1, 2, 2] · slicesBy_S8x192x114x114_S8x192x56x56_0s1_0s1_3s2_2s2) main_v100
  let main_v185 : FVec F S64x192x1x1 .f32 := (extractStridedSlice S64x192x1x1 ![0, 0, 3, 2] · slices_S64x192x4x4_S64x192x1x1_0_0_3_2) main_arg3
  let main_v186 : FVec F S64x192 .f32 := shapeCast S64x192 main_v185 shapeCasts_S64x192x1x1_S64x192
  let main_v187 : FVec F S64x8x56x56 .f32 := (fun l r => Host.dotGeneral dot_S64x192_S8x192x56x56_S64x8x56x56_1_1_0_023_n_n none l r) main_v186 main_v184
  let main_v188 : FVec F S8x64x56x56 .f32 := (transpose S8x64x56x56 [1, 0, 2, 3] · transposes_S64x8x56x56_S8x64x56x56_1_0_2_3) main_v187
  let main_v189 : FVec F S8x64x56x56 .f32 := addf main_v183 main_v188
  fn_part8 (F := F) main_arg3 main_arg4 main_arg5 main_v100 main_v189

def fn_part6 {F : FTy → Type} [FloatOps F] (main_arg3 : FVec F S64x192x4x4 .f32) (main_arg4 : FVec F S64 .f32) (main_arg5 : FVec F S512x64 .f32) (main_v100 : FVec F S8x192x114x114 .f32) (main_v141 : FVec F S8x64x56x56 .f32) : IVec S25088x2 1 :=
  let main_v142 : FVec F S8x192x56x56 .f32 := (Host.slice S8x192x56x56 ![0, 0, 1, 3] ![1, 1, 2, 2] · slicesBy_S8x192x114x114_S8x192x56x56_0s1_0s1_1s2_3s2) main_v100
  let main_v143 : FVec F S64x192x1x1 .f32 := (extractStridedSlice S64x192x1x1 ![0, 0, 1, 3] · slices_S64x192x4x4_S64x192x1x1_0_0_1_3) main_arg3
  let main_v144 : FVec F S64x192 .f32 := shapeCast S64x192 main_v143 shapeCasts_S64x192x1x1_S64x192
  let main_v145 : FVec F S64x8x56x56 .f32 := (fun l r => Host.dotGeneral dot_S64x192_S8x192x56x56_S64x8x56x56_1_1_0_023_n_n none l r) main_v144 main_v142
  let main_v146 : FVec F S8x64x56x56 .f32 := (transpose S8x64x56x56 [1, 0, 2, 3] · transposes_S64x8x56x56_S8x64x56x56_1_0_2_3) main_v145
  let main_v147 : FVec F S8x64x56x56 .f32 := addf main_v141 main_v146
  let main_v148 : FVec F S8x192x56x56 .f32 := (Host.slice S8x192x56x56 ![0, 0, 2, 0] ![1, 1, 2, 2] · slicesBy_S8x192x114x114_S8x192x56x56_0s1_0s1_2s2_0s2) main_v100
  let main_v149 : FVec F S64x192x1x1 .f32 := (extractStridedSlice S64x192x1x1 ![0, 0, 2, 0] · slices_S64x192x4x4_S64x192x1x1_0_0_2_0) main_arg3
  let main_v150 : FVec F S64x192 .f32 := shapeCast S64x192 main_v149 shapeCasts_S64x192x1x1_S64x192
  let main_v151 : FVec F S64x8x56x56 .f32 := (fun l r => Host.dotGeneral dot_S64x192_S8x192x56x56_S64x8x56x56_1_1_0_023_n_n none l r) main_v150 main_v148
  let main_v152 : FVec F S8x64x56x56 .f32 := (transpose S8x64x56x56 [1, 0, 2, 3] · transposes_S64x8x56x56_S8x64x56x56_1_0_2_3) main_v151
  let main_v153 : FVec F S8x64x56x56 .f32 := addf main_v147 main_v152
  let main_v154 : FVec F S8x192x56x56 .f32 := (Host.slice S8x192x56x56 ![0, 0, 2, 1] ![1, 1, 2, 2] · slicesBy_S8x192x114x114_S8x192x56x56_0s1_0s1_2s2_1s2) main_v100
  let main_v155 : FVec F S64x192x1x1 .f32 := (extractStridedSlice S64x192x1x1 ![0, 0, 2, 1] · slices_S64x192x4x4_S64x192x1x1_0_0_2_1) main_arg3
  let main_v156 : FVec F S64x192 .f32 := shapeCast S64x192 main_v155 shapeCasts_S64x192x1x1_S64x192
  let main_v157 : FVec F S64x8x56x56 .f32 := (fun l r => Host.dotGeneral dot_S64x192_S8x192x56x56_S64x8x56x56_1_1_0_023_n_n none l r) main_v156 main_v154
  let main_v158 : FVec F S8x64x56x56 .f32 := (transpose S8x64x56x56 [1, 0, 2, 3] · transposes_S64x8x56x56_S8x64x56x56_1_0_2_3) main_v157
  let main_v159 : FVec F S8x64x56x56 .f32 := addf main_v153 main_v158
  let main_v160 : FVec F S8x192x56x56 .f32 := (Host.slice S8x192x56x56 ![0, 0, 2, 2] ![1, 1, 2, 2] · slicesBy_S8x192x114x114_S8x192x56x56_0s1_0s1_2s2_2s2) main_v100
  let main_v161 : FVec F S64x192x1x1 .f32 := (extractStridedSlice S64x192x1x1 ![0, 0, 2, 2] · slices_S64x192x4x4_S64x192x1x1_0_0_2_2) main_arg3
  let main_v162 : FVec F S64x192 .f32 := shapeCast S64x192 main_v161 shapeCasts_S64x192x1x1_S64x192
  let main_v163 : FVec F S64x8x56x56 .f32 := (fun l r => Host.dotGeneral dot_S64x192_S8x192x56x56_S64x8x56x56_1_1_0_023_n_n none l r) main_v162 main_v160
  let main_v164 : FVec F S8x64x56x56 .f32 := (transpose S8x64x56x56 [1, 0, 2, 3] · transposes_S64x8x56x56_S8x64x56x56_1_0_2_3) main_v163
  let main_v165 : FVec F S8x64x56x56 .f32 := addf main_v159 main_v164
  fn_part7 (F := F) main_arg3 main_arg4 main_arg5 main_v100 main_v165

def fn_part5 {F : FTy → Type} [FloatOps F] (main_arg3 : FVec F S64x192x4x4 .f32) (main_arg4 : FVec F S64 .f32) (main_arg5 : FVec F S512x64 .f32) (main_v100 : FVec F S8x192x114x114 .f32) (main_v117 : FVec F S8x64x56x56 .f32) : IVec S25088x2 1 :=
  let main_v118 : FVec F S8x192x56x56 .f32 := (Host.slice S8x192x56x56 ![0, 0, 0, 3] ![1, 1, 2, 2] · slicesBy_S8x192x114x114_S8x192x56x56_0s1_0s1_0s2_3s2) main_v100
  let main_v119 : FVec F S64x192x1x1 .f32 := (extractStridedSlice S64x192x1x1 ![0, 0, 0, 3] · slices_S64x192x4x4_S64x192x1x1_0_0_0_3) main_arg3
  let main_v120 : FVec F S64x192 .f32 := shapeCast S64x192 main_v119 shapeCasts_S64x192x1x1_S64x192
  let main_v121 : FVec F S64x8x56x56 .f32 := (fun l r => Host.dotGeneral dot_S64x192_S8x192x56x56_S64x8x56x56_1_1_0_023_n_n none l r) main_v120 main_v118
  let main_v122 : FVec F S8x64x56x56 .f32 := (transpose S8x64x56x56 [1, 0, 2, 3] · transposes_S64x8x56x56_S8x64x56x56_1_0_2_3) main_v121
  let main_v123 : FVec F S8x64x56x56 .f32 := addf main_v117 main_v122
  let main_v124 : FVec F S8x192x56x56 .f32 := (Host.slice S8x192x56x56 ![0, 0, 1, 0] ![1, 1, 2, 2] · slicesBy_S8x192x114x114_S8x192x56x56_0s1_0s1_1s2_0s2) main_v100
  let main_v125 : FVec F S64x192x1x1 .f32 := (extractStridedSlice S64x192x1x1 ![0, 0, 1, 0] · slices_S64x192x4x4_S64x192x1x1_0_0_1_0) main_arg3
  let main_v126 : FVec F S64x192 .f32 := shapeCast S64x192 main_v125 shapeCasts_S64x192x1x1_S64x192
  let main_v127 : FVec F S64x8x56x56 .f32 := (fun l r => Host.dotGeneral dot_S64x192_S8x192x56x56_S64x8x56x56_1_1_0_023_n_n none l r) main_v126 main_v124
  let main_v128 : FVec F S8x64x56x56 .f32 := (transpose S8x64x56x56 [1, 0, 2, 3] · transposes_S64x8x56x56_S8x64x56x56_1_0_2_3) main_v127
  let main_v129 : FVec F S8x64x56x56 .f32 := addf main_v123 main_v128
  let main_v130 : FVec F S8x192x56x56 .f32 := (Host.slice S8x192x56x56 ![0, 0, 1, 1] ![1, 1, 2, 2] · slicesBy_S8x192x114x114_S8x192x56x56_0s1_0s1_1s2_1s2) main_v100
  let main_v131 : FVec F S64x192x1x1 .f32 := (extractStridedSlice S64x192x1x1 ![0, 0, 1, 1] · slices_S64x192x4x4_S64x192x1x1_0_0_1_1) main_arg3
  let main_v132 : FVec F S64x192 .f32 := shapeCast S64x192 main_v131 shapeCasts_S64x192x1x1_S64x192
  let main_v133 : FVec F S64x8x56x56 .f32 := (fun l r => Host.dotGeneral dot_S64x192_S8x192x56x56_S64x8x56x56_1_1_0_023_n_n none l r) main_v132 main_v130
  let main_v134 : FVec F S8x64x56x56 .f32 := (transpose S8x64x56x56 [1, 0, 2, 3] · transposes_S64x8x56x56_S8x64x56x56_1_0_2_3) main_v133
  let main_v135 : FVec F S8x64x56x56 .f32 := addf main_v129 main_v134
  let main_v136 : FVec F S8x192x56x56 .f32 := (Host.slice S8x192x56x56 ![0, 0, 1, 2] ![1, 1, 2, 2] · slicesBy_S8x192x114x114_S8x192x56x56_0s1_0s1_1s2_2s2) main_v100
  let main_v137 : FVec F S64x192x1x1 .f32 := (extractStridedSlice S64x192x1x1 ![0, 0, 1, 2] · slices_S64x192x4x4_S64x192x1x1_0_0_1_2) main_arg3
  let main_v138 : FVec F S64x192 .f32 := shapeCast S64x192 main_v137 shapeCasts_S64x192x1x1_S64x192
  let main_v139 : FVec F S64x8x56x56 .f32 := (fun l r => Host.dotGeneral dot_S64x192_S8x192x56x56_S64x8x56x56_1_1_0_023_n_n none l r) main_v138 main_v136
  let main_v140 : FVec F S8x64x56x56 .f32 := (transpose S8x64x56x56 [1, 0, 2, 3] · transposes_S64x8x56x56_S8x64x56x56_1_0_2_3) main_v139
  let main_v141 : FVec F S8x64x56x56 .f32 := addf main_v135 main_v140
  fn_part6 (F := F) main_arg3 main_arg4 main_arg5 main_v100 main_v141

def fn_part4 {F : FTy → Type} [FloatOps F] (main_arg2 : FVec F S192 .f32) (main_arg3 : FVec F S64x192x4x4 .f32) (main_arg4 : FVec F S64 .f32) (main_arg5 : FVec F S512x64 .f32) (main_v89 : FVec F S8x192x112x112 .f32) (main_v94 : FVec F S8x192x112x112 .f32) : IVec S25088x2 1 :=
  let main_v95 : FVec F S8x192x112x112 .f32 := addf main_v89 main_v94
  let main_v96 : FVec F S1x192x1x1 .f32 := broadcastInDim S1x192x1x1 ![1] bcast_S192_S1x192x1x1_1 main_arg2
  let main_v97 : FVec F S8x192x112x112 .f32 := broadcastInDim S8x192x112x112 ![0, 1, 2, 3] bcast_S1x192x1x1_S8x192x112x112_0_1_2_3 main_v96
  let main_v98 : FVec F S8x192x112x112 .f32 := addf main_v95 main_v97
  let main_v99 : FVec F S8x192x112x112 .f32 := fn_relu (F := F) main_v98
  let main_c_0 : IVec S_ 32 := constantI S_ 32 0#32
  let main_v100 : FVec F S8x192x114x114 .f32 := fn_pad_0 (F := F) main_v99 main_c_0
  let main_v101 : FVec F S8x192x56x56 .f32 := (Host.slice S8x192x56x56 ![0, 0, 0, 0] ![1, 1, 2, 2] · slicesBy_S8x192x114x114_S8x192x56x56_0s1_0s1_0s2_0s2) main_v100
  let main_v102 : FVec F S64x192x1x1 .f32 := (extractStridedSlice S64x192x1x1 ![0, 0, 0, 0] · slices_S64x192x4x4_S64x192x1x1_0_0_0_0) main_arg3
  let main_v103 : FVec F S64x192 .f32 := shapeCast S64x192 main_v102 shapeCasts_S64x192x1x1_S64x192
  let main_v104 : FVec F S64x8x56x56 .f32 := (fun l r => Host.dotGeneral dot_S64x192_S8x192x56x56_S64x8x56x56_1_1_0_023_n_n none l r) main_v103 main_v101
  let main_v105 : FVec F S8x64x56x56 .f32 := (transpose S8x64x56x56 [1, 0, 2, 3] · transposes_S64x8x56x56_S8x64x56x56_1_0_2_3) main_v104
  let main_v106 : FVec F S8x192x56x56 .f32 := (Host.slice S8x192x56x56 ![0, 0, 0, 1] ![1, 1, 2, 2] · slicesBy_S8x192x114x114_S8x192x56x56_0s1_0s1_0s2_1s2) main_v100
  let main_v107 : FVec F S64x192x1x1 .f32 := (extractStridedSlice S64x192x1x1 ![0, 0, 0, 1] · slices_S64x192x4x4_S64x192x1x1_0_0_0_1) main_arg3
  let main_v108 : FVec F S64x192 .f32 := shapeCast S64x192 main_v107 shapeCasts_S64x192x1x1_S64x192
  let main_v109 : FVec F S64x8x56x56 .f32 := (fun l r => Host.dotGeneral dot_S64x192_S8x192x56x56_S64x8x56x56_1_1_0_023_n_n none l r) main_v108 main_v106
  let main_v110 : FVec F S8x64x56x56 .f32 := (transpose S8x64x56x56 [1, 0, 2, 3] · transposes_S64x8x56x56_S8x64x56x56_1_0_2_3) main_v109
  let main_v111 : FVec F S8x64x56x56 .f32 := addf main_v105 main_v110
  let main_v112 : FVec F S8x192x56x56 .f32 := (Host.slice S8x192x56x56 ![0, 0, 0, 2] ![1, 1, 2, 2] · slicesBy_S8x192x114x114_S8x192x56x56_0s1_0s1_0s2_2s2) main_v100
  let main_v113 : FVec F S64x192x1x1 .f32 := (extractStridedSlice S64x192x1x1 ![0, 0, 0, 2] · slices_S64x192x4x4_S64x192x1x1_0_0_0_2) main_arg3
  let main_v114 : FVec F S64x192 .f32 := shapeCast S64x192 main_v113 shapeCasts_S64x192x1x1_S64x192
  let main_v115 : FVec F S64x8x56x56 .f32 := (fun l r => Host.dotGeneral dot_S64x192_S8x192x56x56_S64x8x56x56_1_1_0_023_n_n none l r) main_v114 main_v112
  let main_v116 : FVec F S8x64x56x56 .f32 := (transpose S8x64x56x56 [1, 0, 2, 3] · transposes_S64x8x56x56_S8x64x56x56_1_0_2_3) main_v115
  let main_v117 : FVec F S8x64x56x56 .f32 := addf main_v111 main_v116
  fn_part5 (F := F) main_arg3 main_arg4 main_arg5 main_v100 main_v117

def fn_part3 {F : FTy → Type} [FloatOps F] (main_arg1 : FVec F S192x3x4x4 .f32) (main_arg2 : FVec F S192 .f32) (main_arg3 : FVec F S64x192x4x4 .f32) (main_arg4 : FVec F S64 .f32) (main_arg5 : FVec F S512x64 .f32) (main_v0 : FVec F S8x3x226x226 .f32) (main_v65 : FVec F S8x192x112x112 .f32) (main_v70 : FVec F S8x192x112x112 .f32) : IVec S25088x2 1 :=
  let main_v71 : FVec F S8x192x112x112 .f32 := addf main_v65 main_v70
  let main_v72 : FVec F S8x3x112x112 .f32 := (Host.slice S8x3x112x112 ![0, 0, 3, 0] ![1, 1, 2, 2] · slicesBy_S8x3x226x226_S8x3x112x112_0s1_0s1_3s2_0s2) main_v0
  let main_v73 : FVec F S192x3x1x1 .f32 := (extractStridedSlice S192x3x1x1 ![0, 0, 3, 0] · slices_S192x3x4x4_S192x3x1x1_0_0_3_0) main_arg1
  let main_v74 : FVec F S192x3 .f32 := shapeCast S192x3 main_v73 shapeCasts_S192x3x1x1_S192x3
  let main_v75 : FVec F S192x8x112x112 .f32 := (fun l r => Host.dotGeneral dot_S192x3_S8x3x112x112_S192x8x112x112_1_1_0_023_n_n none l r) main_v74 main_v72
  let main_v76 : FVec F S8x192x112x112 .f32 := (transpose S8x192x112x112 [1, 0, 2, 3] · transposes_S192x8x112x112_S8x192x112x112_1_0_2_3) main_v75
  let main_v77 : FVec F S8x192x112x112 .f32 := addf main_v71 main_v76
  let main_v78 : FVec F S8x3x112x112 .f32 := (Host.slice S8x3x112x112 ![0, 0, 3, 1] ![1, 1, 2, 2] · slicesBy_S8x3x226x226_S8x3x112x112_0s1_0s1_3s2_1s2) main_v0
  let main_v79 : FVec F S192x3x1x1 .f32 := (extractStridedSlice S192x3x1x1 ![0, 0, 3, 1] · slices_S192x3x4x4_S192x3x1x1_0_0_3_1) main_arg1
  let main_v80 : FVec F S192x3 .f32 := shapeCast S192x3 main_v79 shapeCasts_S192x3x1x1_S192x3
  let main_v81 : FVec F S192x8x112x112 .f32 := (fun l r => Host.dotGeneral dot_S192x3_S8x3x112x112_S192x8x112x112_1_1_0_023_n_n none l r) main_v80 main_v78
  let main_v82 : FVec F S8x192x112x112 .f32 := (transpose S8x192x112x112 [1, 0, 2, 3] · transposes_S192x8x112x112_S8x192x112x112_1_0_2_3) main_v81
  let main_v83 : FVec F S8x192x112x112 .f32 := addf main_v77 main_v82
  let main_v84 : FVec F S8x3x112x112 .f32 := (Host.slice S8x3x112x112 ![0, 0, 3, 2] ![1, 1, 2, 2] · slicesBy_S8x3x226x226_S8x3x112x112_0s1_0s1_3s2_2s2) main_v0
  let main_v85 : FVec F S192x3x1x1 .f32 := (extractStridedSlice S192x3x1x1 ![0, 0, 3, 2] · slices_S192x3x4x4_S192x3x1x1_0_0_3_2) main_arg1
  let main_v86 : FVec F S192x3 .f32 := shapeCast S192x3 main_v85 shapeCasts_S192x3x1x1_S192x3
  let main_v87 : FVec F S192x8x112x112 .f32 := (fun l r => Host.dotGeneral dot_S192x3_S8x3x112x112_S192x8x112x112_1_1_0_023_n_n none l r) main_v86 main_v84
  let main_v88 : FVec F S8x192x112x112 .f32 := (transpose S8x192x112x112 [1, 0, 2, 3] · transposes_S192x8x112x112_S8x192x112x112_1_0_2_3) main_v87
  let main_v89 : FVec F S8x192x112x112 .f32 := addf main_v83 main_v88
  let main_v90 : FVec F S8x3x112x112 .f32 := (Host.slice S8x3x112x112 ![0, 0, 3, 3] ![1, 1, 2, 2] · slicesBy_S8x3x226x226_S8x3x112x112_0s1_0s1_3s2_3s2) main_v0
  let main_v91 : FVec F S192x3x1x1 .f32 := (extractStridedSlice S192x3x1x1 ![0, 0, 3, 3] · slices_S192x3x4x4_S192x3x1x1_0_0_3_3) main_arg1
  let main_v92 : FVec F S192x3 .f32 := shapeCast S192x3 main_v91 shapeCasts_S192x3x1x1_S192x3
  let main_v93 : FVec F S192x8x112x112 .f32 := (fun l r => Host.dotGeneral dot_S192x3_S8x3x112x112_S192x8x112x112_1_1_0_023_n_n none l r) main_v92 main_v90
  let main_v94 : FVec F S8x192x112x112 .f32 := (transpose S8x192x112x112 [1, 0, 2, 3] · transposes_S192x8x112x112_S8x192x112x112_1_0_2_3) main_v93
  fn_part4 (F := F) main_arg2 main_arg3 main_arg4 main_arg5 main_v89 main_v94

def fn_part2 {F : FTy → Type} [FloatOps F] (main_arg1 : FVec F S192x3x4x4 .f32) (main_arg2 : FVec F S192 .f32) (main_arg3 : FVec F S64x192x4x4 .f32) (main_arg4 : FVec F S64 .f32) (main_arg5 : FVec F S512x64 .f32) (main_v0 : FVec F S8x3x226x226 .f32) (main_v41 : FVec F S8x192x112x112 .f32) (main_v46 : FVec F S8x192x112x112 .f32) : IVec S25088x2 1 :=
  let main_v47 : FVec F S8x192x112x112 .f32 := addf main_v41 main_v46
  let main_v48 : FVec F S8x3x112x112 .f32 := (Host.slice S8x3x112x112 ![0, 0, 2, 0] ![1, 1, 2, 2] · slicesBy_S8x3x226x226_S8x3x112x112_0s1_0s1_2s2_0s2) main_v0
  let main_v49 : FVec F S192x3x1x1 .f32 := (extractStridedSlice S192x3x1x1 ![0, 0, 2, 0] · slices_S192x3x4x4_S192x3x1x1_0_0_2_0) main_arg1
  let main_v50 : FVec F S192x3 .f32 := shapeCast S192x3 main_v49 shapeCasts_S192x3x1x1_S192x3
  let main_v51 : FVec F S192x8x112x112 .f32 := (fun l r => Host.dotGeneral dot_S192x3_S8x3x112x112_S192x8x112x112_1_1_0_023_n_n none l r) main_v50 main_v48
  let main_v52 : FVec F S8x192x112x112 .f32 := (transpose S8x192x112x112 [1, 0, 2, 3] · transposes_S192x8x112x112_S8x192x112x112_1_0_2_3) main_v51
  let main_v53 : FVec F S8x192x112x112 .f32 := addf main_v47 main_v52
  let main_v54 : FVec F S8x3x112x112 .f32 := (Host.slice S8x3x112x112 ![0, 0, 2, 1] ![1, 1, 2, 2] · slicesBy_S8x3x226x226_S8x3x112x112_0s1_0s1_2s2_1s2) main_v0
  let main_v55 : FVec F S192x3x1x1 .f32 := (extractStridedSlice S192x3x1x1 ![0, 0, 2, 1] · slices_S192x3x4x4_S192x3x1x1_0_0_2_1) main_arg1
  let main_v56 : FVec F S192x3 .f32 := shapeCast S192x3 main_v55 shapeCasts_S192x3x1x1_S192x3
  let main_v57 : FVec F S192x8x112x112 .f32 := (fun l r => Host.dotGeneral dot_S192x3_S8x3x112x112_S192x8x112x112_1_1_0_023_n_n none l r) main_v56 main_v54
  let main_v58 : FVec F S8x192x112x112 .f32 := (transpose S8x192x112x112 [1, 0, 2, 3] · transposes_S192x8x112x112_S8x192x112x112_1_0_2_3) main_v57
  let main_v59 : FVec F S8x192x112x112 .f32 := addf main_v53 main_v58
  let main_v60 : FVec F S8x3x112x112 .f32 := (Host.slice S8x3x112x112 ![0, 0, 2, 2] ![1, 1, 2, 2] · slicesBy_S8x3x226x226_S8x3x112x112_0s1_0s1_2s2_2s2) main_v0
  let main_v61 : FVec F S192x3x1x1 .f32 := (extractStridedSlice S192x3x1x1 ![0, 0, 2, 2] · slices_S192x3x4x4_S192x3x1x1_0_0_2_2) main_arg1
  let main_v62 : FVec F S192x3 .f32 := shapeCast S192x3 main_v61 shapeCasts_S192x3x1x1_S192x3
  let main_v63 : FVec F S192x8x112x112 .f32 := (fun l r => Host.dotGeneral dot_S192x3_S8x3x112x112_S192x8x112x112_1_1_0_023_n_n none l r) main_v62 main_v60
  let main_v64 : FVec F S8x192x112x112 .f32 := (transpose S8x192x112x112 [1, 0, 2, 3] · transposes_S192x8x112x112_S8x192x112x112_1_0_2_3) main_v63
  let main_v65 : FVec F S8x192x112x112 .f32 := addf main_v59 main_v64
  let main_v66 : FVec F S8x3x112x112 .f32 := (Host.slice S8x3x112x112 ![0, 0, 2, 3] ![1, 1, 2, 2] · slicesBy_S8x3x226x226_S8x3x112x112_0s1_0s1_2s2_3s2) main_v0
  let main_v67 : FVec F S192x3x1x1 .f32 := (extractStridedSlice S192x3x1x1 ![0, 0, 2, 3] · slices_S192x3x4x4_S192x3x1x1_0_0_2_3) main_arg1
  let main_v68 : FVec F S192x3 .f32 := shapeCast S192x3 main_v67 shapeCasts_S192x3x1x1_S192x3
  let main_v69 : FVec F S192x8x112x112 .f32 := (fun l r => Host.dotGeneral dot_S192x3_S8x3x112x112_S192x8x112x112_1_1_0_023_n_n none l r) main_v68 main_v66
  let main_v70 : FVec F S8x192x112x112 .f32 := (transpose S8x192x112x112 [1, 0, 2, 3] · transposes_S192x8x112x112_S8x192x112x112_1_0_2_3) main_v69
  fn_part3 (F := F) main_arg1 main_arg2 main_arg3 main_arg4 main_arg5 main_v0 main_v65 main_v70

def fn_part1 {F : FTy → Type} [FloatOps F] (main_arg1 : FVec F S192x3x4x4 .f32) (main_arg2 : FVec F S192 .f32) (main_arg3 : FVec F S64x192x4x4 .f32) (main_arg4 : FVec F S64 .f32) (main_arg5 : FVec F S512x64 .f32) (main_v0 : FVec F S8x3x226x226 .f32) (main_v17 : FVec F S8x192x112x112 .f32) (main_v22 : FVec F S8x192x112x112 .f32) : IVec S25088x2 1 :=
  let main_v23 : FVec F S8x192x112x112 .f32 := addf main_v17 main_v22
  let main_v24 : FVec F S8x3x112x112 .f32 := (Host.slice S8x3x112x112 ![0, 0, 1, 0] ![1, 1, 2, 2] · slicesBy_S8x3x226x226_S8x3x112x112_0s1_0s1_1s2_0s2) main_v0
  let main_v25 : FVec F S192x3x1x1 .f32 := (extractStridedSlice S192x3x1x1 ![0, 0, 1, 0] · slices_S192x3x4x4_S192x3x1x1_0_0_1_0) main_arg1
  let main_v26 : FVec F S192x3 .f32 := shapeCast S192x3 main_v25 shapeCasts_S192x3x1x1_S192x3
  let main_v27 : FVec F S192x8x112x112 .f32 := (fun l r => Host.dotGeneral dot_S192x3_S8x3x112x112_S192x8x112x112_1_1_0_023_n_n none l r) main_v26 main_v24
  let main_v28 : FVec F S8x192x112x112 .f32 := (transpose S8x192x112x112 [1, 0, 2, 3] · transposes_S192x8x112x112_S8x192x112x112_1_0_2_3) main_v27
  let main_v29 : FVec F S8x192x112x112 .f32 := addf main_v23 main_v28
  let main_v30 : FVec F S8x3x112x112 .f32 := (Host.slice S8x3x112x112 ![0, 0, 1, 1] ![1, 1, 2, 2] · slicesBy_S8x3x226x226_S8x3x112x112_0s1_0s1_1s2_1s2) main_v0
  let main_v31 : FVec F S192x3x1x1 .f32 := (extractStridedSlice S192x3x1x1 ![0, 0, 1, 1] · slices_S192x3x4x4_S192x3x1x1_0_0_1_1) main_arg1
  let main_v32 : FVec F S192x3 .f32 := shapeCast S192x3 main_v31 shapeCasts_S192x3x1x1_S192x3
  let main_v33 : FVec F S192x8x112x112 .f32 := (fun l r => Host.dotGeneral dot_S192x3_S8x3x112x112_S192x8x112x112_1_1_0_023_n_n none l r) main_v32 main_v30
  let main_v34 : FVec F S8x192x112x112 .f32 := (transpose S8x192x112x112 [1, 0, 2, 3] · transposes_S192x8x112x112_S8x192x112x112_1_0_2_3) main_v33
  let main_v35 : FVec F S8x192x112x112 .f32 := addf main_v29 main_v34
  let main_v36 : FVec F S8x3x112x112 .f32 := (Host.slice S8x3x112x112 ![0, 0, 1, 2] ![1, 1, 2, 2] · slicesBy_S8x3x226x226_S8x3x112x112_0s1_0s1_1s2_2s2) main_v0
  let main_v37 : FVec F S192x3x1x1 .f32 := (extractStridedSlice S192x3x1x1 ![0, 0, 1, 2] · slices_S192x3x4x4_S192x3x1x1_0_0_1_2) main_arg1
  let main_v38 : FVec F S192x3 .f32 := shapeCast S192x3 main_v37 shapeCasts_S192x3x1x1_S192x3
  let main_v39 : FVec F S192x8x112x112 .f32 := (fun l r => Host.dotGeneral dot_S192x3_S8x3x112x112_S192x8x112x112_1_1_0_023_n_n none l r) main_v38 main_v36
  let main_v40 : FVec F S8x192x112x112 .f32 := (transpose S8x192x112x112 [1, 0, 2, 3] · transposes_S192x8x112x112_S8x192x112x112_1_0_2_3) main_v39
  let main_v41 : FVec F S8x192x112x112 .f32 := addf main_v35 main_v40
  let main_v42 : FVec F S8x3x112x112 .f32 := (Host.slice S8x3x112x112 ![0, 0, 1, 3] ![1, 1, 2, 2] · slicesBy_S8x3x226x226_S8x3x112x112_0s1_0s1_1s2_3s2) main_v0
  let main_v43 : FVec F S192x3x1x1 .f32 := (extractStridedSlice S192x3x1x1 ![0, 0, 1, 3] · slices_S192x3x4x4_S192x3x1x1_0_0_1_3) main_arg1
  let main_v44 : FVec F S192x3 .f32 := shapeCast S192x3 main_v43 shapeCasts_S192x3x1x1_S192x3
  let main_v45 : FVec F S192x8x112x112 .f32 := (fun l r => Host.dotGeneral dot_S192x3_S8x3x112x112_S192x8x112x112_1_1_0_023_n_n none l r) main_v44 main_v42
  let main_v46 : FVec F S8x192x112x112 .f32 := (transpose S8x192x112x112 [1, 0, 2, 3] · transposes_S192x8x112x112_S8x192x112x112_1_0_2_3) main_v45
  fn_part2 (F := F) main_arg1 main_arg2 main_arg3 main_arg4 main_arg5 main_v0 main_v41 main_v46

def fn {F : FTy → Type} [FloatOps F] (main_arg0 : FVec F S8x3x224x224 .f32) (main_arg1 : FVec F S192x3x4x4 .f32) (main_arg2 : FVec F S192 .f32) (main_arg3 : FVec F S64x192x4x4 .f32) (main_arg4 : FVec F S64 .f32) (main_arg5 : FVec F S512x64 .f32) (main_arg6 : FVec F S192x64x4x4 .f32) (main_arg7 : FVec F S192 .f32) (main_arg8 : FVec F S3x192x4x4 .f32) (main_arg9 : FVec F S3 .f32) : IVec S25088x2 1 :=
  let main_c : IVec S_ 32 := constantI S_ 32 0#32
  let main_v0 : FVec F S8x3x226x226 .f32 := fn_pad (F := F) main_arg0 main_c
  let main_v1 : FVec F S8x3x112x112 .f32 := (Host.slice S8x3x112x112 ![0, 0, 0, 0] ![1, 1, 2, 2] · slicesBy_S8x3x226x226_S8x3x112x112_0s1_0s1_0s2_0s2) main_v0
  let main_v2 : FVec F S192x3x1x1 .f32 := (extractStridedSlice S192x3x1x1 ![0, 0, 0, 0] · slices_S192x3x4x4_S192x3x1x1_0_0_0_0) main_arg1
  let main_v3 : FVec F S192x3 .f32 := shapeCast S192x3 main_v2 shapeCasts_S192x3x1x1_S192x3
  let main_v4 : FVec F S192x8x112x112 .f32 := (fun l r => Host.dotGeneral dot_S192x3_S8x3x112x112_S192x8x112x112_1_1_0_023_n_n none l r) main_v3 main_v1
  let main_v5 : FVec F S8x192x112x112 .f32 := (transpose S8x192x112x112 [1, 0, 2, 3] · transposes_S192x8x112x112_S8x192x112x112_1_0_2_3) main_v4
  let main_v6 : FVec F S8x3x112x112 .f32 := (Host.slice S8x3x112x112 ![0, 0, 0, 1] ![1, 1, 2, 2] · slicesBy_S8x3x226x226_S8x3x112x112_0s1_0s1_0s2_1s2) main_v0
  let main_v7 : FVec F S192x3x1x1 .f32 := (extractStridedSlice S192x3x1x1 ![0, 0, 0, 1] · slices_S192x3x4x4_S192x3x1x1_0_0_0_1) main_arg1
  let main_v8 : FVec F S192x3 .f32 := shapeCast S192x3 main_v7 shapeCasts_S192x3x1x1_S192x3
  let main_v9 : FVec F S192x8x112x112 .f32 := (fun l r => Host.dotGeneral dot_S192x3_S8x3x112x112_S192x8x112x112_1_1_0_023_n_n none l r) main_v8 main_v6
  let main_v10 : FVec F S8x192x112x112 .f32 := (transpose S8x192x112x112 [1, 0, 2, 3] · transposes_S192x8x112x112_S8x192x112x112_1_0_2_3) main_v9
  let main_v11 : FVec F S8x192x112x112 .f32 := addf main_v5 main_v10
  let main_v12 : FVec F S8x3x112x112 .f32 := (Host.slice S8x3x112x112 ![0, 0, 0, 2] ![1, 1, 2, 2] · slicesBy_S8x3x226x226_S8x3x112x112_0s1_0s1_0s2_2s2) main_v0
  let main_v13 : FVec F S192x3x1x1 .f32 := (extractStridedSlice S192x3x1x1 ![0, 0, 0, 2] · slices_S192x3x4x4_S192x3x1x1_0_0_0_2) main_arg1
  let main_v14 : FVec F S192x3 .f32 := shapeCast S192x3 main_v13 shapeCasts_S192x3x1x1_S192x3
  let main_v15 : FVec F S192x8x112x112 .f32 := (fun l r => Host.dotGeneral dot_S192x3_S8x3x112x112_S192x8x112x112_1_1_0_023_n_n none l r) main_v14 main_v12
  let main_v16 : FVec F S8x192x112x112 .f32 := (transpose S8x192x112x112 [1, 0, 2, 3] · transposes_S192x8x112x112_S8x192x112x112_1_0_2_3) main_v15
  let main_v17 : FVec F S8x192x112x112 .f32 := addf main_v11 main_v16
  let main_v18 : FVec F S8x3x112x112 .f32 := (Host.slice S8x3x112x112 ![0, 0, 0, 3] ![1, 1, 2, 2] · slicesBy_S8x3x226x226_S8x3x112x112_0s1_0s1_0s2_3s2) main_v0
  let main_v19 : FVec F S192x3x1x1 .f32 := (extractStridedSlice S192x3x1x1 ![0, 0, 0, 3] · slices_S192x3x4x4_S192x3x1x1_0_0_0_3) main_arg1
  let main_v20 : FVec F S192x3 .f32 := shapeCast S192x3 main_v19 shapeCasts_S192x3x1x1_S192x3
  let main_v21 : FVec F S192x8x112x112 .f32 := (fun l r => Host.dotGeneral dot_S192x3_S8x3x112x112_S192x8x112x112_1_1_0_023_n_n none l r) main_v20 main_v18
  let main_v22 : FVec F S8x192x112x112 .f32 := (transpose S8x192x112x112 [1, 0, 2, 3] · transposes_S192x8x112x112_S8x192x112x112_1_0_2_3) main_v21
  fn_part1 (F := F) main_arg1 main_arg2 main_arg3 main_arg4 main_arg5 main_v0 main_v17 main_v22
-- ==== Kernel.lean ====
abbrev S8x3x224x224 : Shape := ⟨4, ![8, 3, 224, 224]⟩
abbrev S192x3x4x4 : Shape := ⟨4, ![192, 3, 4, 4]⟩
abbrev S192 : Shape := ⟨1, ![192]⟩
abbrev S64x192x4x4 : Shape := ⟨4, ![64, 192, 4, 4]⟩
abbrev S64 : Shape := ⟨1, ![64]⟩
abbrev S512x64 : Shape := ⟨2, ![512, 64]⟩
abbrev S192x64x4x4 : Shape := ⟨4, ![192, 64, 4, 4]⟩
abbrev S3x192x4x4 : Shape := ⟨4, ![3, 192, 4, 4]⟩
abbrev S3 : Shape := ⟨1, ![3]⟩
abbrev S8x224x224x3 : Shape := ⟨4, ![8, 224, 224, 3]⟩
abbrev S_ : Shape := ⟨0, ![]⟩
abbrev S8x226x226x3 : Shape := ⟨4, ![8, 226, 226, 3]⟩
abbrev S8x113x2x113x2x3 : Shape := ⟨6, ![8, 113, 2, 113, 2, 3]⟩
abbrev S8x113x113x2x2x3 : Shape := ⟨6, ![8, 113, 113, 2, 2, 3]⟩
abbrev S8x113x113x12 : Shape := ⟨4, ![8, 113, 113, 12]⟩
abbrev S4x4x3x192 : Shape := ⟨4, ![4, 4, 3, 192]⟩
abbrev S2x2x2x2x3x192 : Shape := ⟨6, ![2, 2, 2, 2, 3, 192]⟩
abbrev S4x12x192 : Shape := ⟨3, ![4, 12, 192]⟩
abbrev S4x4x192x64 : Shape := ⟨4, ![4, 4, 192, 64]⟩
abbrev S16x192x64 : Shape := ⟨3, ![16, 192, 64]⟩
abbrev S64x512 : Shape := ⟨2, ![64, 512]⟩
abbrev S512 : Shape := ⟨1, ![512]⟩
abbrev S1x512 : Shape := ⟨2, ![1, 512]⟩
abbrev S4x4x64x192 : Shape := ⟨4, ![4, 4, 64, 192]⟩
abbrev S1x1x64x192 : Shape := ⟨4, ![1, 1, 64, 192]⟩
abbrev S64x192 : Shape := ⟨2, ![64, 192]⟩
abbrev S1x64x192 : Shape := ⟨3, ![1, 64, 192]⟩
abbrev S16x64x192 : Shape := ⟨3, ![16, 64, 192]⟩
abbrev S4x4x192x3 : Shape := ⟨4, ![4, 4, 192, 3]⟩
abbrev S192x3 : Shape := ⟨2, ![192, 3]⟩
abbrev S1x1x192x3 : Shape := ⟨4, ![1, 1, 192, 3]⟩
abbrev S192x1x3 : Shape := ⟨3, ![192, 1, 3]⟩
abbrev S192x16x3 : Shape := ⟨3, ![192, 16, 3]⟩
abbrev S192x3x16 : Shape := ⟨3, ![192, 3, 16]⟩
abbrev S192x48 : Shape := ⟨2, ![192, 48]⟩
abbrev S1x192x48 : Shape := ⟨3, ![1, 192, 48]⟩
abbrev S16x192x48 : Shape := ⟨3, ![16, 192, 48]⟩
abbrev S3x16 : Shape := ⟨2, ![3, 16]⟩
abbrev S48 : Shape := ⟨1, ![48]⟩
abbrev S1x48 : Shape := ⟨2, ![1, 48]⟩
abbrev S1x192 : Shape := ⟨2, ![1, 192]⟩
abbrev S1x64 : Shape := ⟨2, ![1, 64]⟩
abbrev S8x3136x48 : Shape := ⟨3, ![8, 3136, 48]⟩
abbrev S1x113x113x12 : Shape := ⟨4, ![1, 113, 113, 12]⟩
abbrev S1x3136x48 : Shape := ⟨3, ![1, 3136, 48]⟩
abbrev S2x2x57x57x192 : Shape := ⟨5, ![2, 2, 57, 57, 192]⟩
abbrev S58x58x64 : Shape := ⟨3, ![58, 58, 64]⟩
abbrev S2x2x58x58x192 : Shape := ⟨5, ![2, 2, 58, 58, 192]⟩
abbrev S113x113x12 : Shape := ⟨3, ![113, 113, 12]⟩
abbrev S6272x192 : Shape := ⟨2, ![6272, 192]⟩
abbrev S56x112x12 : Shape := ⟨3, ![56, 112, 12]⟩
abbrev S6272x12 : Shape := ⟨2, ![6272, 12]⟩
abbrev S1x12x192 : Shape := ⟨3, ![1, 12, 192]⟩
abbrev S12x192 : Shape := ⟨2, ![12, 192]⟩
abbrev S28x2x56x2x192 : Shape := ⟨5, ![28, 2, 56, 2, 192]⟩
abbrev S28x1x56x1x192 : Shape := ⟨5, ![28, 1, 56, 1, 192]⟩
abbrev S28x56x192 : Shape := ⟨3, ![28, 56, 192]⟩
abbrev S1x1x28x56x192 : Shape := ⟨5, ![1, 1, 28, 56, 192]⟩
abbrev S3136x64 : Shape := ⟨2, ![3136, 64]⟩
abbrev S1x1x56x56x192 : Shape := ⟨5, ![1, 1, 56, 56, 192]⟩
abbrev S56x56x192 : Shape := ⟨3, ![56, 56, 192]⟩
abbrev S3136x192 : Shape := ⟨2, ![3136, 192]⟩
abbrev S1x192x64 : Shape := ⟨3, ![1, 192, 64]⟩
abbrev S192x64 : Shape := ⟨2, ![192, 64]⟩
abbrev S3136 : Shape := ⟨1, ![3136]⟩
abbrev S3136x1 : Shape := ⟨2, ![3136, 1]⟩
abbrev S64x256 : Shape := ⟨2, ![64, 256]⟩
abbrev S3136x256 : Shape := ⟨2, ![3136, 256]⟩
abbrev S1x256 : Shape := ⟨2, ![1, 256]⟩
abbrev S256x64 : Shape := ⟨2, ![256, 64]⟩
abbrev S56x56x64 : Shape := ⟨3, ![56, 56, 64]⟩
abbrev S56x58x64 : Shape := ⟨3, ![56, 58, 64]⟩
abbrev S1x1x56x58x192 : Shape := ⟨5, ![1, 1, 56, 58, 192]⟩
abbrev S3136x48 : Shape := ⟨2, ![3136, 48]⟩
abbrev S8x56x56x3x4x4 : Shape := ⟨6, ![8, 56, 56, 3, 4, 4]⟩
abbrev S8x3x56x4x56x4 : Shape := ⟨6, ![8, 3, 56, 4, 56, 4]⟩

abbrev nBuf : Space → Nat
  | .hbm => 542
  | .vmem => 18
  | .smem => 0
  | _ => 0

abbrev hbmTy0_0 (i : Nat) : BufTy := match i % 128 with
  | 0 => ⟨S8x3x224x224, .f32⟩
  | 1 => ⟨S192x3x4x4, .f32⟩
  | 2 => ⟨S192, .f32⟩
  | 3 => ⟨S64x192x4x4, .f32⟩
  | 4 => ⟨S64, .f32⟩
  | 5 => ⟨S512x64, .f32⟩
  | 6 => ⟨S192x64x4x4, .f32⟩
  | 7 => ⟨S192, .f32⟩
  | 8 => ⟨S3x192x4x4, .f32⟩
  | 9 => ⟨S3, .f32⟩
  | 10 => ⟨S8x224x224x3, .f32⟩
  | 11 => ⟨S_, .i32⟩
  | 12 => ⟨S_, .f32⟩
  | 13 => ⟨S8x226x226x3, .f32⟩
  | 14 => ⟨S8x113x2x113x2x3, .f32⟩
  | 15 => ⟨S8x113x113x2x2x3, .f32⟩
  | 16 => ⟨S8x113x113x12, .f32⟩
  | 17 => ⟨S4x4x3x192, .f32⟩
  | 18 => ⟨S2x2x2x2x3x192, .f32⟩
  | 19 => ⟨S2x2x2x2x3x192, .f32⟩
  | 20 => ⟨S4x12x192, .f32⟩
  | 21 => ⟨S4x4x192x64, .f32⟩
  | 22 => ⟨S16x192x64, .f32⟩
  | 23 => ⟨S64x512, .f32⟩
  | 24 => ⟨S512x64, .f32⟩
  | 25 => ⟨S_, .f32⟩
  | 26 => ⟨S512, .f32⟩
  | 27 => ⟨S1x512, .f32⟩
  | 28 => ⟨S4x4x64x192, .f32⟩
  | 29 => ⟨S1x1x64x192, .f32⟩
  | 30 => ⟨S64x192, .f32⟩
  | 31 => ⟨S1x1x64x192, .f32⟩
  | 32 => ⟨S64x192, .f32⟩
  | 33 => ⟨S1x1x64x192, .f32⟩
  | 34 => ⟨S64x192, .f32⟩
  | 35 => ⟨S1x1x64x192, .f32⟩
  | 36 => ⟨S64x192, .f32⟩
  | 37 => ⟨S1x1x64x192, .f32⟩
  | 38 => ⟨S64x192, .f32⟩
  | 39 => ⟨S1x1x64x192, .f32⟩
  | 40 => ⟨S64x192, .f32⟩
  | 41 => ⟨S1x1x64x192, .f32⟩
  | 42 => ⟨S64x192, .f32⟩
  | 43 => ⟨S1x1x64x192, .f32⟩
  | 44 => ⟨S64x192, .f32⟩
  | 45 => ⟨S1x1x64x192, .f32⟩
  | 46 => ⟨S64x192, .f32⟩
  | 47 => ⟨S1x1x64x192, .f32⟩
  | 48 => ⟨S64x192, .f32⟩
  | 49 => ⟨S1x1x64x192, .f32⟩
  | 50 => ⟨S64x192, .f32⟩
  | 51 => ⟨S1x1x64x192, .f32⟩
  | 52 => ⟨S64x192, .f32⟩
  | 53 => ⟨S1x1x64x192, .f32⟩
  | 54 => ⟨S64x192, .f32⟩
  | 55 => ⟨S1x1x64x192, .f32⟩
  | 56 => ⟨S64x192, .f32⟩
  | 57 => ⟨S1x1x64x192, .f32⟩
  | 58 => ⟨S64x192, .f32⟩
  | 59 => ⟨S1x1x64x192, .f32⟩
  | 60 => ⟨S64x192, .f32⟩
  | 61 => ⟨S1x64x192, .f32⟩
  | 62 => ⟨S1x64x192, .f32⟩
  | 63 => ⟨S1x64x192, .f32⟩
  | 64 => ⟨S1x64x192, .f32⟩
  | 65 => ⟨S1x64x192, .f32⟩
  | 66 => ⟨S1x64x192, .f32⟩
  | 67 => ⟨S1x64x192, .f32⟩
  | 68 => ⟨S1x64x192, .f32⟩
  | 69 => ⟨S1x64x192, .f32⟩
  | 70 => ⟨S1x64x192, .f32⟩
  | 71 => ⟨S1x64x192, .f32⟩
  | 72 => ⟨S1x64x192, .f32⟩
  | 73 => ⟨S1x64x192, .f32⟩
  | 74 => ⟨S1x64x192, .f32⟩
  | 75 => ⟨S1x64x192, .f32⟩
  | 76 => ⟨S1x64x192, .f32⟩
  | 77 => ⟨S16x64x192, .f32⟩
  | 78 => ⟨S16x64x192, .bf16⟩
  | 79 => ⟨S4x4x192x3, .f32⟩
  | 80 => ⟨S_, .f32⟩
  | 81 => ⟨S192x3, .f32⟩
  | 82 => ⟨S1x1x192x3, .f32⟩
  | 83 => ⟨S192x3, .f32⟩
  | 84 => ⟨S192x1x3, .f32⟩
  | 85 => ⟨S192x1x3, .f32⟩
  | 86 => ⟨S192x1x3, .f32⟩
  | 87 => ⟨S192x1x3, .f32⟩
  | 88 => ⟨S192x1x3, .f32⟩
  | 89 => ⟨S192x1x3, .f32⟩
  | 90 => ⟨S192x1x3, .f32⟩
  | 91 => ⟨S192x1x3, .f32⟩
  | 92 => ⟨S192x1x3, .f32⟩
  | 93 => ⟨S192x1x3, .f32⟩
  | 94 => ⟨S192x1x3, .f32⟩
  | 95 => ⟨S192x1x3, .f32⟩
  | 96 => ⟨S192x1x3, .f32⟩
  | 97 => ⟨S192x1x3, .f32⟩
  | 98 => ⟨S192x1x3, .f32⟩
  | 99 => ⟨S192x1x3, .f32⟩
  | 100 => ⟨S192x16x3, .f32⟩
  | 101 => ⟨S192x3x16, .f32⟩
  | 102 => ⟨S192x48, .f32⟩
  | 103 => ⟨S1x1x192x3, .f32⟩
  | 104 => ⟨S192x3, .f32⟩
  | 105 => ⟨S1x1x192x3, .f32⟩
  | 106 => ⟨S192x3, .f32⟩
  | 107 => ⟨S1x1x192x3, .f32⟩
  | 108 => ⟨S192x3, .f32⟩
  | 109 => ⟨S192x1x3, .f32⟩
  | 110 => ⟨S192x1x3, .f32⟩
  | 111 => ⟨S192x1x3, .f32⟩
  | 112 => ⟨S192x1x3, .f32⟩
  | 113 => ⟨S192x1x3, .f32⟩
  | 114 => ⟨S192x1x3, .f32⟩
  | 115 => ⟨S192x1x3, .f32⟩
  | 116 => ⟨S192x1x3, .f32⟩
  | 117 => ⟨S192x1x3, .f32⟩
  | 118 => ⟨S192x1x3, .f32⟩
  | 119 => ⟨S192x1x3, .f32⟩
  | 120 => ⟨S192x1x3, .f32⟩
  | 121 => ⟨S192x1x3, .f32⟩
  | 122 => ⟨S192x1x3, .f32⟩
  | 123 => ⟨S192x1x3, .f32⟩
  | 124 => ⟨S192x1x3, .f32⟩
  | 125 => ⟨S192x16x3, .f32⟩
  | 126 => ⟨S192x3x16, .f32⟩
  | 127 => ⟨S192x48, .f32⟩
  | _ => ⟨S8x3x224x224, .f32⟩

abbrev hbmTy0_1 (i : Nat) : BufTy := match i % 128 with
  | 0 => ⟨S1x1x192x3, .f32⟩
  | 1 => ⟨S192x3, .f32⟩
  | 2 => ⟨S1x1x192x3, .f32⟩
  | 3 => ⟨S192x3, .f32⟩
  | 4 => ⟨S1x1x192x3, .f32⟩
  | 5 => ⟨S192x3, .f32⟩
  | 6 => ⟨S192x1x3, .f32⟩
  | 7 => ⟨S192x1x3, .f32⟩
  | 8 => ⟨S192x1x3, .f32⟩
  | 9 => ⟨S192x1x3, .f32⟩
  | 10 => ⟨S192x1x3, .f32⟩
  | 11 => ⟨S192x1x3, .f32⟩
  | 12 => ⟨S192x1x3, .f32⟩
  | 13 => ⟨S192x1x3, .f32⟩
  | 14 => ⟨S192x1x3, .f32⟩
  | 15 => ⟨S192x1x3, .f32⟩
  | 16 => ⟨S192x1x3, .f32⟩
  | 17 => ⟨S192x1x3, .f32⟩
  | 18 => ⟨S192x1x3, .f32⟩
  | 19 => ⟨S192x1x3, .f32⟩
  | 20 => ⟨S192x1x3, .f32⟩
  | 21 => ⟨S192x1x3, .f32⟩
  | 22 => ⟨S192x16x3, .f32⟩
  | 23 => ⟨S192x3x16, .f32⟩
  | 24 => ⟨S192x48, .f32⟩
  | 25 => ⟨S1x1x192x3, .f32⟩
  | 26 => ⟨S192x3, .f32⟩
  | 27 => ⟨S192x1x3, .f32⟩
  | 28 => ⟨S192x1x3, .f32⟩
  | 29 => ⟨S192x1x3, .f32⟩
  | 30 => ⟨S192x1x3, .f32⟩
  | 31 => ⟨S192x1x3, .f32⟩
  | 32 => ⟨S192x1x3, .f32⟩
  | 33 => ⟨S192x1x3, .f32⟩
  | 34 => ⟨S192x1x3, .f32⟩
  | 35 => ⟨S192x1x3, .f32⟩
  | 36 => ⟨S192x1x3, .f32⟩
  | 37 => ⟨S192x1x3, .f32⟩
  | 38 => ⟨S192x1x3, .f32⟩
  | 39 => ⟨S192x1x3, .f32⟩
  | 40 => ⟨S192x1x3, .f32⟩
  | 41 => ⟨S192x1x3, .f32⟩
  | 42 => ⟨S192x1x3, .f32⟩
  | 43 => ⟨S192x16x3, .f32⟩
  | 44 => ⟨S192x3x16, .f32⟩
  | 45 => ⟨S192x48, .f32⟩
  | 46 => ⟨S1x1x192x3, .f32⟩
  | 47 => ⟨S192x3, .f32⟩
  | 48 => ⟨S1x1x192x3, .f32⟩
  | 49 => ⟨S192x3, .f32⟩
  | 50 => ⟨S1x1x192x3, .f32⟩
  | 51 => ⟨S192x3, .f32⟩
  | 52 => ⟨S192x1x3, .f32⟩
  | 53 => ⟨S192x1x3, .f32⟩
  | 54 => ⟨S192x1x3, .f32⟩
  | 55 => ⟨S192x1x3, .f32⟩
  | 56 => ⟨S192x1x3, .f32⟩
  | 57 => ⟨S192x1x3, .f32⟩
  | 58 => ⟨S192x1x3, .f32⟩
  | 59 => ⟨S192x1x3, .f32⟩
  | 60 => ⟨S192x1x3, .f32⟩
  | 61 => ⟨S192x1x3, .f32⟩
  | 62 => ⟨S192x1x3, .f32⟩
  | 63 => ⟨S192x1x3, .f32⟩
  | 64 => ⟨S192x1x3, .f32⟩
  | 65 => ⟨S192x1x3, .f32⟩
  | 66 => ⟨S192x1x3, .f32⟩
  | 67 => ⟨S192x1x3, .f32⟩
  | 68 => ⟨S192x16x3, .f32⟩
  | 69 => ⟨S192x3x16, .f32⟩
  | 70 => ⟨S192x48, .f32⟩
  | 71 => ⟨S1x1x192x3, .f32⟩
  | 72 => ⟨S192x3, .f32⟩
  | 73 => ⟨S1x1x192x3, .f32⟩
  | 74 => ⟨S192x3, .f32⟩
  | 75 => ⟨S1x1x192x3, .f32⟩
  | 76 => ⟨S192x3, .f32⟩
  | 77 => ⟨S1x1x192x3, .f32⟩
  | 78 => ⟨S192x3, .f32⟩
  | 79 => ⟨S1x1x192x3, .f32⟩
  | 80 => ⟨S192x3, .f32⟩
  | 81 => ⟨S1x1x192x3, .f32⟩
  | 82 => ⟨S192x3, .f32⟩
  | 83 => ⟨S1x1x192x3, .f32⟩
  | 84 => ⟨S192x3, .f32⟩
  | 85 => ⟨S1x1x192x3, .f32⟩
  | 86 => ⟨S192x3, .f32⟩
  | 87 => ⟨S1x1x192x3, .f32⟩
  | 88 => ⟨S192x3, .f32⟩
  | 89 => ⟨S192x1x3, .f32⟩
  | 90 => ⟨S192x1x3, .f32⟩
  | 91 => ⟨S192x1x3, .f32⟩
  | 92 => ⟨S192x1x3, .f32⟩
  | 93 => ⟨S192x1x3, .f32⟩
  | 94 => ⟨S192x1x3, .f32⟩
  | 95 => ⟨S192x1x3, .f32⟩
  | 96 => ⟨S192x1x3, .f32⟩
  | 97 => ⟨S192x1x3, .f32⟩
  | 98 => ⟨S192x1x3, .f32⟩
  | 99 => ⟨S192x1x3, .f32⟩
  | 100 => ⟨S192x1x3, .f32⟩
  | 101 => ⟨S192x1x3, .f32⟩
  | 102 => ⟨S192x1x3, .f32⟩
  | 103 => ⟨S192x1x3, .f32⟩
  | 104 => ⟨S192x1x3, .f32⟩
  | 105 => ⟨S192x16x3, .f32⟩
  | 106 => ⟨S192x3x16, .f32⟩
  | 107 => ⟨S192x48, .f32⟩
  | 108 => ⟨S1x1x192x3, .f32⟩
  | 109 => ⟨S192x3, .f32⟩
  | 110 => ⟨S1x1x192x3, .f32⟩
  | 111 => ⟨S192x3, .f32⟩
  | 112 => ⟨S1x1x192x3, .f32⟩
  | 113 => ⟨S192x3, .f32⟩
  | 114 => ⟨S1x1x192x3, .f32⟩
  | 115 => ⟨S192x3, .f32⟩
  | 116 => ⟨S1x1x192x3, .f32⟩
  | 117 => ⟨S192x3, .f32⟩
  | 118 => ⟨S1x1x192x3, .f32⟩
  | 119 => ⟨S192x3, .f32⟩
  | 120 => ⟨S1x1x192x3, .f32⟩
  | 121 => ⟨S192x3, .f32⟩
  | 122 => ⟨S1x1x192x3, .f32⟩
  | 123 => ⟨S192x3, .f32⟩
  | 124 => ⟨S1x1x192x3, .f32⟩
  | 125 => ⟨S192x3, .f32⟩
  | 126 => ⟨S192x1x3, .f32⟩
  | 127 => ⟨S192x1x3, .f32⟩
  | _ => ⟨S8x3x224x224, .f32⟩

abbrev hbmTy0_2 (i : Nat) : BufTy := match i % 128 with
  | 0 => ⟨S192x1x3, .f32⟩
  | 1 => ⟨S192x1x3, .f32⟩
  | 2 => ⟨S192x1x3, .f32⟩
  | 3 => ⟨S192x1x3, .f32⟩
  | 4 => ⟨S192x1x3, .f32⟩
  | 5 => ⟨S192x1x3, .f32⟩
  | 6 => ⟨S192x1x3, .f32⟩
  | 7 => ⟨S192x1x3, .f32⟩
  | 8 => ⟨S192x1x3, .f32⟩
  | 9 => ⟨S192x1x3, .f32⟩
  | 10 => ⟨S192x1x3, .f32⟩
  | 11 => ⟨S192x1x3, .f32⟩
  | 12 => ⟨S192x1x3, .f32⟩
  | 13 => ⟨S192x1x3, .f32⟩
  | 14 => ⟨S192x16x3, .f32⟩
  | 15 => ⟨S192x3x16, .f32⟩
  | 16 => ⟨S192x48, .f32⟩
  | 17 => ⟨S1x1x192x3, .f32⟩
  | 18 => ⟨S192x3, .f32⟩
  | 19 => ⟨S1x1x192x3, .f32⟩
  | 20 => ⟨S192x3, .f32⟩
  | 21 => ⟨S1x1x192x3, .f32⟩
  | 22 => ⟨S192x3, .f32⟩
  | 23 => ⟨S192x1x3, .f32⟩
  | 24 => ⟨S192x1x3, .f32⟩
  | 25 => ⟨S192x1x3, .f32⟩
  | 26 => ⟨S192x1x3, .f32⟩
  | 27 => ⟨S192x1x3, .f32⟩
  | 28 => ⟨S192x1x3, .f32⟩
  | 29 => ⟨S192x1x3, .f32⟩
  | 30 => ⟨S192x1x3, .f32⟩
  | 31 => ⟨S192x1x3, .f32⟩
  | 32 => ⟨S192x1x3, .f32⟩
  | 33 => ⟨S192x1x3, .f32⟩
  | 34 => ⟨S192x1x3, .f32⟩
  | 35 => ⟨S192x1x3, .f32⟩
  | 36 => ⟨S192x1x3, .f32⟩
  | 37 => ⟨S192x1x3, .f32⟩
  | 38 => ⟨S192x1x3, .f32⟩
  | 39 => ⟨S192x16x3, .f32⟩
  | 40 => ⟨S192x3x16, .f32⟩
  | 41 => ⟨S192x48, .f32⟩
  | 42 => ⟨S1x1x192x3, .f32⟩
  | 43 => ⟨S192x3, .f32⟩
  | 44 => ⟨S1x1x192x3, .f32⟩
  | 45 => ⟨S192x3, .f32⟩
  | 46 => ⟨S1x1x192x3, .f32⟩
  | 47 => ⟨S192x3, .f32⟩
  | 48 => ⟨S192x1x3, .f32⟩
  | 49 => ⟨S192x1x3, .f32⟩
  | 50 => ⟨S192x1x3, .f32⟩
  | 51 => ⟨S192x1x3, .f32⟩
  | 52 => ⟨S192x1x3, .f32⟩
  | 53 => ⟨S192x1x3, .f32⟩
  | 54 => ⟨S192x1x3, .f32⟩
  | 55 => ⟨S192x1x3, .f32⟩
  | 56 => ⟨S192x1x3, .f32⟩
  | 57 => ⟨S192x1x3, .f32⟩
  | 58 => ⟨S192x1x3, .f32⟩
  | 59 => ⟨S192x1x3, .f32⟩
  | 60 => ⟨S192x1x3, .f32⟩
  | 61 => ⟨S192x1x3, .f32⟩
  | 62 => ⟨S192x1x3, .f32⟩
  | 63 => ⟨S192x1x3, .f32⟩
  | 64 => ⟨S192x16x3, .f32⟩
  | 65 => ⟨S192x3x16, .f32⟩
  | 66 => ⟨S192x48, .f32⟩
  | 67 => ⟨S1x1x192x3, .f32⟩
  | 68 => ⟨S192x3, .f32⟩
  | 69 => ⟨S1x1x192x3, .f32⟩
  | 70 => ⟨S192x3, .f32⟩
  | 71 => ⟨S1x1x192x3, .f32⟩
  | 72 => ⟨S192x3, .f32⟩
  | 73 => ⟨S1x1x192x3, .f32⟩
  | 74 => ⟨S192x3, .f32⟩
  | 75 => ⟨S1x1x192x3, .f32⟩
  | 76 => ⟨S192x3, .f32⟩
  | 77 => ⟨S1x1x192x3, .f32⟩
  | 78 => ⟨S192x3, .f32⟩
  | 79 => ⟨S1x1x192x3, .f32⟩
  | 80 => ⟨S192x3, .f32⟩
  | 81 => ⟨S1x1x192x3, .f32⟩
  | 82 => ⟨S192x3, .f32⟩
  | 83 => ⟨S1x1x192x3, .f32⟩
  | 84 => ⟨S192x3, .f32⟩
  | 85 => ⟨S192x1x3, .f32⟩
  | 86 => ⟨S192x1x3, .f32⟩
  | 87 => ⟨S192x1x3, .f32⟩
  | 88 => ⟨S192x1x3, .f32⟩
  | 89 => ⟨S192x1x3, .f32⟩
  | 90 => ⟨S192x1x3, .f32⟩
  | 91 => ⟨S192x1x3, .f32⟩
  | 92 => ⟨S192x1x3, .f32⟩
  | 93 => ⟨S192x1x3, .f32⟩
  | 94 => ⟨S192x1x3, .f32⟩
  | 95 => ⟨S192x1x3, .f32⟩
  | 96 => ⟨S192x1x3, .f32⟩
  | 97 => ⟨S192x1x3, .f32⟩
  | 98 => ⟨S192x1x3, .f32⟩
  | 99 => ⟨S192x1x3, .f32⟩
  | 100 => ⟨S192x1x3, .f32⟩
  | 101 => ⟨S192x16x3, .f32⟩
  | 102 => ⟨S192x3x16, .f32⟩
  | 103 => ⟨S192x48, .f32⟩
  | 104 => ⟨S1x1x192x3, .f32⟩
  | 105 => ⟨S192x3, .f32⟩
  | 106 => ⟨S1x1x192x3, .f32⟩
  | 107 => ⟨S192x3, .f32⟩
  | 108 => ⟨S1x1x192x3, .f32⟩
  | 109 => ⟨S192x3, .f32⟩
  | 110 => ⟨S1x1x192x3, .f32⟩
  | 111 => ⟨S192x3, .f32⟩
  | 112 => ⟨S1x1x192x3, .f32⟩
  | 113 => ⟨S192x3, .f32⟩
  | 114 => ⟨S1x1x192x3, .f32⟩
  | 115 => ⟨S192x3, .f32⟩
  | 116 => ⟨S1x1x192x3, .f32⟩
  | 117 => ⟨S192x3, .f32⟩
  | 118 => ⟨S1x1x192x3, .f32⟩
  | 119 => ⟨S192x3, .f32⟩
  | 120 => ⟨S1x1x192x3, .f32⟩
  | 121 => ⟨S192x3, .f32⟩
  | 122 => ⟨S192x1x3, .f32⟩
  | 123 => ⟨S192x1x3, .f32⟩
  | 124 => ⟨S192x1x3, .f32⟩
  | 125 => ⟨S192x1x3, .f32⟩
  | 126 => ⟨S192x1x3, .f32⟩
  | 127 => ⟨S192x1x3, .f32⟩
  | _ => ⟨S8x3x224x224, .f32⟩

abbrev hbmTy0_3 (i : Nat) : BufTy := match i % 128 with
  | 0 => ⟨S192x1x3, .f32⟩
  | 1 => ⟨S192x1x3, .f32⟩
  | 2 => ⟨S192x1x3, .f32⟩
  | 3 => ⟨S192x1x3, .f32⟩
  | 4 => ⟨S192x1x3, .f32⟩
  | 5 => ⟨S192x1x3, .f32⟩
  | 6 => ⟨S192x1x3, .f32⟩
  | 7 => ⟨S192x1x3, .f32⟩
  | 8 => ⟨S192x1x3, .f32⟩
  | 9 => ⟨S192x1x3, .f32⟩
  | 10 => ⟨S192x16x3, .f32⟩
  | 11 => ⟨S192x3x16, .f32⟩
  | 12 => ⟨S192x48, .f32⟩
  | 13 => ⟨S1x1x192x3, .f32⟩
  | 14 => ⟨S192x3, .f32⟩
  | 15 => ⟨S1x1x192x3, .f32⟩
  | 16 => ⟨S192x3, .f32⟩
  | 17 => ⟨S1x1x192x3, .f32⟩
  | 18 => ⟨S192x3, .f32⟩
  | 19 => ⟨S192x1x3, .f32⟩
  | 20 => ⟨S192x1x3, .f32⟩
  | 21 => ⟨S192x1x3, .f32⟩
  | 22 => ⟨S192x1x3, .f32⟩
  | 23 => ⟨S192x1x3, .f32⟩
  | 24 => ⟨S192x1x3, .f32⟩
  | 25 => ⟨S192x1x3, .f32⟩
  | 26 => ⟨S192x1x3, .f32⟩
  | 27 => ⟨S192x1x3, .f32⟩
  | 28 => ⟨S192x1x3, .f32⟩
  | 29 => ⟨S192x1x3, .f32⟩
  | 30 => ⟨S192x1x3, .f32⟩
  | 31 => ⟨S192x1x3, .f32⟩
  | 32 => ⟨S192x1x3, .f32⟩
  | 33 => ⟨S192x1x3, .f32⟩
  | 34 => ⟨S192x1x3, .f32⟩
  | 35 => ⟨S192x16x3, .f32⟩
  | 36 => ⟨S192x3x16, .f32⟩
  | 37 => ⟨S192x48, .f32⟩
  | 38 => ⟨S1x1x192x3, .f32⟩
  | 39 => ⟨S192x3, .f32⟩
  | 40 => ⟨S192x1x3, .f32⟩
  | 41 => ⟨S192x1x3, .f32⟩
  | 42 => ⟨S192x1x3, .f32⟩
  | 43 => ⟨S192x1x3, .f32⟩
  | 44 => ⟨S192x1x3, .f32⟩
  | 45 => ⟨S192x1x3, .f32⟩
  | 46 => ⟨S192x1x3, .f32⟩
  | 47 => ⟨S192x1x3, .f32⟩
  | 48 => ⟨S192x1x3, .f32⟩
  | 49 => ⟨S192x1x3, .f32⟩
  | 50 => ⟨S192x1x3, .f32⟩
  | 51 => ⟨S192x1x3, .f32⟩
  | 52 => ⟨S192x1x3, .f32⟩
  | 53 => ⟨S192x1x3, .f32⟩
  | 54 => ⟨S192x1x3, .f32⟩
  | 55 => ⟨S192x1x3, .f32⟩
  | 56 => ⟨S192x16x3, .f32⟩
  | 57 => ⟨S192x3x16, .f32⟩
  | 58 => ⟨S192x48, .f32⟩
  | 59 => ⟨S1x1x192x3, .f32⟩
  | 60 => ⟨S192x3, .f32⟩
  | 61 => ⟨S1x1x192x3, .f32⟩
  | 62 => ⟨S192x3, .f32⟩
  | 63 => ⟨S1x1x192x3, .f32⟩
  | 64 => ⟨S192x3, .f32⟩
  | 65 => ⟨S192x1x3, .f32⟩
  | 66 => ⟨S192x1x3, .f32⟩
  | 67 => ⟨S192x1x3, .f32⟩
  | 68 => ⟨S192x1x3, .f32⟩
  | 69 => ⟨S192x1x3, .f32⟩
  | 70 => ⟨S192x1x3, .f32⟩
  | 71 => ⟨S192x1x3, .f32⟩
  | 72 => ⟨S192x1x3, .f32⟩
  | 73 => ⟨S192x1x3, .f32⟩
  | 74 => ⟨S192x1x3, .f32⟩
  | 75 => ⟨S192x1x3, .f32⟩
  | 76 => ⟨S192x1x3, .f32⟩
  | 77 => ⟨S192x1x3, .f32⟩
  | 78 => ⟨S192x1x3, .f32⟩
  | 79 => ⟨S192x1x3, .f32⟩
  | 80 => ⟨S192x1x3, .f32⟩
  | 81 => ⟨S192x16x3, .f32⟩
  | 82 => ⟨S192x3x16, .f32⟩
  | 83 => ⟨S192x48, .f32⟩
  | 84 => ⟨S1x1x192x3, .f32⟩
  | 85 => ⟨S192x3, .f32⟩
  | 86 => ⟨S1x1x192x3, .f32⟩
  | 87 => ⟨S192x3, .f32⟩
  | 88 => ⟨S1x1x192x3, .f32⟩
  | 89 => ⟨S192x3, .f32⟩
  | 90 => ⟨S192x1x3, .f32⟩
  | 91 => ⟨S192x1x3, .f32⟩
  | 92 => ⟨S192x1x3, .f32⟩
  | 93 => ⟨S192x1x3, .f32⟩
  | 94 => ⟨S192x1x3, .f32⟩
  | 95 => ⟨S192x1x3, .f32⟩
  | 96 => ⟨S192x1x3, .f32⟩
  | 97 => ⟨S192x1x3, .f32⟩
  | 98 => ⟨S192x1x3, .f32⟩
  | 99 => ⟨S192x1x3, .f32⟩
  | 100 => ⟨S192x1x3, .f32⟩
  | 101 => ⟨S192x1x3, .f32⟩
  | 102 => ⟨S192x1x3, .f32⟩
  | 103 => ⟨S192x1x3, .f32⟩
  | 104 => ⟨S192x1x3, .f32⟩
  | 105 => ⟨S192x1x3, .f32⟩
  | 106 => ⟨S192x16x3, .f32⟩
  | 107 => ⟨S192x3x16, .f32⟩
  | 108 => ⟨S192x48, .f32⟩
  | 109 => ⟨S1x1x192x3, .f32⟩
  | 110 => ⟨S192x3, .f32⟩
  | 111 => ⟨S192x1x3, .f32⟩
  | 112 => ⟨S192x1x3, .f32⟩
  | 113 => ⟨S192x1x3, .f32⟩
  | 114 => ⟨S192x1x3, .f32⟩
  | 115 => ⟨S192x1x3, .f32⟩
  | 116 => ⟨S192x1x3, .f32⟩
  | 117 => ⟨S192x1x3, .f32⟩
  | 118 => ⟨S192x1x3, .f32⟩
  | 119 => ⟨S192x1x3, .f32⟩
  | 120 => ⟨S192x1x3, .f32⟩
  | 121 => ⟨S192x1x3, .f32⟩
  | 122 => ⟨S192x1x3, .f32⟩
  | 123 => ⟨S192x1x3, .f32⟩
  | 124 => ⟨S192x1x3, .f32⟩
  | 125 => ⟨S192x1x3, .f32⟩
  | 126 => ⟨S192x1x3, .f32⟩
  | 127 => ⟨S192x16x3, .f32⟩
  | _ => ⟨S8x3x224x224, .f32⟩

abbrev hbmTy0_4 (i : Nat) : BufTy := match i % 128 with
  | 0 => ⟨S192x3x16, .f32⟩
  | 1 => ⟨S192x48, .f32⟩
  | 2 => ⟨S1x192x48, .f32⟩
  | 3 => ⟨S1x192x48, .f32⟩
  | 4 => ⟨S1x192x48, .f32⟩
  | 5 => ⟨S1x192x48, .f32⟩
  | 6 => ⟨S1x192x48, .f32⟩
  | 7 => ⟨S1x192x48, .f32⟩
  | 8 => ⟨S1x192x48, .f32⟩
  | 9 => ⟨S1x192x48, .f32⟩
  | 10 => ⟨S1x192x48, .f32⟩
  | 11 => ⟨S1x192x48, .f32⟩
  | 12 => ⟨S1x192x48, .f32⟩
  | 13 => ⟨S1x192x48, .f32⟩
  | 14 => ⟨S1x192x48, .f32⟩
  | 15 => ⟨S1x192x48, .f32⟩
  | 16 => ⟨S1x192x48, .f32⟩
  | 17 => ⟨S1x192x48, .f32⟩
  | 18 => ⟨S16x192x48, .f32⟩
  | 19 => ⟨S16x192x48, .bf16⟩
  | 20 => ⟨S3x16, .f32⟩
  | 21 => ⟨S48, .f32⟩
  | 22 => ⟨S1x48, .f32⟩
  | 23 => ⟨S1x192, .f32⟩
  | 24 => ⟨S1x64, .f32⟩
  | 25 => ⟨S1x192, .f32⟩
  | 26 => ⟨S8x3136x48, .f32⟩
  | 27 => ⟨S8x56x56x3x4x4, .f32⟩
  | 28 => ⟨S8x3x56x4x56x4, .f32⟩
  | 29 => ⟨S8x3x224x224, .f32⟩
  | _ => ⟨S8x3x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x3x224x224, .f32⟩

abbrev bufTy : (tb : Table) → Fin (tcTables nBuf tb) → BufTy
  | .hbm, ⟨i, _⟩ => hbmTy i
  | .local _ .vmem, ⟨0, _⟩ => ⟨S1x113x113x12, .f32⟩
  | .local _ .vmem, ⟨1, _⟩ => ⟨S1x113x113x12, .f32⟩
  | .local _ .vmem, ⟨2, _⟩ => ⟨S4x12x192, .f32⟩
  | .local _ .vmem, ⟨3, _⟩ => ⟨S1x192, .f32⟩
  | .local _ .vmem, ⟨4, _⟩ => ⟨S16x192x64, .f32⟩
  | .local _ .vmem, ⟨5, _⟩ => ⟨S1x64, .f32⟩
  | .local _ .vmem, ⟨6, _⟩ => ⟨S64x512, .f32⟩
  | .local _ .vmem, ⟨7, _⟩ => ⟨S1x512, .f32⟩
  | .local _ .vmem, ⟨8, _⟩ => ⟨S512x64, .f32⟩
  | .local _ .vmem, ⟨9, _⟩ => ⟨S16x64x192, .bf16⟩
  | .local _ .vmem, ⟨10, _⟩ => ⟨S1x192, .f32⟩
  | .local _ .vmem, ⟨11, _⟩ => ⟨S16x192x48, .bf16⟩
  | .local _ .vmem, ⟨12, _⟩ => ⟨S1x48, .f32⟩
  | .local _ .vmem, ⟨13, _⟩ => ⟨S1x3136x48, .f32⟩
  | .local _ .vmem, ⟨14, _⟩ => ⟨S1x3136x48, .f32⟩
  | .local _ .vmem, ⟨15, _⟩ => ⟨S2x2x57x57x192, .f32⟩
  | .local _ .vmem, ⟨16, _⟩ => ⟨S58x58x64, .bf16⟩
  | .local _ .vmem, ⟨17, _⟩ => ⟨S2x2x58x58x192, .bf16⟩
  | _, _ => ⟨S8x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_0 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_v259 : Ref sig .tc := ⟨.hbm, 273, rfl⟩
abbrev main_v260 : Ref sig .tc := ⟨.hbm, 274, rfl⟩
abbrev main_v261 : Ref sig .tc := ⟨.hbm, 275, rfl⟩
abbrev main_v262 : Ref sig .tc := ⟨.hbm, 276, rfl⟩
abbrev main_v263 : Ref sig .tc := ⟨.hbm, 277, rfl⟩
abbrev main_v264 : Ref sig .tc := ⟨.hbm, 278, rfl⟩
abbrev main_v265 : Ref sig .tc := ⟨.hbm, 279, rfl⟩
abbrev main_v266 : Ref sig .tc := ⟨.hbm, 280, rfl⟩
abbrev main_v267 : Ref sig .tc := ⟨.hbm, 281, rfl⟩
abbrev main_v268 : Ref sig .tc := ⟨.hbm, 282, rfl⟩
abbrev main_v269 : Ref sig .tc := ⟨.hbm, 283, rfl⟩
abbrev main_v270 : Ref sig .tc := ⟨.hbm, 284, rfl⟩
abbrev main_v271 : Ref sig .tc := ⟨.hbm, 285, rfl⟩
abbrev main_v272 : Ref sig .tc := ⟨.hbm, 286, rfl⟩
abbrev main_v273 : Ref sig .tc := ⟨.hbm, 287, rfl⟩
abbrev main_v274 : Ref sig .tc := ⟨.hbm, 288, rfl⟩
abbrev main_v275 : Ref sig .tc := ⟨.hbm, 289, rfl⟩
abbrev main_v276 : Ref sig .tc := ⟨.hbm, 290, rfl⟩
abbrev main_v277 : Ref sig .tc := ⟨.hbm, 291, rfl⟩
abbrev main_v278 : Ref sig .tc := ⟨.hbm, 292, rfl⟩
abbrev main_v279 : Ref sig .tc := ⟨.hbm, 293, rfl⟩
abbrev main_v280 : Ref sig .tc := ⟨.hbm, 294, rfl⟩
abbrev main_v281 : Ref sig .tc := ⟨.hbm, 295, rfl⟩
abbrev main_v282 : Ref sig .tc := ⟨.hbm, 296, rfl⟩
abbrev main_v283 : Ref sig .tc := ⟨.hbm, 297, rfl⟩
abbrev main_v284 : Ref sig .tc := ⟨.hbm, 298, rfl⟩
abbrev main_v285 : Ref sig .tc := ⟨.hbm, 299, rfl⟩
abbrev main_v286 : Ref sig .tc := ⟨.hbm, 300, rfl⟩
abbrev main_v287 : Ref sig .tc := ⟨.hbm, 301, rfl⟩
abbrev main_v288 : Ref sig .tc := ⟨.hbm, 302, rfl⟩
abbrev main_v289 : Ref sig .tc := ⟨.hbm, 303, rfl⟩
abbrev main_v290 : Ref sig .tc := ⟨.hbm, 304, rfl⟩
abbrev main_v291 : Ref sig .tc := ⟨.hbm, 305, rfl⟩
abbrev main_v292 : Ref sig .tc := ⟨.hbm, 306, rfl⟩
abbrev main_v293 : Ref sig .tc := ⟨.hbm, 307, rfl⟩
abbrev main_v294 : Ref sig .tc := ⟨.hbm, 308, rfl⟩
abbrev main_v295 : Ref sig .tc := ⟨.hbm, 309, rfl⟩
abbrev main_v296 : Ref sig .tc := ⟨.hbm, 310, rfl⟩
abbrev main_v297 : Ref sig .tc := ⟨.hbm, 311, rfl⟩
abbrev main_v298 : Ref sig .tc := ⟨.hbm, 312, rfl⟩
abbrev main_v299 : Ref sig .tc := ⟨.hbm, 313, rfl⟩
abbrev main_v300 : Ref sig .tc := ⟨.hbm, 314, rfl⟩
abbrev main_v301 : Ref sig .tc := ⟨.hbm, 315, rfl⟩
abbrev main_v302 : Ref sig .tc := ⟨.hbm, 316, rfl⟩
abbrev main_v303 : Ref sig .tc := ⟨.hbm, 317, rfl⟩
abbrev main_v304 : Ref sig .tc := ⟨.hbm, 318, rfl⟩
abbrev main_v305 : Ref sig .tc := ⟨.hbm, 319, rfl⟩
abbrev main_v306 : Ref sig .tc := ⟨.hbm, 320, rfl⟩
abbrev main_v307 : Ref sig .tc := ⟨.hbm, 321, rfl⟩
abbrev main_v308 : Ref sig .tc := ⟨.hbm, 322, rfl⟩
abbrev main_v309 : Ref sig .tc := ⟨.hbm, 323, rfl⟩
abbrev main_v310 : Ref sig .tc := ⟨.hbm, 324, rfl⟩
abbrev main_v311 : Ref sig .tc := ⟨.hbm, 325, rfl⟩
abbrev main_v312 : Ref sig .tc := ⟨.hbm, 326, rfl⟩
abbrev main_v313 : Ref sig .tc := ⟨.hbm, 327, rfl⟩
abbrev main_v314 : Ref sig .tc := ⟨.hbm, 328, rfl⟩
abbrev main_v315 : Ref sig .tc := ⟨.hbm, 329, rfl⟩
abbrev main_v316 : Ref sig .tc := ⟨.hbm, 330, rfl⟩
abbrev main_v317 : Ref sig .tc := ⟨.hbm, 331, rfl⟩
abbrev main_v318 : Ref sig .tc := ⟨.hbm, 332, rfl⟩
abbrev main_v319 : Ref sig .tc := ⟨.hbm, 333, rfl⟩
abbrev main_v320 : Ref sig .tc := ⟨.hbm, 334, rfl⟩
abbrev main_v321 : Ref sig .tc := ⟨.hbm, 335, rfl⟩
abbrev main_v322 : Ref sig .tc := ⟨.hbm, 336, rfl⟩
abbrev main_v323 : Ref sig .tc := ⟨.hbm, 337, rfl⟩
abbrev main_v324 : Ref sig .tc := ⟨.hbm, 338, rfl⟩
abbrev main_v325 : Ref sig .tc := ⟨.hbm, 339, rfl⟩
abbrev main_v326 : Ref sig .tc := ⟨.hbm, 340, rfl⟩
abbrev main_v327 : Ref sig .tc := ⟨.hbm, 341, rfl⟩
abbrev main_v328 : Ref sig .tc := ⟨.hbm, 342, rfl⟩
abbrev main_v329 : Ref sig .tc := ⟨.hbm, 343, rfl⟩
abbrev main_v330 : Ref sig .tc := ⟨.hbm, 344, rfl⟩
abbrev main_v331 : Ref sig .tc := ⟨.hbm, 345, rfl⟩
abbrev main_v332 : Ref sig .tc := ⟨.hbm, 346, rfl⟩
abbrev main_v333 : Ref sig .tc := ⟨.hbm, 347, rfl⟩
abbrev main_v334 : Ref sig .tc := ⟨.hbm, 348, rfl⟩
abbrev main_v335 : Ref sig .tc := ⟨.hbm, 349, rfl⟩
abbrev main_v336 : Ref sig .tc := ⟨.hbm, 350, rfl⟩
abbrev main_v337 : Ref sig .tc := ⟨.hbm, 351, rfl⟩
abbrev main_v338 : Ref sig .tc := ⟨.hbm, 352, rfl⟩
abbrev main_v339 : Ref sig .tc := ⟨.hbm, 353, rfl⟩
abbrev main_v340 : Ref sig .tc := ⟨.hbm, 354, rfl⟩
abbrev main_v341 : Ref sig .tc := ⟨.hbm, 355, rfl⟩
abbrev main_v342 : Ref sig .tc := ⟨.hbm, 356, rfl⟩
abbrev main_v343 : Ref sig .tc := ⟨.hbm, 357, rfl⟩
abbrev main_v344 : Ref sig .tc := ⟨.hbm, 358, rfl⟩
abbrev main_v345 : Ref sig .tc := ⟨.hbm, 359, rfl⟩
abbrev main_v346 : Ref sig .tc := ⟨.hbm, 360, rfl⟩
abbrev main_v347 : Ref sig .tc := ⟨.hbm, 361, rfl⟩
abbrev main_v348 : Ref sig .tc := ⟨.hbm, 362, rfl⟩
abbrev main_v349 : Ref sig .tc := ⟨.hbm, 363, rfl⟩
abbrev main_v350 : Ref sig .tc := ⟨.hbm, 364, rfl⟩
abbrev main_v351 : Ref sig .tc := ⟨.hbm, 365, rfl⟩
abbrev main_v352 : Ref sig .tc := ⟨.hbm, 366, rfl⟩
abbrev main_v353 : Ref sig .tc := ⟨.hbm, 367, rfl⟩
abbrev main_v354 : Ref sig .tc := ⟨.hbm, 368, rfl⟩
abbrev main_v355 : Ref sig .tc := ⟨.hbm, 369, rfl⟩
abbrev main_v356 : Ref sig .tc := ⟨.hbm, 370, rfl⟩
abbrev main_v357 : Ref sig .tc := ⟨.hbm, 371, rfl⟩
abbrev main_v358 : Ref sig .tc := ⟨.hbm, 372, rfl⟩
abbrev main_v359 : Ref sig .tc := ⟨.hbm, 373, rfl⟩
abbrev main_v360 : Ref sig .tc := ⟨.hbm, 374, rfl⟩
abbrev main_v361 : Ref sig .tc := ⟨.hbm, 375, rfl⟩
abbrev main_v362 : Ref sig .tc := ⟨.hbm, 376, rfl⟩
abbrev main_v363 : Ref sig .tc := ⟨.hbm, 377, rfl⟩
abbrev main_v364 : Ref sig .tc := ⟨.hbm, 378, rfl⟩
abbrev main_v365 : Ref sig .tc := ⟨.hbm, 379, rfl⟩
abbrev main_v366 : Ref sig .tc := ⟨.hbm, 380, rfl⟩
abbrev main_v367 : Ref sig .tc := ⟨.hbm, 381, rfl⟩
abbrev main_v368 : Ref sig .tc := ⟨.hbm, 382, rfl⟩
abbrev main_v369 : Ref sig .tc := ⟨.hbm, 383, rfl⟩
abbrev main_v370 : Ref sig .tc := ⟨.hbm, 384, rfl⟩
abbrev main_v371 : Ref sig .tc := ⟨.hbm, 385, rfl⟩
abbrev main_v372 : Ref sig .tc := ⟨.hbm, 386, rfl⟩
abbrev main_v373 : Ref sig .tc := ⟨.hbm, 387, rfl⟩
abbrev main_v374 : Ref sig .tc := ⟨.hbm, 388, rfl⟩
abbrev main_v375 : Ref sig .tc := ⟨.hbm, 389, rfl⟩
abbrev main_v376 : Ref sig .tc := ⟨.hbm, 390, rfl⟩
abbrev main_v377 : Ref sig .tc := ⟨.hbm, 391, rfl⟩
abbrev main_v378 : Ref sig .tc := ⟨.hbm, 392, rfl⟩
abbrev main_v379 : Ref sig .tc := ⟨.hbm, 393, rfl⟩
abbrev main_v380 : Ref sig .tc := ⟨.hbm, 394, rfl⟩
abbrev main_v381 : Ref sig .tc := ⟨.hbm, 395, rfl⟩
abbrev main_v382 : Ref sig .tc := ⟨.hbm, 396, rfl⟩
abbrev main_v383 : Ref sig .tc := ⟨.hbm, 397, rfl⟩
abbrev main_v384 : Ref sig .tc := ⟨.hbm, 398, rfl⟩
abbrev main_v385 : Ref sig .tc := ⟨.hbm, 399, rfl⟩
abbrev main_v386 : Ref sig .tc := ⟨.hbm, 400, rfl⟩
abbrev main_v387 : Ref sig .tc := ⟨.hbm, 401, rfl⟩
abbrev main_v388 : Ref sig .tc := ⟨.hbm, 402, rfl⟩
abbrev main_v389 : Ref sig .tc := ⟨.hbm, 403, rfl⟩
abbrev main_v390 : Ref sig .tc := ⟨.hbm, 404, rfl⟩
abbrev main_v391 : Ref sig .tc := ⟨.hbm, 405, rfl⟩
abbrev main_v392 : Ref sig .tc := ⟨.hbm, 406, rfl⟩
abbrev main_v393 : Ref sig .tc := ⟨.hbm, 407, rfl⟩
abbrev main_v394 : Ref sig .tc := ⟨.hbm, 408, rfl⟩
abbrev main_v395 : Ref sig .tc := ⟨.hbm, 409, rfl⟩
abbrev main_v396 : Ref sig .tc := ⟨.hbm, 410, rfl⟩
abbrev main_v397 : Ref sig .tc := ⟨.hbm, 411, rfl⟩
abbrev main_v398 : Ref sig .tc := ⟨.hbm, 412, rfl⟩
abbrev main_v399 : Ref sig .tc := ⟨.hbm, 413, rfl⟩
abbrev main_v400 : Ref sig .tc := ⟨.hbm, 414, rfl⟩
abbrev main_v401 : Ref sig .tc := ⟨.hbm, 415, rfl⟩
abbrev main_v402 : Ref sig .tc := ⟨.hbm, 416, rfl⟩
abbrev main_v403 : Ref sig .tc := ⟨.hbm, 417, rfl⟩
abbrev main_v404 : Ref sig .tc := ⟨.hbm, 418, rfl⟩
abbrev main_v405 : Ref sig .tc := ⟨.hbm, 419, rfl⟩
abbrev main_v406 : Ref sig .tc := ⟨.hbm, 420, rfl⟩
abbrev main_v407 : Ref sig .tc := ⟨.hbm, 421, rfl⟩
abbrev main_v408 : Ref sig .tc := ⟨.hbm, 422, rfl⟩
abbrev main_v409 : Ref sig .tc := ⟨.hbm, 423, rfl⟩
abbrev main_v410 : Ref sig .tc := ⟨.hbm, 424, rfl⟩
abbrev main_v411 : Ref sig .tc := ⟨.hbm, 425, rfl⟩
abbrev main_v412 : Ref sig .tc := ⟨.hbm, 426, rfl⟩
abbrev main_v413 : Ref sig .tc := ⟨.hbm, 427, rfl⟩
abbrev main_v414 : Ref sig .tc := ⟨.hbm, 428, rfl⟩
abbrev main_v415 : Ref sig .tc := ⟨.hbm, 429, rfl⟩
abbrev main_v416 : Ref sig .tc := ⟨.hbm, 430, rfl⟩
abbrev main_v417 : Ref sig .tc := ⟨.hbm, 431, rfl⟩
abbrev main_v418 : Ref sig .tc := ⟨.hbm, 432, rfl⟩
abbrev main_v419 : Ref sig .tc := ⟨.hbm, 433, rfl⟩
abbrev main_v420 : Ref sig .tc := ⟨.hbm, 434, rfl⟩
abbrev main_v421 : Ref sig .tc := ⟨.hbm, 435, rfl⟩
abbrev main_v422 : Ref sig .tc := ⟨.hbm, 436, rfl⟩
abbrev main_v423 : Ref sig .tc := ⟨.hbm, 437, rfl⟩
abbrev main_v424 : Ref sig .tc := ⟨.hbm, 438, rfl⟩
abbrev main_v425 : Ref sig .tc := ⟨.hbm, 439, rfl⟩
abbrev main_v426 : Ref sig .tc := ⟨.hbm, 440, rfl⟩
abbrev main_v427 : Ref sig .tc := ⟨.hbm, 441, rfl⟩
abbrev main_v428 : Ref sig .tc := ⟨.hbm, 442, rfl⟩
abbrev main_v429 : Ref sig .tc := ⟨.hbm, 443, rfl⟩
abbrev main_v430 : Ref sig .tc := ⟨.hbm, 444, rfl⟩
abbrev main_v431 : Ref sig .tc := ⟨.hbm, 445, rfl⟩
abbrev main_v432 : Ref sig .tc := ⟨.hbm, 446, rfl⟩
abbrev main_v433 : Ref sig .tc := ⟨.hbm, 447, rfl⟩
abbrev main_v434 : Ref sig .tc := ⟨.hbm, 448, rfl⟩
abbrev main_v435 : Ref sig .tc := ⟨.hbm, 449, rfl⟩
abbrev main_v436 : Ref sig .tc := ⟨.hbm, 450, rfl⟩
abbrev main_v437 : Ref sig .tc := ⟨.hbm, 451, rfl⟩
abbrev main_v438 : Ref sig .tc := ⟨.hbm, 452, rfl⟩
abbrev main_v439 : Ref sig .tc := ⟨.hbm, 453, rfl⟩
abbrev main_v440 : Ref sig .tc := ⟨.hbm, 454, rfl⟩
abbrev main_v441 : Ref sig .tc := ⟨.hbm, 455, rfl⟩
abbrev main_v442 : Ref sig .tc := ⟨.hbm, 456, rfl⟩
abbrev main_v443 : Ref sig .tc := ⟨.hbm, 457, rfl⟩
abbrev main_v444 : Ref sig .tc := ⟨.hbm, 458, rfl⟩
abbrev main_v445 : Ref sig .tc := ⟨.hbm, 459, rfl⟩
abbrev main_v446 : Ref sig .tc := ⟨.hbm, 460, rfl⟩
abbrev main_v447 : Ref sig .tc := ⟨.hbm, 461, rfl⟩
abbrev main_v448 : Ref sig .tc := ⟨.hbm, 462, rfl⟩
abbrev main_v449 : Ref sig .tc := ⟨.hbm, 463, rfl⟩
abbrev main_v450 : Ref sig .tc := ⟨.hbm, 464, rfl⟩
abbrev main_v451 : Ref sig .tc := ⟨.hbm, 465, rfl⟩
abbrev main_v452 : Ref sig .tc := ⟨.hbm, 466, rfl⟩
abbrev main_v453 : Ref sig .tc := ⟨.hbm, 467, rfl⟩
abbrev main_v454 : Ref sig .tc := ⟨.hbm, 468, rfl⟩
abbrev main_v455 : Ref sig .tc := ⟨.hbm, 469, rfl⟩
abbrev main_v456 : Ref sig .tc := ⟨.hbm, 470, rfl⟩
abbrev main_v457 : Ref sig .tc := ⟨.hbm, 471, rfl⟩
abbrev main_v458 : Ref sig .tc := ⟨.hbm, 472, rfl⟩
abbrev main_v459 : Ref sig .tc := ⟨.hbm, 473, rfl⟩
abbrev main_v460 : Ref sig .tc := ⟨.hbm, 474, rfl⟩
abbrev main_v461 : Ref sig .tc := ⟨.hbm, 475, rfl⟩
abbrev main_v462 : Ref sig .tc := ⟨.hbm, 476, rfl⟩
abbrev main_v463 : Ref sig .tc := ⟨.hbm, 477, rfl⟩
abbrev main_v464 : Ref sig .tc := ⟨.hbm, 478, rfl⟩
abbrev main_v465 : Ref sig .tc := ⟨.hbm, 479, rfl⟩
abbrev main_v466 : Ref sig .tc := ⟨.hbm, 480, rfl⟩
abbrev main_v467 : Ref sig .tc := ⟨.hbm, 481, rfl⟩
abbrev main_v468 : Ref sig .tc := ⟨.hbm, 482, rfl⟩
abbrev main_v469 : Ref sig .tc := ⟨.hbm, 483, rfl⟩
abbrev main_v470 : Ref sig .tc := ⟨.hbm, 484, rfl⟩
abbrev main_v471 : Ref sig .tc := ⟨.hbm, 485, rfl⟩
abbrev main_v472 : Ref sig .tc := ⟨.hbm, 486, rfl⟩
abbrev main_v473 : Ref sig .tc := ⟨.hbm, 487, rfl⟩
abbrev main_v474 : Ref sig .tc := ⟨.hbm, 488, rfl⟩
abbrev main_v475 : Ref sig .tc := ⟨.hbm, 489, rfl⟩
abbrev main_v476 : Ref sig .tc := ⟨.hbm, 490, rfl⟩
abbrev main_v477 : Ref sig .tc := ⟨.hbm, 491, rfl⟩
abbrev main_v478 : Ref sig .tc := ⟨.hbm, 492, rfl⟩
abbrev main_v479 : Ref sig .tc := ⟨.hbm, 493, rfl⟩
abbrev main_v480 : Ref sig .tc := ⟨.hbm, 494, rfl⟩
abbrev main_v481 : Ref sig .tc := ⟨.hbm, 495, rfl⟩
abbrev main_v482 : Ref sig .tc := ⟨.hbm, 496, rfl⟩
abbrev main_v483 : Ref sig .tc := ⟨.hbm, 497, rfl⟩
abbrev main_v484 : Ref sig .tc := ⟨.hbm, 498, rfl⟩
abbrev main_v485 : Ref sig .tc := ⟨.hbm, 499, rfl⟩
abbrev main_v486 : Ref sig .tc := ⟨.hbm, 500, rfl⟩
abbrev main_v487 : Ref sig .tc := ⟨.hbm, 501, rfl⟩
abbrev main_v488 : Ref sig .tc := ⟨.hbm, 502, rfl⟩
abbrev main_v489 : Ref sig .tc := ⟨.hbm, 503, rfl⟩
abbrev main_v490 : Ref sig .tc := ⟨.hbm, 504, rfl⟩
abbrev main_v491 : Ref sig .tc := ⟨.hbm, 505, rfl⟩
abbrev main_v492 : Ref sig .tc := ⟨.hbm, 506, rfl⟩
abbrev main_v493 : Ref sig .tc := ⟨.hbm, 507, rfl⟩
abbrev main_v494 : Ref sig .tc := ⟨.hbm, 508, rfl⟩
abbrev main_v495 : Ref sig .tc := ⟨.hbm, 509, rfl⟩
abbrev main_v496 : Ref sig .tc := ⟨.hbm, 510, rfl⟩
abbrev main_v497 : Ref sig .tc := ⟨.hbm, 511, rfl⟩
abbrev main_v498 : Ref sig .tc := ⟨.hbm, 512, rfl⟩
abbrev main_v499 : Ref sig .tc := ⟨.hbm, 513, rfl⟩
abbrev main_v500 : Ref sig .tc := ⟨.hbm, 514, rfl⟩
abbrev main_v501 : Ref sig .tc := ⟨.hbm, 515, rfl⟩
abbrev main_v502 : Ref sig .tc := ⟨.hbm, 516, rfl⟩
abbrev main_v503 : Ref sig .tc := ⟨.hbm, 517, rfl⟩
abbrev main_v504 : Ref sig .tc := ⟨.hbm, 518, rfl⟩
abbrev main_v505 : Ref sig .tc := ⟨.hbm, 519, rfl⟩
abbrev main_v506 : Ref sig .tc := ⟨.hbm, 520, rfl⟩
abbrev main_v507 : Ref sig .tc := ⟨.hbm, 521, rfl⟩
abbrev main_v508 : Ref sig .tc := ⟨.hbm, 522, rfl⟩
abbrev main_v509 : Ref sig .tc := ⟨.hbm, 523, rfl⟩
abbrev main_v510 : Ref sig .tc := ⟨.hbm, 524, rfl⟩
abbrev main_v511 : Ref sig .tc := ⟨.hbm, 525, rfl⟩
abbrev main_v512 : Ref sig .tc := ⟨.hbm, 526, rfl⟩
abbrev main_v513 : Ref sig .tc := ⟨.hbm, 527, rfl⟩
abbrev main_v514 : Ref sig .tc := ⟨.hbm, 528, rfl⟩
abbrev main_v515 : Ref sig .tc := ⟨.hbm, 529, rfl⟩
abbrev main_v516 : Ref sig .tc := ⟨.hbm, 530, rfl⟩
abbrev main_v517 : Ref sig .tc := ⟨.hbm, 531, rfl⟩
abbrev main_v518 : Ref sig .tc := ⟨.hbm, 532, rfl⟩
abbrev main_v519 : Ref sig .tc := ⟨.hbm, 533, rfl⟩
abbrev main_v520 : Ref sig .tc := ⟨.hbm, 534, rfl⟩
abbrev main_v521 : Ref sig .tc := ⟨.hbm, 535, rfl⟩
abbrev main_v522 : Ref sig .tc := ⟨.hbm, 536, rfl⟩
abbrev main_v523 : Ref sig .tc := ⟨.hbm, 537, rfl⟩
abbrev main_v524 : Ref sig .tc := ⟨.hbm, 538, rfl⟩
abbrev main_v525 : Ref sig .tc := ⟨.hbm, 539, rfl⟩
abbrev main_v526 : Ref sig .tc := ⟨.hbm, 540, rfl⟩
abbrev main_v527 : Ref sig .tc := ⟨.hbm, 541, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x113x113x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x12x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x64x192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x192x48 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x48 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x3136x48 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8x3x224x224 : Shape := ⟨4, ![8, 3, 224, 224]⟩
abbrev S192x3x4x4 : Shape := ⟨4, ![192, 3, 4, 4]⟩
abbrev S192 : Shape := ⟨1, ![192]⟩
abbrev S64x192x4x4 : Shape := ⟨4, ![64, 192, 4, 4]⟩
abbrev S64 : Shape := ⟨1, ![64]⟩
abbrev S512x64 : Shape := ⟨2, ![512, 64]⟩
abbrev S192x64x4x4 : Shape := ⟨4, ![192, 64, 4, 4]⟩
abbrev S3x192x4x4 : Shape := ⟨4, ![3, 192, 4, 4]⟩
abbrev S3 : Shape := ⟨1, ![3]⟩
abbrev S_ : Shape := ⟨0, ![]⟩
abbrev S8x3x226x226 : Shape := ⟨4, ![8, 3, 226, 226]⟩
abbrev S8x3x112x112 : Shape := ⟨4, ![8, 3, 112, 112]⟩
abbrev S192x3x1x1 : Shape := ⟨4, ![192, 3, 1, 1]⟩
abbrev S192x3 : Shape := ⟨2, ![192, 3]⟩
abbrev S192x8x112x112 : Shape := ⟨4, ![192, 8, 112, 112]⟩
abbrev S8x192x112x112 : Shape := ⟨4, ![8, 192, 112, 112]⟩
abbrev S1x192x1x1 : Shape := ⟨4, ![1, 192, 1, 1]⟩
abbrev S8x192x114x114 : Shape := ⟨4, ![8, 192, 114, 114]⟩
abbrev S8x192x56x56 : Shape := ⟨4, ![8, 192, 56, 56]⟩
abbrev S64x192x1x1 : Shape := ⟨4, ![64, 192, 1, 1]⟩
abbrev S64x192 : Shape := ⟨2, ![64, 192]⟩
abbrev S64x8x56x56 : Shape := ⟨4, ![64, 8, 56, 56]⟩
abbrev S8x64x56x56 : Shape := ⟨4, ![8, 64, 56, 56]⟩
abbrev S1x64x1x1 : Shape := ⟨4, ![1, 64, 1, 1]⟩
abbrev S8x56x56x64 : Shape := ⟨4, ![8, 56, 56, 64]⟩
abbrev S25088x64 : Shape := ⟨2, ![25088, 64]⟩
abbrev S25088 : Shape := ⟨1, ![25088]⟩
abbrev S25088x1 : Shape := ⟨2, ![25088, 1]⟩
abbrev S64x512 : Shape := ⟨2, ![64, 512]⟩
abbrev S25088x512 : Shape := ⟨2, ![25088, 512]⟩
abbrev S512 : Shape := ⟨1, ![512]⟩
abbrev S1x512 : Shape := ⟨2, ![1, 512]⟩
abbrev S8x64x115x115 : Shape := ⟨4, ![8, 64, 115, 115]⟩
abbrev S8x64x112x112 : Shape := ⟨4, ![8, 64, 112, 112]⟩
abbrev S192x64x1x1 : Shape := ⟨4, ![192, 64, 1, 1]⟩
abbrev S192x64 : Shape := ⟨2, ![192, 64]⟩
abbrev S8x192x227x227 : Shape := ⟨4, ![8, 192, 227, 227]⟩
abbrev S8x192x224x224 : Shape := ⟨4, ![8, 192, 224, 224]⟩
abbrev S3x192x1x1 : Shape := ⟨4, ![3, 192, 1, 1]⟩
abbrev S3x192 : Shape := ⟨2, ![3, 192]⟩
abbrev S3x8x224x224 : Shape := ⟨4, ![3, 8, 224, 224]⟩
abbrev S1x3x1x1 : Shape := ⟨4, ![1, 3, 1, 1]⟩

abbrev nBuf : Space → Nat
  | .hbm => 455
  | .vmem => 0
  | .smem => 0
  | _ => 0

abbrev hbmTy0_0 (i : Nat) : BufTy := match i % 128 with
  | 0 => ⟨S8x3x224x224, .f32⟩
  | 1 => ⟨S192x3x4x4, .f32⟩
  | 2 => ⟨S192, .f32⟩
  | 3 => ⟨S64x192x4x4, .f32⟩
  | 4 => ⟨S64, .f32⟩
  | 5 => ⟨S512x64, .f32⟩
  | 6 => ⟨S192x64x4x4, .f32⟩
  | 7 => ⟨S192, .f32⟩
  | 8 => ⟨S3x192x4x4, .f32⟩
  | 9 => ⟨S3, .f32⟩
  | 10 => ⟨S_, .i32⟩
  | 11 => ⟨S_, .f32⟩
  | 12 => ⟨S8x3x226x226, .f32⟩
  | 13 => ⟨S8x3x112x112, .f32⟩
  | 14 => ⟨S192x3x1x1, .f32⟩
  | 15 => ⟨S192x3, .f32⟩
  | 16 => ⟨S192x8x112x112, .f32⟩
  | 17 => ⟨S8x192x112x112, .f32⟩
  | 18 => ⟨S8x3x112x112, .f32⟩
  | 19 => ⟨S192x3x1x1, .f32⟩
  | 20 => ⟨S192x3, .f32⟩
  | 21 => ⟨S192x8x112x112, .f32⟩
  | 22 => ⟨S8x192x112x112, .f32⟩
  | 23 => ⟨S8x192x112x112, .f32⟩
  | 24 => ⟨S8x3x112x112, .f32⟩
  | 25 => ⟨S192x3x1x1, .f32⟩
  | 26 => ⟨S192x3, .f32⟩
  | 27 => ⟨S192x8x112x112, .f32⟩
  | 28 => ⟨S8x192x112x112, .f32⟩
  | 29 => ⟨S8x192x112x112, .f32⟩
  | 30 => ⟨S8x3x112x112, .f32⟩
  | 31 => ⟨S192x3x1x1, .f32⟩
  | 32 => ⟨S192x3, .f32⟩
  | 33 => ⟨S192x8x112x112, .f32⟩
  | 34 => ⟨S8x192x112x112, .f32⟩
  | 35 => ⟨S8x192x112x112, .f32⟩
  | 36 => ⟨S8x3x112x112, .f32⟩
  | 37 => ⟨S192x3x1x1, .f32⟩
  | 38 => ⟨S192x3, .f32⟩
  | 39 => ⟨S192x8x112x112, .f32⟩
  | 40 => ⟨S8x192x112x112, .f32⟩
  | 41 => ⟨S8x192x112x112, .f32⟩
  | 42 => ⟨S8x3x112x112, .f32⟩
  | 43 => ⟨S192x3x1x1, .f32⟩
  | 44 => ⟨S192x3, .f32⟩
  | 45 => ⟨S192x8x112x112, .f32⟩
  | 46 => ⟨S8x192x112x112, .f32⟩
  | 47 => ⟨S8x192x112x112, .f32⟩
  | 48 => ⟨S8x3x112x112, .f32⟩
  | 49 => ⟨S192x3x1x1, .f32⟩
  | 50 => ⟨S192x3, .f32⟩
  | 51 => ⟨S192x8x112x112, .f32⟩
  | 52 => ⟨S8x192x112x112, .f32⟩
  | 53 => ⟨S8x192x112x112, .f32⟩
  | 54 => ⟨S8x3x112x112, .f32⟩
  | 55 => ⟨S192x3x1x1, .f32⟩
  | 56 => ⟨S192x3, .f32⟩
  | 57 => ⟨S192x8x112x112, .f32⟩
  | 58 => ⟨S8x192x112x112, .f32⟩
  | 59 => ⟨S8x192x112x112, .f32⟩
  | 60 => ⟨S8x3x112x112, .f32⟩
  | 61 => ⟨S192x3x1x1, .f32⟩
  | 62 => ⟨S192x3, .f32⟩
  | 63 => ⟨S192x8x112x112, .f32⟩
  | 64 => ⟨S8x192x112x112, .f32⟩
  | 65 => ⟨S8x192x112x112, .f32⟩
  | 66 => ⟨S8x3x112x112, .f32⟩
  | 67 => ⟨S192x3x1x1, .f32⟩
  | 68 => ⟨S192x3, .f32⟩
  | 69 => ⟨S192x8x112x112, .f32⟩
  | 70 => ⟨S8x192x112x112, .f32⟩
  | 71 => ⟨S8x192x112x112, .f32⟩
  | 72 => ⟨S8x3x112x112, .f32⟩
  | 73 => ⟨S192x3x1x1, .f32⟩
  | 74 => ⟨S192x3, .f32⟩
  | 75 => ⟨S192x8x112x112, .f32⟩
  | 76 => ⟨S8x192x112x112, .f32⟩
  | 77 => ⟨S8x192x112x112, .f32⟩
  | 78 => ⟨S8x3x112x112, .f32⟩
  | 79 => ⟨S192x3x1x1, .f32⟩
  | 80 => ⟨S192x3, .f32⟩
  | 81 => ⟨S192x8x112x112, .f32⟩
  | 82 => ⟨S8x192x112x112, .f32⟩
  | 83 => ⟨S8x192x112x112, .f32⟩
  | 84 => ⟨S8x3x112x112, .f32⟩
  | 85 => ⟨S192x3x1x1, .f32⟩
  | 86 => ⟨S192x3, .f32⟩
  | 87 => ⟨S192x8x112x112, .f32⟩
  | 88 => ⟨S8x192x112x112, .f32⟩
  | 89 => ⟨S8x192x112x112, .f32⟩
  | 90 => ⟨S8x3x112x112, .f32⟩
  | 91 => ⟨S192x3x1x1, .f32⟩
  | 92 => ⟨S192x3, .f32⟩
  | 93 => ⟨S192x8x112x112, .f32⟩
  | 94 => ⟨S8x192x112x112, .f32⟩
  | 95 => ⟨S8x192x112x112, .f32⟩
  | 96 => ⟨S8x3x112x112, .f32⟩
  | 97 => ⟨S192x3x1x1, .f32⟩
  | 98 => ⟨S192x3, .f32⟩
  | 99 => ⟨S192x8x112x112, .f32⟩
  | 100 => ⟨S8x192x112x112, .f32⟩
  | 101 => ⟨S8x192x112x112, .f32⟩
  | 102 => ⟨S8x3x112x112, .f32⟩
  | 103 => ⟨S192x3x1x1, .f32⟩
  | 104 => ⟨S192x3, .f32⟩
  | 105 => ⟨S192x8x112x112, .f32⟩
  | 106 => ⟨S8x192x112x112, .f32⟩
  | 107 => ⟨S8x192x112x112, .f32⟩
  | 108 => ⟨S1x192x1x1, .f32⟩
  | 109 => ⟨S8x192x112x112, .f32⟩
  | 110 => ⟨S8x192x112x112, .f32⟩
  | 111 => ⟨S_, .f32⟩
  | 112 => ⟨S8x192x112x112, .f32⟩
  | 113 => ⟨S8x192x112x112, .f32⟩
  | 114 => ⟨S_, .i32⟩
  | 115 => ⟨S_, .f32⟩
  | 116 => ⟨S8x192x114x114, .f32⟩
  | 117 => ⟨S8x192x56x56, .f32⟩
  | 118 => ⟨S64x192x1x1, .f32⟩
  | 119 => ⟨S64x192, .f32⟩
  | 120 => ⟨S64x8x56x56, .f32⟩
  | 121 => ⟨S8x64x56x56, .f32⟩
  | 122 => ⟨S8x192x56x56, .f32⟩
  | 123 => ⟨S64x192x1x1, .f32⟩
  | 124 => ⟨S64x192, .f32⟩
  | 125 => ⟨S64x8x56x56, .f32⟩
  | 126 => ⟨S8x64x56x56, .f32⟩
  | 127 => ⟨S8x64x56x56, .f32⟩
  | _ => ⟨S8x3x224x224, .f32⟩

abbrev hbmTy0_1 (i : Nat) : BufTy := match i % 128 with
  | 0 => ⟨S8x192x56x56, .f32⟩
  | 1 => ⟨S64x192x1x1, .f32⟩
  | 2 => ⟨S64x192, .f32⟩
  | 3 => ⟨S64x8x56x56, .f32⟩
  | 4 => ⟨S8x64x56x56, .f32⟩
  | 5 => ⟨S8x64x56x56, .f32⟩
  | 6 => ⟨S8x192x56x56, .f32⟩
  | 7 => ⟨S64x192x1x1, .f32⟩
  | 8 => ⟨S64x192, .f32⟩
  | 9 => ⟨S64x8x56x56, .f32⟩
  | 10 => ⟨S8x64x56x56, .f32⟩
  | 11 => ⟨S8x64x56x56, .f32⟩
  | 12 => ⟨S8x192x56x56, .f32⟩
  | 13 => ⟨S64x192x1x1, .f32⟩
  | 14 => ⟨S64x192, .f32⟩
  | 15 => ⟨S64x8x56x56, .f32⟩
  | 16 => ⟨S8x64x56x56, .f32⟩
  | 17 => ⟨S8x64x56x56, .f32⟩
  | 18 => ⟨S8x192x56x56, .f32⟩
  | 19 => ⟨S64x192x1x1, .f32⟩
  | 20 => ⟨S64x192, .f32⟩
  | 21 => ⟨S64x8x56x56, .f32⟩
  | 22 => ⟨S8x64x56x56, .f32⟩
  | 23 => ⟨S8x64x56x56, .f32⟩
  | 24 => ⟨S8x192x56x56, .f32⟩
  | 25 => ⟨S64x192x1x1, .f32⟩
  | 26 => ⟨S64x192, .f32⟩
  | 27 => ⟨S64x8x56x56, .f32⟩
  | 28 => ⟨S8x64x56x56, .f32⟩
  | 29 => ⟨S8x64x56x56, .f32⟩
  | 30 => ⟨S8x192x56x56, .f32⟩
  | 31 => ⟨S64x192x1x1, .f32⟩
  | 32 => ⟨S64x192, .f32⟩
  | 33 => ⟨S64x8x56x56, .f32⟩
  | 34 => ⟨S8x64x56x56, .f32⟩
  | 35 => ⟨S8x64x56x56, .f32⟩
  | 36 => ⟨S8x192x56x56, .f32⟩
  | 37 => ⟨S64x192x1x1, .f32⟩
  | 38 => ⟨S64x192, .f32⟩
  | 39 => ⟨S64x8x56x56, .f32⟩
  | 40 => ⟨S8x64x56x56, .f32⟩
  | 41 => ⟨S8x64x56x56, .f32⟩
  | 42 => ⟨S8x192x56x56, .f32⟩
  | 43 => ⟨S64x192x1x1, .f32⟩
  | 44 => ⟨S64x192, .f32⟩
  | 45 => ⟨S64x8x56x56, .f32⟩
  | 46 => ⟨S8x64x56x56, .f32⟩
  | 47 => ⟨S8x64x56x56, .f32⟩
  | 48 => ⟨S8x192x56x56, .f32⟩
  | 49 => ⟨S64x192x1x1, .f32⟩
  | 50 => ⟨S64x192, .f32⟩
  | 51 => ⟨S64x8x56x56, .f32⟩
  | 52 => ⟨S8x64x56x56, .f32⟩
  | 53 => ⟨S8x64x56x56, .f32⟩
  | 54 => ⟨S8x192x56x56, .f32⟩
  | 55 => ⟨S64x192x1x1, .f32⟩
  | 56 => ⟨S64x192, .f32⟩
  | 57 => ⟨S64x8x56x56, .f32⟩
  | 58 => ⟨S8x64x56x56, .f32⟩
  | 59 => ⟨S8x64x56x56, .f32⟩
  | 60 => ⟨S8x192x56x56, .f32⟩
  | 61 => ⟨S64x192x1x1, .f32⟩
  | 62 => ⟨S64x192, .f32⟩
  | 63 => ⟨S64x8x56x56, .f32⟩
  | 64 => ⟨S8x64x56x56, .f32⟩
  | 65 => ⟨S8x64x56x56, .f32⟩
  | 66 => ⟨S8x192x56x56, .f32⟩
  | 67 => ⟨S64x192x1x1, .f32⟩
  | 68 => ⟨S64x192, .f32⟩
  | 69 => ⟨S64x8x56x56, .f32⟩
  | 70 => ⟨S8x64x56x56, .f32⟩
  | 71 => ⟨S8x64x56x56, .f32⟩
  | 72 => ⟨S8x192x56x56, .f32⟩
  | 73 => ⟨S64x192x1x1, .f32⟩
  | 74 => ⟨S64x192, .f32⟩
  | 75 => ⟨S64x8x56x56, .f32⟩
  | 76 => ⟨S8x64x56x56, .f32⟩
  | 77 => ⟨S8x64x56x56, .f32⟩
  | 78 => ⟨S8x192x56x56, .f32⟩
  | 79 => ⟨S64x192x1x1, .f32⟩
  | 80 => ⟨S64x192, .f32⟩
  | 81 => ⟨S64x8x56x56, .f32⟩
  | 82 => ⟨S8x64x56x56, .f32⟩
  | 83 => ⟨S8x64x56x56, .f32⟩
  | 84 => ⟨S1x64x1x1, .f32⟩
  | 85 => ⟨S8x64x56x56, .f32⟩
  | 86 => ⟨S8x64x56x56, .f32⟩
  | 87 => ⟨S8x56x56x64, .f32⟩
  | 88 => ⟨S25088x64, .f32⟩
  | 89 => ⟨S25088x64, .f32⟩
  | 90 => ⟨S_, .f32⟩
  | 91 => ⟨S25088, .f32⟩
  | 92 => ⟨S25088x1, .f32⟩
  | 93 => ⟨S64x512, .f32⟩
  | 94 => ⟨S25088x512, .f32⟩
  | 95 => ⟨S_, .f32⟩
  | 96 => ⟨S25088x512, .f32⟩
  | 97 => ⟨S25088x512, .f32⟩
  | 98 => ⟨S25088x512, .f32⟩
  | 99 => ⟨S25088x512, .f32⟩
  | 100 => ⟨S512x64, .f32⟩
  | 101 => ⟨S_, .f32⟩
  | 102 => ⟨S512, .f32⟩
  | 103 => ⟨S1x512, .f32⟩
  | 104 => ⟨S25088x512, .f32⟩
  | 105 => ⟨S25088x512, .f32⟩
  | 106 => ⟨S_, .f32⟩
  | 107 => ⟨S25088, .f32⟩
  | 108 => ⟨S25088x1, .f32⟩
  | 109 => ⟨S25088x512, .f32⟩
  | 110 => ⟨S25088x512, .i1⟩
  | 111 => ⟨S512, .i32⟩
  | 112 => ⟨S1x512, .i32⟩
  | 113 => ⟨S_, .i32⟩
  | 114 => ⟨S_, .i32⟩
  | 115 => ⟨S25088x512, .i32⟩
  | 116 => ⟨S25088x512, .i32⟩
  | 117 => ⟨S25088x512, .i32⟩
  | 118 => ⟨S_, .i32⟩
  | 119 => ⟨S25088, .i32⟩
  | 120 => ⟨S25088x1, .i32⟩
  | 121 => ⟨S25088x64, .f32⟩
  | 122 => ⟨S8x56x56x64, .f32⟩
  | 123 => ⟨S8x64x56x56, .f32⟩
  | 124 => ⟨S_, .f32⟩
  | 125 => ⟨S8x64x115x115, .f32⟩
  | 126 => ⟨S8x64x112x112, .f32⟩
  | 127 => ⟨S192x64x1x1, .f32⟩
  | _ => ⟨S8x3x224x224, .f32⟩

abbrev hbmTy0_2 (i : Nat) : BufTy := match i % 128 with
  | 0 => ⟨S192x64, .f32⟩
  | 1 => ⟨S192x8x112x112, .f32⟩
  | 2 => ⟨S8x192x112x112, .f32⟩
  | 3 => ⟨S8x64x112x112, .f32⟩
  | 4 => ⟨S192x64x1x1, .f32⟩
  | 5 => ⟨S192x64, .f32⟩
  | 6 => ⟨S192x8x112x112, .f32⟩
  | 7 => ⟨S8x192x112x112, .f32⟩
  | 8 => ⟨S8x192x112x112, .f32⟩
  | 9 => ⟨S8x64x112x112, .f32⟩
  | 10 => ⟨S192x64x1x1, .f32⟩
  | 11 => ⟨S192x64, .f32⟩
  | 12 => ⟨S192x8x112x112, .f32⟩
  | 13 => ⟨S8x192x112x112, .f32⟩
  | 14 => ⟨S8x192x112x112, .f32⟩
  | 15 => ⟨S8x64x112x112, .f32⟩
  | 16 => ⟨S192x64x1x1, .f32⟩
  | 17 => ⟨S192x64, .f32⟩
  | 18 => ⟨S192x8x112x112, .f32⟩
  | 19 => ⟨S8x192x112x112, .f32⟩
  | 20 => ⟨S8x192x112x112, .f32⟩
  | 21 => ⟨S8x64x112x112, .f32⟩
  | 22 => ⟨S192x64x1x1, .f32⟩
  | 23 => ⟨S192x64, .f32⟩
  | 24 => ⟨S192x8x112x112, .f32⟩
  | 25 => ⟨S8x192x112x112, .f32⟩
  | 26 => ⟨S8x192x112x112, .f32⟩
  | 27 => ⟨S8x64x112x112, .f32⟩
  | 28 => ⟨S192x64x1x1, .f32⟩
  | 29 => ⟨S192x64, .f32⟩
  | 30 => ⟨S192x8x112x112, .f32⟩
  | 31 => ⟨S8x192x112x112, .f32⟩
  | 32 => ⟨S8x192x112x112, .f32⟩
  | 33 => ⟨S8x64x112x112, .f32⟩
  | 34 => ⟨S192x64x1x1, .f32⟩
  | 35 => ⟨S192x64, .f32⟩
  | 36 => ⟨S192x8x112x112, .f32⟩
  | 37 => ⟨S8x192x112x112, .f32⟩
  | 38 => ⟨S8x192x112x112, .f32⟩
  | 39 => ⟨S8x64x112x112, .f32⟩
  | 40 => ⟨S192x64x1x1, .f32⟩
  | 41 => ⟨S192x64, .f32⟩
  | 42 => ⟨S192x8x112x112, .f32⟩
  | 43 => ⟨S8x192x112x112, .f32⟩
  | 44 => ⟨S8x192x112x112, .f32⟩
  | 45 => ⟨S8x64x112x112, .f32⟩
  | 46 => ⟨S192x64x1x1, .f32⟩
  | 47 => ⟨S192x64, .f32⟩
  | 48 => ⟨S192x8x112x112, .f32⟩
  | 49 => ⟨S8x192x112x112, .f32⟩
  | 50 => ⟨S8x192x112x112, .f32⟩
  | 51 => ⟨S8x64x112x112, .f32⟩
  | 52 => ⟨S192x64x1x1, .f32⟩
  | 53 => ⟨S192x64, .f32⟩
  | 54 => ⟨S192x8x112x112, .f32⟩
  | 55 => ⟨S8x192x112x112, .f32⟩
  | 56 => ⟨S8x192x112x112, .f32⟩
  | 57 => ⟨S8x64x112x112, .f32⟩
  | 58 => ⟨S192x64x1x1, .f32⟩
  | 59 => ⟨S192x64, .f32⟩
  | 60 => ⟨S192x8x112x112, .f32⟩
  | 61 => ⟨S8x192x112x112, .f32⟩
  | 62 => ⟨S8x192x112x112, .f32⟩
  | 63 => ⟨S8x64x112x112, .f32⟩
  | 64 => ⟨S192x64x1x1, .f32⟩
  | 65 => ⟨S192x64, .f32⟩
  | 66 => ⟨S192x8x112x112, .f32⟩
  | 67 => ⟨S8x192x112x112, .f32⟩
  | 68 => ⟨S8x192x112x112, .f32⟩
  | 69 => ⟨S8x64x112x112, .f32⟩
  | 70 => ⟨S192x64x1x1, .f32⟩
  | 71 => ⟨S192x64, .f32⟩
  | 72 => ⟨S192x8x112x112, .f32⟩
  | 73 => ⟨S8x192x112x112, .f32⟩
  | 74 => ⟨S8x192x112x112, .f32⟩
  | 75 => ⟨S8x64x112x112, .f32⟩
  | 76 => ⟨S192x64x1x1, .f32⟩
  | 77 => ⟨S192x64, .f32⟩
  | 78 => ⟨S192x8x112x112, .f32⟩
  | 79 => ⟨S8x192x112x112, .f32⟩
  | 80 => ⟨S8x192x112x112, .f32⟩
  | 81 => ⟨S8x64x112x112, .f32⟩
  | 82 => ⟨S192x64x1x1, .f32⟩
  | 83 => ⟨S192x64, .f32⟩
  | 84 => ⟨S192x8x112x112, .f32⟩
  | 85 => ⟨S8x192x112x112, .f32⟩
  | 86 => ⟨S8x192x112x112, .f32⟩
  | 87 => ⟨S8x64x112x112, .f32⟩
  | 88 => ⟨S192x64x1x1, .f32⟩
  | 89 => ⟨S192x64, .f32⟩
  | 90 => ⟨S192x8x112x112, .f32⟩
  | 91 => ⟨S8x192x112x112, .f32⟩
  | 92 => ⟨S8x192x112x112, .f32⟩
  | 93 => ⟨S1x192x1x1, .f32⟩
  | 94 => ⟨S8x192x112x112, .f32⟩
  | 95 => ⟨S8x192x112x112, .f32⟩
  | 96 => ⟨S_, .f32⟩
  | 97 => ⟨S8x192x112x112, .f32⟩
  | 98 => ⟨S8x192x112x112, .f32⟩
  | 99 => ⟨S_, .f32⟩
  | 100 => ⟨S8x192x227x227, .f32⟩
  | 101 => ⟨S8x192x224x224, .f32⟩
  | 102 => ⟨S3x192x1x1, .f32⟩
  | 103 => ⟨S3x192, .f32⟩
  | 104 => ⟨S3x8x224x224, .f32⟩
  | 105 => ⟨S8x3x224x224, .f32⟩
  | 106 => ⟨S8x192x224x224, .f32⟩
  | 107 => ⟨S3x192x1x1, .f32⟩
  | 108 => ⟨S3x192, .f32⟩
  | 109 => ⟨S3x8x224x224, .f32⟩
  | 110 => ⟨S8x3x224x224, .f32⟩
  | 111 => ⟨S8x3x224x224, .f32⟩
  | 112 => ⟨S8x192x224x224, .f32⟩
  | 113 => ⟨S3x192x1x1, .f32⟩
  | 114 => ⟨S3x192, .f32⟩
  | 115 => ⟨S3x8x224x224, .f32⟩
  | 116 => ⟨S8x3x224x224, .f32⟩
  | 117 => ⟨S8x3x224x224, .f32⟩
  | 118 => ⟨S8x192x224x224, .f32⟩
  | 119 => ⟨S3x192x1x1, .f32⟩
  | 120 => ⟨S3x192, .f32⟩
  | 121 => ⟨S3x8x224x224, .f32⟩
  | 122 => ⟨S8x3x224x224, .f32⟩
  | 123 => ⟨S8x3x224x224, .f32⟩
  | 124 => ⟨S8x192x224x224, .f32⟩
  | 125 => ⟨S3x192x1x1, .f32⟩
  | 126 => ⟨S3x192, .f32⟩
  | 127 => ⟨S3x8x224x224, .f32⟩
  | _ => ⟨S8x3x224x224, .f32⟩

abbrev hbmTy0_3 (i : Nat) : BufTy := match i % 128 with
  | 0 => ⟨S8x3x224x224, .f32⟩
  | 1 => ⟨S8x3x224x224, .f32⟩
  | 2 => ⟨S8x192x224x224, .f32⟩
  | 3 => ⟨S3x192x1x1, .f32⟩
  | 4 => ⟨S3x192, .f32⟩
  | 5 => ⟨S3x8x224x224, .f32⟩
  | 6 => ⟨S8x3x224x224, .f32⟩
  | 7 => ⟨S8x3x224x224, .f32⟩
  | 8 => ⟨S8x192x224x224, .f32⟩
  | 9 => ⟨S3x192x1x1, .f32⟩
  | 10 => ⟨S3x192, .f32⟩
  | 11 => ⟨S3x8x224x224, .f32⟩
  | 12 => ⟨S8x3x224x224, .f32⟩
  | 13 => ⟨S8x3x224x224, .f32⟩
  | 14 => ⟨S8x192x224x224, .f32⟩
  | 15 => ⟨S3x192x1x1, .f32⟩
  | 16 => ⟨S3x192, .f32⟩
  | 17 => ⟨S3x8x224x224, .f32⟩
  | 18 => ⟨S8x3x224x224, .f32⟩
  | 19 => ⟨S8x3x224x224, .f32⟩
  | 20 => ⟨S8x192x224x224, .f32⟩
  | 21 => ⟨S3x192x1x1, .f32⟩
  | 22 => ⟨S3x192, .f32⟩
  | 23 => ⟨S3x8x224x224, .f32⟩
  | 24 => ⟨S8x3x224x224, .f32⟩
  | 25 => ⟨S8x3x224x224, .f32⟩
  | 26 => ⟨S8x192x224x224, .f32⟩
  | 27 => ⟨S3x192x1x1, .f32⟩
  | 28 => ⟨S3x192, .f32⟩
  | 29 => ⟨S3x8x224x224, .f32⟩
  | 30 => ⟨S8x3x224x224, .f32⟩
  | 31 => ⟨S8x3x224x224, .f32⟩
  | 32 => ⟨S8x192x224x224, .f32⟩
  | 33 => ⟨S3x192x1x1, .f32⟩
  | 34 => ⟨S3x192, .f32⟩
  | 35 => ⟨S3x8x224x224, .f32⟩
  | 36 => ⟨S8x3x224x224, .f32⟩
  | 37 => ⟨S8x3x224x224, .f32⟩
  | 38 => ⟨S8x192x224x224, .f32⟩
  | 39 => ⟨S3x192x1x1, .f32⟩
  | 40 => ⟨S3x192, .f32⟩
  | 41 => ⟨S3x8x224x224, .f32⟩
  | 42 => ⟨S8x3x224x224, .f32⟩
  | 43 => ⟨S8x3x224x224, .f32⟩
  | 44 => ⟨S8x192x224x224, .f32⟩
  | 45 => ⟨S3x192x1x1, .f32⟩
  | 46 => ⟨S3x192, .f32⟩
  | 47 => ⟨S3x8x224x224, .f32⟩
  | 48 => ⟨S8x3x224x224, .f32⟩
  | 49 => ⟨S8x3x224x224, .f32⟩
  | 50 => ⟨S8x192x224x224, .f32⟩
  | 51 => ⟨S3x192x1x1, .f32⟩
  | 52 => ⟨S3x192, .f32⟩
  | 53 => ⟨S3x8x224x224, .f32⟩
  | 54 => ⟨S8x3x224x224, .f32⟩
  | 55 => ⟨S8x3x224x224, .f32⟩
  | 56 => ⟨S8x192x224x224, .f32⟩
  | 57 => ⟨S3x192x1x1, .f32⟩
  | 58 => ⟨S3x192, .f32⟩
  | 59 => ⟨S3x8x224x224, .f32⟩
  | 60 => ⟨S8x3x224x224, .f32⟩
  | 61 => ⟨S8x3x224x224, .f32⟩
  | 62 => ⟨S8x192x224x224, .f32⟩
  | 63 => ⟨S3x192x1x1, .f32⟩
  | 64 => ⟨S3x192, .f32⟩
  | 65 => ⟨S3x8x224x224, .f32⟩
  | 66 => ⟨S8x3x224x224, .f32⟩
  | 67 => ⟨S8x3x224x224, .f32⟩
  | 68 => ⟨S1x3x1x1, .f32⟩
  | 69 => ⟨S8x3x224x224, .f32⟩
  | 70 => ⟨S8x3x224x224, .f32⟩
  | _ => ⟨S8x3x224x224, .f32⟩

abbrev hbmTy (i : Nat) : BufTy := match i / 128 with
  | 0 => hbmTy0_0 i
  | 1 => hbmTy0_1 i
  | 2 => hbmTy0_2 i
  | 3 => hbmTy0_3 i
  | _ => ⟨S8x3x224x224, .f32⟩

abbrev bufTy : (tb : Table) → Fin (tcTables nBuf tb) → BufTy
  | .hbm, ⟨i, _⟩ => hbmTy i
  | _, _ => ⟨S8x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_call1_cst : Ref sig .tc := ⟨.hbm, 111, rfl⟩
abbrev main_call1_v0 : Ref sig .tc := ⟨.hbm, 112, rfl⟩
abbrev main_v99 : Ref sig .tc := ⟨.hbm, 113, rfl⟩
abbrev main_c_0 : Ref sig .tc := ⟨.hbm, 114, rfl⟩
abbrev main_call2_v0 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_cst : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_cst_1 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_cst_2 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_cst_3 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_c_4 : Ref sig .tc := ⟨.hbm, 241, rfl⟩
abbrev main_call3_v0 : Ref sig .tc := ⟨.hbm, 242, rfl⟩
abbrev main_call3_v1 : Ref sig .tc := ⟨.hbm, 243, rfl⟩
abbrev main_call3_v2 : Ref sig .tc := ⟨.hbm, 244, rfl⟩
abbrev main_v221 : Ref sig .tc := ⟨.hbm, 245, rfl⟩
abbrev main_c_5 : Ref sig .tc := ⟨.hbm, 246, rfl⟩
abbrev main_v222 : Ref sig .tc := ⟨.hbm, 247, rfl⟩
abbrev main_call4_v0 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_cst_6 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_v250 : Ref sig .tc := ⟨.hbm, 277, rfl⟩
abbrev main_v251 : Ref sig .tc := ⟨.hbm, 278, rfl⟩
abbrev main_v252 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_v260 : Ref sig .tc := ⟨.hbm, 287, rfl⟩
abbrev main_v261 : Ref sig .tc := ⟨.hbm, 288, rfl⟩
abbrev main_v262 : Ref sig .tc := ⟨.hbm, 289, rfl⟩
abbrev main_v263 : Ref sig .tc := ⟨.hbm, 290, rfl⟩
abbrev main_v264 : Ref sig .tc := ⟨.hbm, 291, rfl⟩
abbrev main_v265 : Ref sig .tc := ⟨.hbm, 292, rfl⟩
abbrev main_v266 : Ref sig .tc := ⟨.hbm, 293, rfl⟩
abbrev main_v267 : Ref sig .tc := ⟨.hbm, 294, rfl⟩
abbrev main_v268 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_v281 : Ref sig .tc := ⟨.hbm, 308, rfl⟩
abbrev main_v282 : Ref sig .tc := ⟨.hbm, 309, rfl⟩
abbrev main_v283 : Ref sig .tc := ⟨.hbm, 310, rfl⟩
abbrev main_v284 : Ref sig .tc := ⟨.hbm, 311, rfl⟩
abbrev main_v285 : Ref sig .tc := ⟨.hbm, 312, rfl⟩
abbrev main_v286 : Ref sig .tc := ⟨.hbm, 313, rfl⟩
abbrev main_v287 : Ref sig .tc := ⟨.hbm, 314, rfl⟩
abbrev main_v288 : Ref sig .tc := ⟨.hbm, 315, rfl⟩
abbrev main_v289 : Ref sig .tc := ⟨.hbm, 316, rfl⟩
abbrev main_v290 : Ref sig .tc := ⟨.hbm, 317, rfl⟩
abbrev main_v291 : Ref sig .tc := ⟨.hbm, 318, rfl⟩
abbrev main_v292 : Ref sig .tc := ⟨.hbm, 319, rfl⟩
abbrev main_v293 : Ref sig .tc := ⟨.hbm, 320, rfl⟩
abbrev main_v294 : Ref sig .tc := ⟨.hbm, 321, rfl⟩
abbrev main_v295 : Ref sig .tc := ⟨.hbm, 322, rfl⟩
abbrev main_v296 : Ref sig .tc := ⟨.hbm, 323, rfl⟩
abbrev main_v297 : Ref sig .tc := ⟨.hbm, 324, rfl⟩
abbrev main_v298 : Ref sig .tc := ⟨.hbm, 325, rfl⟩
abbrev main_v299 : Ref sig .tc := ⟨.hbm, 326, rfl⟩
abbrev main_v300 : Ref sig .tc := ⟨.hbm, 327, rfl⟩
abbrev main_v301 : Ref sig .tc := ⟨.hbm, 328, rfl⟩
abbrev main_v302 : Ref sig .tc := ⟨.hbm, 329, rfl⟩
abbrev main_v303 : Ref sig .tc := ⟨.hbm, 330, rfl⟩
abbrev main_v304 : Ref sig .tc := ⟨.hbm, 331, rfl⟩
abbrev main_v305 : Ref sig .tc := ⟨.hbm, 332, rfl⟩
abbrev main_v306 : Ref sig .tc := ⟨.hbm, 333, rfl⟩
abbrev main_v307 : Ref sig .tc := ⟨.hbm, 334, rfl⟩
abbrev main_v308 : Ref sig .tc := ⟨.hbm, 335, rfl⟩
abbrev main_v309 : Ref sig .tc := ⟨.hbm, 336, rfl⟩
abbrev main_v310 : Ref sig .tc := ⟨.hbm, 337, rfl⟩
abbrev main_v311 : Ref sig .tc := ⟨.hbm, 338, rfl⟩
abbrev main_v312 : Ref sig .tc := ⟨.hbm, 339, rfl⟩
abbrev main_v313 : Ref sig .tc := ⟨.hbm, 340, rfl⟩
abbrev main_v314 : Ref sig .tc := ⟨.hbm, 341, rfl⟩
abbrev main_v315 : Ref sig .tc := ⟨.hbm, 342, rfl⟩
abbrev main_v316 : Ref sig .tc := ⟨.hbm, 343, rfl⟩
abbrev main_v317 : Ref sig .tc := ⟨.hbm, 344, rfl⟩
abbrev main_v318 : Ref sig .tc := ⟨.hbm, 345, rfl⟩
abbrev main_v319 : Ref sig .tc := ⟨.hbm, 346, rfl⟩
abbrev main_v320 : Ref sig .tc := ⟨.hbm, 347, rfl⟩
abbrev main_v321 : Ref sig .tc := ⟨.hbm, 348, rfl⟩
abbrev main_v322 : Ref sig .tc := ⟨.hbm, 349, rfl⟩
abbrev main_v323 : Ref sig .tc := ⟨.hbm, 350, rfl⟩
abbrev main_v324 : Ref sig .tc := ⟨.hbm, 351, rfl⟩
abbrev main_call5_cst : Ref sig .tc := ⟨.hbm, 352, rfl⟩
abbrev main_call5_v0 : Ref sig .tc := ⟨.hbm, 353, rfl⟩
abbrev main_v325 : Ref sig .tc := ⟨.hbm, 354, rfl⟩
abbrev main_cst_7 : Ref sig .tc := ⟨.hbm, 355, rfl⟩
abbrev main_v326 : Ref sig .tc := ⟨.hbm, 356, rfl⟩
abbrev main_v327 : Ref sig .tc := ⟨.hbm, 357, rfl⟩
abbrev main_v328 : Ref sig .tc := ⟨.hbm, 358, rfl⟩
abbrev main_v329 : Ref sig .tc := ⟨.hbm, 359, rfl⟩
abbrev main_v330 : Ref sig .tc := ⟨.hbm, 360, rfl⟩
abbrev main_v331 : Ref sig .tc := ⟨.hbm, 361, rfl⟩
abbrev main_v332 : Ref sig .tc := ⟨.hbm, 362, rfl⟩
abbrev main_v333 : Ref sig .tc := ⟨.hbm, 363, rfl⟩
abbrev main_v334 : Ref sig .tc := ⟨.hbm, 364, rfl⟩
abbrev main_v335 : Ref sig .tc := ⟨.hbm, 365, rfl⟩
abbrev main_v336 : Ref sig .tc := ⟨.hbm, 366, rfl⟩
abbrev main_v337 : Ref sig .tc := ⟨.hbm, 367, rfl⟩
abbrev main_v338 : Ref sig .tc := ⟨.hbm, 368, rfl⟩
abbrev main_v339 : Ref sig .tc := ⟨.hbm, 369, rfl⟩
abbrev main_v340 : Ref sig .tc := ⟨.hbm, 370, rfl⟩
abbrev main_v341 : Ref sig .tc := ⟨.hbm, 371, rfl⟩
abbrev main_v342 : Ref sig .tc := ⟨.hbm, 372, rfl⟩
abbrev main_v343 : Ref sig .tc := ⟨.hbm, 373, rfl⟩
abbrev main_v344 : Ref sig .tc := ⟨.hbm, 374, rfl⟩
abbrev main_v345 : Ref sig .tc := ⟨.hbm, 375, rfl⟩
abbrev main_v346 : Ref sig .tc := ⟨.hbm, 376, rfl⟩
abbrev main_v347 : Ref sig .tc := ⟨.hbm, 377, rfl⟩
abbrev main_v348 : Ref sig .tc := ⟨.hbm, 378, rfl⟩
abbrev main_v349 : Ref sig .tc := ⟨.hbm, 379, rfl⟩
abbrev main_v350 : Ref sig .tc := ⟨.hbm, 380, rfl⟩
abbrev main_v351 : Ref sig .tc := ⟨.hbm, 381, rfl⟩
abbrev main_v352 : Ref sig .tc := ⟨.hbm, 382, rfl⟩
abbrev main_v353 : Ref sig .tc := ⟨.hbm, 383, rfl⟩
abbrev main_v354 : Ref sig .tc := ⟨.hbm, 384, rfl⟩
abbrev main_v355 : Ref sig .tc := ⟨.hbm, 385, rfl⟩
abbrev main_v356 : Ref sig .tc := ⟨.hbm, 386, rfl⟩
abbrev main_v357 : Ref sig .tc := ⟨.hbm, 387, rfl⟩
abbrev main_v358 : Ref sig .tc := ⟨.hbm, 388, rfl⟩
abbrev main_v359 : Ref sig .tc := ⟨.hbm, 389, rfl⟩
abbrev main_v360 : Ref sig .tc := ⟨.hbm, 390, rfl⟩
abbrev main_v361 : Ref sig .tc := ⟨.hbm, 391, rfl⟩
abbrev main_v362 : Ref sig .tc := ⟨.hbm, 392, rfl⟩
abbrev main_v363 : Ref sig .tc := ⟨.hbm, 393, rfl⟩
abbrev main_v364 : Ref sig .tc := ⟨.hbm, 394, rfl⟩
abbrev main_v365 : Ref sig .tc := ⟨.hbm, 395, rfl⟩
abbrev main_v366 : Ref sig .tc := ⟨.hbm, 396, rfl⟩
abbrev main_v367 : Ref sig .tc := ⟨.hbm, 397, rfl⟩
abbrev main_v368 : Ref sig .tc := ⟨.hbm, 398, rfl⟩
abbrev main_v369 : Ref sig .tc := ⟨.hbm, 399, rfl⟩
abbrev main_v370 : Ref sig .tc := ⟨.hbm, 400, rfl⟩
abbrev main_v371 : Ref sig .tc := ⟨.hbm, 401, rfl⟩
abbrev main_v372 : Ref sig .tc := ⟨.hbm, 402, rfl⟩
abbrev main_v373 : Ref sig .tc := ⟨.hbm, 403, rfl⟩
abbrev main_v374 : Ref sig .tc := ⟨.hbm, 404, rfl⟩
abbrev main_v375 : Ref sig .tc := ⟨.hbm, 405, rfl⟩
abbrev main_v376 : Ref sig .tc := ⟨.hbm, 406, rfl⟩
abbrev main_v377 : Ref sig .tc := ⟨.hbm, 407, rfl⟩
abbrev main_v378 : Ref sig .tc := ⟨.hbm, 408, rfl⟩
abbrev main_v379 : Ref sig .tc := ⟨.hbm, 409, rfl⟩
abbrev main_v380 : Ref sig .tc := ⟨.hbm, 410, rfl⟩
abbrev main_v381 : Ref sig .tc := ⟨.hbm, 411, rfl⟩
abbrev main_v382 : Ref sig .tc := ⟨.hbm, 412, rfl⟩
abbrev main_v383 : Ref sig .tc := ⟨.hbm, 413, rfl⟩
abbrev main_v384 : Ref sig .tc := ⟨.hbm, 414, rfl⟩
abbrev main_v385 : Ref sig .tc := ⟨.hbm, 415, rfl⟩
abbrev main_v386 : Ref sig .tc := ⟨.hbm, 416, rfl⟩
abbrev main_v387 : Ref sig .tc := ⟨.hbm, 417, rfl⟩
abbrev main_v388 : Ref sig .tc := ⟨.hbm, 418, rfl⟩
abbrev main_v389 : Ref sig .tc := ⟨.hbm, 419, rfl⟩
abbrev main_v390 : Ref sig .tc := ⟨.hbm, 420, rfl⟩
abbrev main_v391 : Ref sig .tc := ⟨.hbm, 421, rfl⟩
abbrev main_v392 : Ref sig .tc := ⟨.hbm, 422, rfl⟩
abbrev main_v393 : Ref sig .tc := ⟨.hbm, 423, rfl⟩
abbrev main_v394 : Ref sig .tc := ⟨.hbm, 424, rfl⟩
abbrev main_v395 : Ref sig .tc := ⟨.hbm, 425, rfl⟩
abbrev main_v396 : Ref sig .tc := ⟨.hbm, 426, rfl⟩
abbrev main_v397 : Ref sig .tc := ⟨.hbm, 427, rfl⟩
abbrev main_v398 : Ref sig .tc := ⟨.hbm, 428, rfl⟩
abbrev main_v399 : Ref sig .tc := ⟨.hbm, 429, rfl⟩
abbrev main_v400 : Ref sig .tc := ⟨.hbm, 430, rfl⟩
abbrev main_v401 : Ref sig .tc := ⟨.hbm, 431, rfl⟩
abbrev main_v402 : Ref sig .tc := ⟨.hbm, 432, rfl⟩
abbrev main_v403 : Ref sig .tc := ⟨.hbm, 433, rfl⟩
abbrev main_v404 : Ref sig .tc := ⟨.hbm, 434, rfl⟩
abbrev main_v405 : Ref sig .tc := ⟨.hbm, 435, rfl⟩
abbrev main_v406 : Ref sig .tc := ⟨.hbm, 436, rfl⟩
abbrev main_v407 : Ref sig .tc := ⟨.hbm, 437, rfl⟩
abbrev main_v408 : Ref sig .tc := ⟨.hbm, 438, rfl⟩
abbrev main_v409 : Ref sig .tc := ⟨.hbm, 439, rfl⟩
abbrev main_v410 : Ref sig .tc := ⟨.hbm, 440, rfl⟩
abbrev main_v411 : Ref sig .tc := ⟨.hbm, 441, rfl⟩
abbrev main_v412 : Ref sig .tc := ⟨.hbm, 442, rfl⟩
abbrev main_v413 : Ref sig .tc := ⟨.hbm, 443, rfl⟩
abbrev main_v414 : Ref sig .tc := ⟨.hbm, 444, rfl⟩
abbrev main_v415 : Ref sig .tc := ⟨.hbm, 445, rfl⟩
abbrev main_v416 : Ref sig .tc := ⟨.hbm, 446, rfl⟩
abbrev main_v417 : Ref sig .tc := ⟨.hbm, 447, rfl⟩
abbrev main_v418 : Ref sig .tc := ⟨.hbm, 448, rfl⟩
abbrev main_v419 : Ref sig .tc := ⟨.hbm, 449, rfl⟩
abbrev main_v420 : Ref sig .tc := ⟨.hbm, 450, rfl⟩
abbrev main_v421 : Ref sig .tc := ⟨.hbm, 451, rfl⟩
abbrev main_v422 : Ref sig .tc := ⟨.hbm, 452, rfl⟩
abbrev main_v423 : Ref sig .tc := ⟨.hbm, 453, rfl⟩
abbrev main_v424 : Ref sig .tc := ⟨.hbm, 454, rfl⟩

abbrev nD : Nat := 1
abbrev τ : Topo := Topo.v7x

variable {F : FTy → Type} [FloatOps F]
-- ==== Proof.Rules.lean ====
/- Loads and stores of memrefs held at known contents, and runs that carry one assertion along. -/
module

public import Idealize.ShloMosaic.Lib.VecWindow
public import Idealize.ShloMosaic.Lib.Memref
public import Idealize.ShloMosaic.Lib.Tactic
public import Idealize.ShloMosaic.Rules.Step

@[expose] public section

noncomputable section

namespace Vq

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {U : Type} [URA U]

local notation "𝕄" => MT nD τ sig Unit Val ℕ U ℕ

variable {defs : Defs nD τ sig Val Λ} (𝒱 : Variants) (c : Thread nD τ) (E : Set ℕ)
variable {s : Shape} {e : EltTy}

/-- A load of a memref held at `X` reads the window of `X`. -/
theorem load_owns (m : Memref sig c.2.kind .vmem s e) {off size : Fin s.rank → ℕ} (inb : ∀ a, off a + size a ≤ s.size a)
    (hl : m.view.LoadsAt (Rect.unit off size inb).toLoadRect) (X : s.Idx → Val e)
    (Q : ((Rect.unit off size inb).shape.Idx → Val e) → sProp 𝕄) :
    iprop(owns c m fullShare X ∗ (owns c m fullShare X -∗ Q (VecWindow.window X off size inb)))
      ⊢ wp frame (wpE defs 𝒱 c none) E (Prog.lift (.load m (Rect.unit off size inb).toLoadRect hl)) Q := by
  show _ ⊢ wp frame (wpE defs 𝒱 c none) E (.op (.load m (Rect.unit off size inb).toLoadRect hl) Prog.ret) Q
  unfold owns
  iintro ⟨⟨%f, %hf, H⟩, HQ⟩
  subst hf
  iapply (wp_load (defs := defs) 𝒱 c none E (m := m) (r := (Rect.unit off size inb).toLoadRect) (hl := hl) (k := Prog.ret) (Q := Q)
    (S := m.view.set) (q := fullShare) (f := f) (View.setOn_subset_set _ _)) $$ H
  iintro H
  iapply (le_wp_ret frame (wpE defs 𝒱 c none) E _ Q)
  rw [View.readAt_unit m.view f inb rfl inb]
  iapply HQ
  iexists f
  isplitr
  · ipureintro; rfl
  · iexact H

/-- A store into a memref held at `X` leaves it at `X` with the payload put over the rectangle. -/
theorem store_owns (m : Memref sig c.2.kind .vmem s e) {off size : Fin s.rank → ℕ} (inb : ∀ a, off a + size a ≤ s.size a)
    (w : (Rect.unit off size inb).shape.Idx → Val e)
    (hx : (m.access (Rect.unit off size inb)).Stores Finset.univ) (hm : Finset.univ = Finset.univ ∨ ∀ a, (Rect.unit off size inb).stride a = 1)
    (X : s.Idx → Val e) (Q : PUnit → sProp 𝕄) :
    iprop(owns c m fullShare X ∗ (owns c m fullShare (VecWindow.put X off size w) -∗ Q ⟨⟩))
      ⊢ wp frame (wpE defs 𝒱 c none) E (Prog.lift (.store m (Rect.unit off size inb) w Finset.univ hx hm)) Q := by
  show _ ⊢ wp frame (wpE defs 𝒱 c none) E (.op (.store m (Rect.unit off size inb) w Finset.univ hx hm) Prog.ret) Q
  unfold owns
  iintro ⟨⟨%f, %hf, H⟩, HQ⟩
  subst hf
  iapply (wp_store (defs := defs) 𝒱 c none E (m := m) (r := Rect.unit off size inb) (w := w) (hx := hx) (hm := hm) (k := Prog.ret) (Q := Q)
    (S := m.view.set) (f := f) (by rw [View.setOn_univ]; exact View.set_slice_subset _ _)) $$ H
  iintro H
  iapply (le_wp_ret frame (wpE defs 𝒱 c none) E _ Q)
  iapply HQ
  iexists _
  isplitr
  rotate_left
  · iexact H
  ipureintro
  exact View.read_writes_cons_put m.view f inb w [] rfl

variable {α β : Type}

/-- The program `p` takes `R` to `R'` and returns `a`. -/
def Run (R : sProp 𝕄) (p : Prog (TpuEff nD τ sig Val Λ c.2) α) (a : α) (R' : sProp 𝕄) : Prop :=
  ∀ Q : α → sProp 𝕄, iprop(R ∗ (R' -∗ Q a)) ⊢ wp frame (wpE defs 𝒱 c none) E p Q

variable {𝒱 c E}

theorem Run.pure (R : sProp 𝕄) (a : α) : Run (defs := defs) 𝒱 c E R (Pure.pure a) a R := fun Q => by
  refine BIBase.Entails.trans ?_ (le_wp_ret frame (wpE defs 𝒱 c none) E a Q)
  iintro ⟨H, HQ⟩
  iapply HQ; iexact H

theorem Run.bind {R R' R'' : sProp 𝕄} {p : Prog (TpuEff nD τ sig Val Λ c.2) α} {k : α → Prog (TpuEff nD τ sig Val Λ c.2) β} {a : α} {b : β}
    (hp : Run (defs := defs) 𝒱 c E R p a R') (hk : Run (defs := defs) 𝒱 c E R' (k a) b R'') :
    Run (defs := defs) 𝒱 c E R (p >>= k) b R'' := fun Q => by
  rw [wp_bind]
  refine BIBase.Entails.trans ?_ (hp _)
  iintro ⟨H, HQ⟩
  isplitl [H]
  · iexact H
  iintro H
  iapply (hk Q)
  isplitl [H]
  · iexact H
  · iexact HQ

theorem Run.pos {R R' : sProp 𝕄} {P : Prop} [Decidable P] {p : P → Prog (TpuEff nD τ sig Val Λ c.2) α} {p' : ¬ P → Prog (TpuEff nD τ sig Val Λ c.2) α} {a : α}
    (h : P) (hp : Run (defs := defs) 𝒱 c E R (p h) a R') : Run (defs := defs) 𝒱 c E R (dite P p p') a R' := by
  rw [dif_pos h]; exact hp

theorem Run.neg {R R' : sProp 𝕄} {P : Prop} [Decidable P] {p : P → Prog (TpuEff nD τ sig Val Λ c.2) α} {p' : ¬ P → Prog (TpuEff nD τ sig Val Λ c.2) α} {a : α}
    (h : ¬ P) (hp : Run (defs := defs) 𝒱 c E R (p' h) a R') : Run (defs := defs) 𝒱 c E R (dite P p p') a R' := by
  rw [dif_neg h]; exact hp

/-- A load beside other holdings: `R` gives the memref up and takes it back. -/
theorem Run.load {R : sProp 𝕄} {m : Memref sig c.2.kind .vmem s e} {X : s.Idx → Val e}
    (hR : R ⊢ iprop(owns c m fullShare X ∗ (owns c m fullShare X -∗ R)))
    {off size : Fin s.rank → ℕ} (inb : ∀ a, off a + size a ≤ s.size a) (hl : m.view.LoadsAt (Rect.unit off size inb).toLoadRect) :
    Run (defs := defs) 𝒱 c E R (Prog.lift (.load m (Rect.unit off size inb).toLoadRect hl)) (VecWindow.window X off size inb) R := fun Q => by
  refine BIBase.Entails.trans ?_ (load_owns 𝒱 c E m inb hl X Q)
  refine (sep_mono_left hR).trans ?_
  iintro ⟨⟨H, HR⟩, HQ⟩
  isplitl [H]
  · iexact H
  iintro H
  iapply HQ
  iapply HR
  iexact H

/-- A store beside other holdings. -/
theorem Run.store {R R' : sProp 𝕄} {m : Memref sig c.2.kind .vmem s e} {X : s.Idx → Val e} {off size : Fin s.rank → ℕ}
    (inb : ∀ a, off a + size a ≤ s.size a) (w : (Rect.unit off size inb).shape.Idx → Val e)
    (hR : R ⊢ iprop(owns c m fullShare X ∗ (owns c m fullShare (VecWindow.put X off size w) -∗ R')))
    (hx : (m.access (Rect.unit off size inb)).Stores Finset.univ) (hm : Finset.univ = Finset.univ ∨ ∀ a, (Rect.unit off size inb).stride a = 1) :
    Run (defs := defs) 𝒱 c E R (Prog.lift (.store m (Rect.unit off size inb) w Finset.univ hx hm)) ⟨⟩ R' := fun Q => by
  refine BIBase.Entails.trans ?_ (store_owns 𝒱 c E m inb w hx hm X Q)
  refine (sep_mono_left hR).trans ?_
  iintro ⟨⟨H, HR⟩, HQ⟩
  isplitl [H]
  · iexact H
  iintro H
  iapply HQ
  iapply HR
  iexact H

/-- A store of rows that are part of their words, beside other holdings. -/
theorem Run.storeSub {R R' : sProp 𝕄} {m : Memref sig c.2.kind .vmem s e} {X : s.Idx → Val e} {off size : Fin s.rank → ℕ}
    (inb : ∀ a, off a + size a ≤ s.size a) (w : ((Rect.unit off size inb).shape.Idx → Val e) → ((Rect.unit off size inb).shape.Idx → Val e))
    (hL : R ⊢ iprop(owns c m fullShare X ∗ (owns c m fullShare X -∗ R)))
    (hR : R ⊢ iprop(owns c m fullShare X ∗ (owns c m fullShare (VecWindow.put X off size (w (VecWindow.window X off size inb))) -∗ R')))
    (hl : m.view.LoadsAt (Rect.unit off size inb).toLoadRect) (hx : (m.access (Rect.unit off size inb)).Stores Finset.univ) :
    Run (defs := defs) 𝒱 c E R (storeSubelements m (Rect.unit off size inb) w hl hx) ⟨⟩ R' :=
  Run.bind (k := fun old => Prog.lift (.store m (Rect.unit off size inb) (w old) Finset.univ hx (.inl rfl)))
    (Run.load hL inb hl) (Run.store inb _ hR hx (.inl rfl))

/-- A payload of the whole shape replaces everything. -/
theorem put_full {γ : Type} (x : s.Idx → γ) {off : Fin s.rank → ℕ} (h : ∀ a, off a = 0) (w : s.Idx → γ) :
    VecWindow.put x off s.size w = w := by
  funext y
  unfold VecWindow.put
  rw [dif_pos fun a => ⟨by rw [h a]; exact Nat.zero_le _, by rw [h a]; have := (y a).isLt; omega⟩]
  exact congrArg w (funext fun a => Fin.ext (by show (y a).val - off a = (y a).val; rw [h a]; rfl))

end Vq

end
-- ==== Proof.KernelIdealBody.lean ====
/- What one grid point of the kernel does: the value of every load, the contents each store leaves, and the run of the
   body from any contents of the scratch buffers. -/
module

public import proofs.«01_k».proof.Proof.Rules
public import proofs.«01_k».proof.Proof.Gen.KernelIdeal.Skeleton
public import Idealize.ShloMosaic.Lib.Ring

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a grid point reads: the blocks of its twelve inputs, and the three scratch buffers after the first
    point's clearing. -/
structure Env (F : FTy → Type) where
  x1 : Vec F S1x113x113x12 .f32
  x2 : Vec F S4x12x192 .f32
  x3 : Vec F S1x192 .f32
  x4 : Vec F S16x192x64 .f32
  x5 : Vec F S1x64 .f32
  x6 : Vec F S64x512 .f32
  x7 : Vec F S1x512 .f32
  x8 : Vec F S512x64 .f32
  x9 : Vec F S16x64x192 .bf16
  x10 : Vec F S1x192 .f32
  x11 : Vec F S16x192x48 .bf16
  x12 : Vec F S1x48 .f32
  h0 : Vec F S2x2x57x57x192 .f32
  z0 : Vec F S58x58x64 .bf16
  g0 : Vec F S2x2x58x58x192 .bf16

variable (X : Env F)

/-- The scratch contents the point's loads and stores start from. -/
def h0 : Vec F S2x2x57x57x192 .f32 := X.h0
def z0 : Vec F S58x58x64 .bf16 := X.z0
def g0 : Vec F S2x2x58x58x192 .bf16 := X.g0
def v3 : Vec F S1x113x113x12 .f32 := VecWindow.window X.x1 ![0, 0, 0, 0] S1x113x113x12.size inb_S1x113x113x12_S1x113x113x12_0_0_0_0
def v6 : Vec F S1x192 .f32 := VecWindow.window X.x3 ![0, 0] S1x192.size inb_S1x192_S1x192_0_0
def v12 : Vec F S1x12x192 .f32 := VecWindow.window X.x2 ![0, 0, 0] S1x12x192.size inb_S4x12x192_S1x12x192_0_0_0
def v18 : Vec F S1x12x192 .f32 := VecWindow.window X.x2 ![1, 0, 0] S1x12x192.size inb_S4x12x192_S1x12x192_1_0_0
def v24 : Vec F S1x12x192 .f32 := VecWindow.window X.x2 ![2, 0, 0] S1x12x192.size inb_S4x12x192_S1x12x192_2_0_0
def v30 : Vec F S1x12x192 .f32 := VecWindow.window X.x2 ![3, 0, 0] S1x12x192.size inb_S4x12x192_S1x12x192_3_0_0
def v4 : FVec F S113x113x12 .f32 := k0_pay5 (v3 X)
def v27 : FVec F S6272x192 .f32 := k0_pay6 (v3 X) (v6 X) (v12 X) (v18 X) (v24 X)
def v32 : FVec F S6272x192 .f32 := k0_pay7 (v3 X) (v30 X)
def h1 : Vec F S2x2x57x57x192 .f32 := VecWindow.put (h0 X) ![1, 1, 0, 0, 0] S1x1x28x56x192.size (k0_pay9 (v27 X) (v32 X))
def h2 : Vec F S2x2x57x57x192 .f32 := VecWindow.put (h1 X) ![1, 0, 0, 1, 0] S1x1x28x56x192.size (k0_pay10 (v27 X) (v32 X))
def h3 : Vec F S2x2x57x57x192 .f32 := VecWindow.put (h2 X) ![0, 1, 1, 0, 0] S1x1x28x56x192.size (k0_pay11 (v27 X) (v32 X))
def h4 : Vec F S2x2x57x57x192 .f32 := VecWindow.put (h3 X) ![0, 0, 1, 1, 0] S1x1x28x56x192.size (k0_pay12 (v27 X) (v32 X))
def v58 : Vec F S1x192 .f32 := VecWindow.window X.x3 ![0, 0] S1x192.size inb_S1x192_S1x192_0_0
def v61 : FVec F S6272x192 .f32 := k0_pay13 (v58 X)
def v63 : FVec F S6272x12 .f32 := k0_pay14 (v4 X)
def v64 : Vec F S1x12x192 .f32 := VecWindow.window X.x2 ![0, 0, 0] S1x12x192.size inb_S4x12x192_S1x12x192_0_0_0
def v70 : Vec F S1x12x192 .f32 := VecWindow.window X.x2 ![1, 0, 0] S1x12x192.size inb_S4x12x192_S1x12x192_1_0_0
def v76 : Vec F S1x12x192 .f32 := VecWindow.window X.x2 ![2, 0, 0] S1x12x192.size inb_S4x12x192_S1x12x192_2_0_0
def v82 : Vec F S1x12x192 .f32 := VecWindow.window X.x2 ![3, 0, 0] S1x12x192.size inb_S4x12x192_S1x12x192_3_0_0
def h5 : Vec F S2x2x57x57x192 .f32 := VecWindow.put (h4 X) ![1, 1, 28, 0, 0] S1x1x28x56x192.size (k0_pay16 (v4 X) (v61 X) (v63 X) (v64 X) (v70 X) (v76 X) (v82 X))
def v96 : Vec F S1x1x28x56x192 .f32 := VecWindow.window (h5 X) ![1, 0, 28, 1, 0] S1x1x28x56x192.size inb_S2x2x57x57x192_S1x1x28x56x192_1_0_28_1_0
def v88 : FVec F S28x2x56x2x192 .f32 := k0_pay15 (v4 X) (v61 X) (v63 X) (v64 X) (v70 X) (v76 X) (v82 X)
def v95 : FVec F S28x56x192 .f32 := k0_pay17 (v4 X) (v61 X) (v63 X) (v64 X) (v70 X) (v76 X) (v82 X)
def h6 : Vec F S2x2x57x57x192 .f32 := VecWindow.put (h5 X) ![1, 0, 28, 1, 0] S1x1x28x56x192.size (k0_pay18 (v95 X))
def h7 : Vec F S2x2x57x57x192 .f32 := VecWindow.put (h6 X) ![0, 1, 29, 0, 0] S1x1x28x56x192.size (k0_pay19 (v88 X))
def h8 : Vec F S2x2x57x57x192 .f32 := VecWindow.put (h7 X) ![0, 0, 29, 1, 0] S1x1x28x56x192.size (k0_pay20 (v88 X))
def v110 : Vec F S1x64 .f32 := VecWindow.window X.x5 ![0, 0] S1x64.size inb_S1x64_S1x64_0_0
def v114 : Vec F S1x1x56x56x192 .f32 := VecWindow.window (h8 X) ![0, 0, 0, 0, 0] S1x1x56x56x192.size inb_S2x2x57x57x192_S1x1x56x56x192_0_0_0_0_0
def v117 : Vec F S1x192x64 .f32 := VecWindow.window X.x4 ![0, 0, 0] S1x192x64.size inb_S16x192x64_S1x192x64_0_0_0
def v121 : Vec F S1x1x56x56x192 .f32 := VecWindow.window (h8 X) ![0, 1, 0, 0, 0] S1x1x56x56x192.size inb_S2x2x57x57x192_S1x1x56x56x192_0_1_0_0_0
def v120 : FVec F S3136x64 .f32 := k0_pay21 (v110 X) (v114 X) (v117 X)
def v123 : FVec F S3136x192 .f32 := k0_pay22 (v121 X)
def v124 : Vec F S1x192x64 .f32 := VecWindow.window X.x4 ![1, 0, 0] S1x192x64.size inb_S16x192x64_S1x192x64_1_0_0
def v128 : Vec F S1x1x56x56x192 .f32 := VecWindow.window (h8 X) ![0, 0, 0, 1, 0] S1x1x56x56x192.size inb_S2x2x57x57x192_S1x1x56x56x192_0_0_0_1_0
def v131 : Vec F S1x192x64 .f32 := VecWindow.window X.x4 ![2, 0, 0] S1x192x64.size inb_S16x192x64_S1x192x64_2_0_0
def v135 : Vec F S1x1x56x56x192 .f32 := VecWindow.window (h8 X) ![0, 1, 0, 1, 0] S1x1x56x56x192.size inb_S2x2x57x57x192_S1x1x56x56x192_0_1_0_1_0
def v138 : Vec F S1x192x64 .f32 := VecWindow.window X.x4 ![3, 0, 0] S1x192x64.size inb_S16x192x64_S1x192x64_3_0_0
def v142 : Vec F S1x1x56x56x192 .f32 := VecWindow.window (h8 X) ![1, 0, 0, 0, 0] S1x1x56x56x192.size inb_S2x2x57x57x192_S1x1x56x56x192_1_0_0_0_0
def v145 : Vec F S1x192x64 .f32 := VecWindow.window X.x4 ![4, 0, 0] S1x192x64.size inb_S16x192x64_S1x192x64_4_0_0
def v149 : Vec F S1x1x56x56x192 .f32 := VecWindow.window (h8 X) ![1, 1, 0, 0, 0] S1x1x56x56x192.size inb_S2x2x57x57x192_S1x1x56x56x192_1_1_0_0_0
def v148 : FVec F S3136x64 .f32 := k0_pay23 (v120 X) (v123 X) (v124 X) (v128 X) (v131 X) (v135 X) (v138 X) (v142 X) (v145 X)
def v150 : FVec F S56x56x192 .f32 := k0_pay24 (v149 X)
def v152 : Vec F S1x192x64 .f32 := VecWindow.window X.x4 ![5, 0, 0] S1x192x64.size inb_S16x192x64_S1x192x64_5_0_0
def v156 : Vec F S1x1x56x56x192 .f32 := VecWindow.window (h8 X) ![1, 0, 0, 1, 0] S1x1x56x56x192.size inb_S2x2x57x57x192_S1x1x56x56x192_1_0_0_1_0
def v159 : Vec F S1x192x64 .f32 := VecWindow.window X.x4 ![6, 0, 0] S1x192x64.size inb_S16x192x64_S1x192x64_6_0_0
def v163 : Vec F S1x1x56x56x192 .f32 := VecWindow.window (h8 X) ![1, 1, 0, 1, 0] S1x1x56x56x192.size inb_S2x2x57x57x192_S1x1x56x56x192_1_1_0_1_0
def v166 : Vec F S1x192x64 .f32 := VecWindow.window X.x4 ![7, 0, 0] S1x192x64.size inb_S16x192x64_S1x192x64_7_0_0
def v170 : Vec F S1x1x56x56x192 .f32 := VecWindow.window (h8 X) ![0, 0, 1, 0, 0] S1x1x56x56x192.size inb_S2x2x57x57x192_S1x1x56x56x192_0_0_1_0_0
def v173 : Vec F S1x192x64 .f32 := VecWindow.window X.x4 ![8, 0, 0] S1x192x64.size inb_S16x192x64_S1x192x64_8_0_0
def v176 : FVec F S3136x64 .f32 := k0_pay25 (v148 X) (v150 X) (v152 X) (v156 X) (v159 X) (v163 X) (v166 X) (v170 X) (v173 X)
def v177 : Vec F S1x1x56x56x192 .f32 := VecWindow.window (h8 X) ![0, 1, 1, 0, 0] S1x1x56x56x192.size inb_S2x2x57x57x192_S1x1x56x56x192_0_1_1_0_0
def v180 : Vec F S1x192x64 .f32 := VecWindow.window X.x4 ![9, 0, 0] S1x192x64.size inb_S16x192x64_S1x192x64_9_0_0
def v184 : Vec F S1x1x56x56x192 .f32 := VecWindow.window (h8 X) ![0, 0, 1, 1, 0] S1x1x56x56x192.size inb_S2x2x57x57x192_S1x1x56x56x192_0_0_1_1_0
def v187 : Vec F S1x192x64 .f32 := VecWindow.window X.x4 ![10, 0, 0] S1x192x64.size inb_S16x192x64_S1x192x64_10_0_0
def v191 : Vec F S1x1x56x56x192 .f32 := VecWindow.window (h8 X) ![0, 1, 1, 1, 0] S1x1x56x56x192.size inb_S2x2x57x57x192_S1x1x56x56x192_0_1_1_1_0
def v194 : Vec F S1x192x64 .f32 := VecWindow.window X.x4 ![11, 0, 0] S1x192x64.size inb_S16x192x64_S1x192x64_11_0_0
def v198 : Vec F S1x1x56x56x192 .f32 := VecWindow.window (h8 X) ![1, 0, 1, 0, 0] S1x1x56x56x192.size inb_S2x2x57x57x192_S1x1x56x56x192_1_0_1_0_0
def v201 : Vec F S1x192x64 .f32 := VecWindow.window X.x4 ![12, 0, 0] S1x192x64.size inb_S16x192x64_S1x192x64_12_0_0
def v197 : FVec F S3136x64 .f32 := k0_pay26 (v176 X) (v177 X) (v180 X) (v184 X) (v187 X) (v191 X) (v194 X)
def v203 : FVec F S3136x64 .f32 := k0_pay27 (v198 X) (v201 X)
def v205 : Vec F S1x1x56x56x192 .f32 := VecWindow.window (h8 X) ![1, 1, 1, 0, 0] S1x1x56x56x192.size inb_S2x2x57x57x192_S1x1x56x56x192_1_1_1_0_0
def v208 : Vec F S1x192x64 .f32 := VecWindow.window X.x4 ![13, 0, 0] S1x192x64.size inb_S16x192x64_S1x192x64_13_0_0
def v212 : Vec F S1x1x56x56x192 .f32 := VecWindow.window (h8 X) ![1, 0, 1, 1, 0] S1x1x56x56x192.size inb_S2x2x57x57x192_S1x1x56x56x192_1_0_1_1_0
def v215 : Vec F S1x192x64 .f32 := VecWindow.window X.x4 ![14, 0, 0] S1x192x64.size inb_S16x192x64_S1x192x64_14_0_0
def v219 : Vec F S1x1x56x56x192 .f32 := VecWindow.window (h8 X) ![1, 1, 1, 1, 0] S1x1x56x56x192.size inb_S2x2x57x57x192_S1x1x56x56x192_1_1_1_1_0
def v222 : Vec F S1x192x64 .f32 := VecWindow.window X.x4 ![15, 0, 0] S1x192x64.size inb_S16x192x64_S1x192x64_15_0_0
def v229 : Vec F S64x256 .f32 := VecWindow.window X.x6 ![0, 0] S64x256.size inb_S64x512_S64x256_0_0
def cst_217 (_ : Env F) : F .f32 := Scalar.ofBits .f32 0x40000000#32
def v225 : FVec F S3136x64 .f32 := k0_pay28 (v197 X) (v203 X) (v205 X) (v208 X) (v212 X) (v215 X) (v219 X) (v222 X)
def v228 : FVec F S3136x1 .f32 := k0_pay29 (v197 X) (v203 X) (v205 X) (v208 X) (v212 X) (v215 X) (v219 X) (v222 X)
def v231 : FVec F S3136x256 .f32 := k0_pay30 (v197 X) (v203 X) (v205 X) (v208 X) (v212 X) (v215 X) (v219 X) (v222 X) (v229 X)
def v236 : Vec F S1x256 .f32 := VecWindow.window X.x7 ![0, 0] S1x256.size inb_S1x512_S1x256_0_0
def v242 : Vec F S64x256 .f32 := VecWindow.window X.x6 ![0, 256] S64x256.size inb_S64x512_S64x256_0_256
def v249 : Vec F S1x256 .f32 := VecWindow.window X.x7 ![0, 256] S1x256.size inb_S1x512_S1x256_0_256
def v268 : Vec F S256x64 .f32 := VecWindow.window X.x8 ![0, 0] S256x64.size inb_S512x64_S256x64_0_0
def v270 : FVec F S3136x64 .f32 := k0_pay32 (v225 X) (v228 X) (v231 X) (cst_217 X) (v236 X) (v242 X) (v249 X) (v268 X)
def v273 (_ : Env F) : IVec S3136x256 32 := k0_pay33
def v274 : IVec S3136x1 32 := k0_pay34 (v225 X) (v228 X) (v231 X) (cst_217 X) (v236 X) (v242 X) (v249 X)
def v279 : Vec F S256x64 .f32 := VecWindow.window X.x8 ![256, 0] S256x64.size inb_S512x64_S256x64_256_0
def z1 : Vec F S58x58x64 .bf16 := VecWindow.put (z0 X) ![1, 0, 0] S56x58x64.size (updateSlice (VecWindow.window (z0 X) ![1, 0, 0] S56x58x64.size inb_S58x58x64_S56x58x64_1_0_0) (k0_pay35 (v270 X) (v273 X) (v274 X) (v279 X)) ![0, 1, 0] slices_S56x58x64_S56x56x64_0_1_0)
def v288 : Vec F S1x192 .f32 := VecWindow.window X.x10 ![0, 0] S1x192.size inb_S1x192_S1x192_0_0
def v292 : Vec F S56x56x64 .bf16 := VecWindow.window (z1 X) ![0, 0, 0] S56x56x64.size inb_S58x58x64_S56x56x64_0_0_0
def v294 : Vec F S1x64x192 .bf16 := VecWindow.window X.x9 ![0, 0, 0] S1x64x192.size inb_S16x64x192_S1x64x192_0_0_0
def v298 : Vec F S56x56x64 .bf16 := VecWindow.window (z1 X) ![0, 1, 0] S56x56x64.size inb_S58x58x64_S56x56x64_0_1_0
def v300 : Vec F S1x64x192 .bf16 := VecWindow.window X.x9 ![1, 0, 0] S1x64x192.size inb_S16x64x192_S1x64x192_1_0_0
def v304 : Vec F S56x56x64 .bf16 := VecWindow.window (z1 X) ![1, 0, 0] S56x56x64.size inb_S58x58x64_S56x56x64_1_0_0
def v303 : FVec F S3136x192 .f32 := k0_pay36 (v288 X) (v292 X) (v294 X) (v298 X) (v300 X)
def v305 : FVec F S3136x64 .bf16 := k0_pay37 (v304 X)
def v306 : Vec F S1x64x192 .bf16 := VecWindow.window X.x9 ![2, 0, 0] S1x64x192.size inb_S16x64x192_S1x64x192_2_0_0
def v310 : Vec F S56x56x64 .bf16 := VecWindow.window (z1 X) ![1, 1, 0] S56x56x64.size inb_S58x58x64_S56x56x64_1_1_0
def v312 : Vec F S1x64x192 .bf16 := VecWindow.window X.x9 ![3, 0, 0] S1x64x192.size inb_S16x64x192_S1x64x192_3_0_0
def g1 : Vec F S2x2x58x58x192 .bf16 := VecWindow.put (g0 X) ![0, 0, 1, 0, 0] S1x1x56x58x192.size (updateSlice (VecWindow.window (g0 X) ![0, 0, 1, 0, 0] S1x1x56x58x192.size inb_S2x2x58x58x192_S1x1x56x58x192_0_0_1_0_0) (k0_pay38 (v303 X) (v305 X) (v306 X) (v310 X) (v312 X)) ![0, 0, 0, 1, 0] slices_S1x1x56x58x192_S1x1x56x56x192_0_0_0_1_0)
def v324 : Vec F S1x192 .f32 := VecWindow.window X.x10 ![0, 0] S1x192.size inb_S1x192_S1x192_0_0
def v328 : Vec F S56x56x64 .bf16 := VecWindow.window (z1 X) ![0, 1, 0] S56x56x64.size inb_S58x58x64_S56x56x64_0_1_0
def v330 : Vec F S1x64x192 .bf16 := VecWindow.window X.x9 ![4, 0, 0] S1x64x192.size inb_S16x64x192_S1x64x192_4_0_0
def v334 : Vec F S56x56x64 .bf16 := VecWindow.window (z1 X) ![0, 2, 0] S56x56x64.size inb_S58x58x64_S56x56x64_0_2_0
def v333 : FVec F S3136x192 .f32 := k0_pay39 (v324 X) (v328 X) (v330 X)
def v335 : FVec F S3136x64 .bf16 := k0_pay40 (v334 X)
def v336 : Vec F S1x64x192 .bf16 := VecWindow.window X.x9 ![5, 0, 0] S1x64x192.size inb_S16x64x192_S1x64x192_5_0_0
def v340 : Vec F S56x56x64 .bf16 := VecWindow.window (z1 X) ![1, 1, 0] S56x56x64.size inb_S58x58x64_S56x56x64_1_1_0
def v342 : Vec F S1x64x192 .bf16 := VecWindow.window X.x9 ![6, 0, 0] S1x64x192.size inb_S16x64x192_S1x64x192_6_0_0
def v346 : Vec F S56x56x64 .bf16 := VecWindow.window (z1 X) ![1, 2, 0] S56x56x64.size inb_S58x58x64_S56x56x64_1_2_0
def v348 : Vec F S1x64x192 .bf16 := VecWindow.window X.x9 ![7, 0, 0] S1x64x192.size inb_S16x64x192_S1x64x192_7_0_0
def g2 : Vec F S2x2x58x58x192 .bf16 := VecWindow.put (g1 X) ![0, 1, 1, 0, 0] S1x1x56x58x192.size (updateSlice (VecWindow.window (g1 X) ![0, 1, 1, 0, 0] S1x1x56x58x192.size inb_S2x2x58x58x192_S1x1x56x58x192_0_1_1_0_0) (k0_pay41 (v333 X) (v335 X) (v336 X) (v340 X) (v342 X) (v346 X) (v348 X)) ![0, 0, 0, 1, 0] slices_S1x1x56x58x192_S1x1x56x56x192_0_0_0_1_0)
def v360 : Vec F S1x192 .f32 := VecWindow.window X.x10 ![0, 0] S1x192.size inb_S1x192_S1x192_0_0
def v364 : Vec F S56x56x64 .bf16 := VecWindow.window (z1 X) ![1, 0, 0] S56x56x64.size inb_S58x58x64_S56x56x64_1_0_0
def v363 : FVec F S3136x192 .f32 := k0_pay42 (v360 X)
def v365 : FVec F S3136x64 .bf16 := k0_pay43 (v364 X)
def v366 : Vec F S1x64x192 .bf16 := VecWindow.window X.x9 ![8, 0, 0] S1x64x192.size inb_S16x64x192_S1x64x192_8_0_0
def v370 : Vec F S56x56x64 .bf16 := VecWindow.window (z1 X) ![1, 1, 0] S56x56x64.size inb_S58x58x64_S56x56x64_1_1_0
def v372 : Vec F S1x64x192 .bf16 := VecWindow.window X.x9 ![9, 0, 0] S1x64x192.size inb_S16x64x192_S1x64x192_9_0_0
def v376 : Vec F S56x56x64 .bf16 := VecWindow.window (z1 X) ![2, 0, 0] S56x56x64.size inb_S58x58x64_S56x56x64_2_0_0
def v378 : Vec F S1x64x192 .bf16 := VecWindow.window X.x9 ![10, 0, 0] S1x64x192.size inb_S16x64x192_S1x64x192_10_0_0
def v382 : Vec F S56x56x64 .bf16 := VecWindow.window (z1 X) ![2, 1, 0] S56x56x64.size inb_S58x58x64_S56x56x64_2_1_0
def v384 : Vec F S1x64x192 .bf16 := VecWindow.window X.x9 ![11, 0, 0] S1x64x192.size inb_S16x64x192_S1x64x192_11_0_0
def v394 : FVec F S1x1x56x56x192 .bf16 := k0_pay44 (v363 X) (v365 X) (v366 X) (v370 X) (v372 X) (v376 X) (v378 X) (v382 X) (v384 X)
def g3 : Vec F S2x2x58x58x192 .bf16 := VecWindow.put (g2 X) ![1, 0, 1, 0, 0] S1x1x56x58x192.size (updateSlice (VecWindow.window (g2 X) ![1, 0, 1, 0, 0] S1x1x56x58x192.size inb_S2x2x58x58x192_S1x1x56x58x192_1_0_1_0_0) (v394 X) ![0, 0, 0, 1, 0] slices_S1x1x56x58x192_S1x1x56x56x192_0_0_0_1_0)
def v396 : Vec F S1x192 .f32 := VecWindow.window X.x10 ![0, 0] S1x192.size inb_S1x192_S1x192_0_0
def v400 : Vec F S56x56x64 .bf16 := VecWindow.window (z1 X) ![1, 1, 0] S56x56x64.size inb_S58x58x64_S56x56x64_1_1_0
def v402 : Vec F S1x64x192 .bf16 := VecWindow.window X.x9 ![12, 0, 0] S1x64x192.size inb_S16x64x192_S1x64x192_12_0_0
def v406 : Vec F S56x56x64 .bf16 := VecWindow.window (z1 X) ![1, 2, 0] S56x56x64.size inb_S58x58x64_S56x56x64_1_2_0
def v408 : Vec F S1x64x192 .bf16 := VecWindow.window X.x9 ![13, 0, 0] S1x64x192.size inb_S16x64x192_S1x64x192_13_0_0
def v412 : Vec F S56x56x64 .bf16 := VecWindow.window (z1 X) ![2, 1, 0] S56x56x64.size inb_S58x58x64_S56x56x64_2_1_0
def v414 : Vec F S1x64x192 .bf16 := VecWindow.window X.x9 ![14, 0, 0] S1x64x192.size inb_S16x64x192_S1x64x192_14_0_0
def v418 : Vec F S56x56x64 .bf16 := VecWindow.window (z1 X) ![2, 2, 0] S56x56x64.size inb_S58x58x64_S56x56x64_2_2_0
def v420 : Vec F S1x64x192 .bf16 := VecWindow.window X.x9 ![15, 0, 0] S1x64x192.size inb_S16x64x192_S1x64x192_15_0_0
def v417 : FVec F S3136x192 .f32 := k0_pay45 (v396 X) (v400 X) (v402 X) (v406 X) (v408 X) (v412 X) (v414 X)
def v422 : FVec F S3136x192 .f32 := k0_pay46 (v418 X) (v420 X)
def g4 : Vec F S2x2x58x58x192 .bf16 := VecWindow.put (g3 X) ![1, 1, 1, 0, 0] S1x1x56x58x192.size (updateSlice (VecWindow.window (g3 X) ![1, 1, 1, 0, 0] S1x1x56x58x192.size inb_S2x2x58x58x192_S1x1x56x58x192_1_1_1_0_0) (k0_pay47 (v417 X) (v422 X)) ![0, 0, 0, 1, 0] slices_S1x1x56x58x192_S1x1x56x56x192_0_0_0_1_0)
def v432 : Vec F S1x48 .f32 := VecWindow.window X.x12 ![0, 0] S1x48.size inb_S1x48_S1x48_0_0
def v436 : Vec F S1x1x56x56x192 .bf16 := VecWindow.window (g4 X) ![1, 1, 0, 0, 0] S1x1x56x56x192.size inb_S2x2x58x58x192_S1x1x56x56x192_1_1_0_0_0
def v439 : Vec F S1x192x48 .bf16 := VecWindow.window X.x11 ![0, 0, 0] S1x192x48.size inb_S16x192x48_S1x192x48_0_0_0
def v443 : Vec F S1x1x56x56x192 .bf16 := VecWindow.window (g4 X) ![1, 0, 0, 1, 0] S1x1x56x56x192.size inb_S2x2x58x58x192_S1x1x56x56x192_1_0_0_1_0
def v446 : Vec F S1x192x48 .bf16 := VecWindow.window X.x11 ![1, 0, 0] S1x192x48.size inb_S16x192x48_S1x192x48_1_0_0
def v449 : FVec F S3136x48 .f32 := k0_pay48 (v432 X) (v436 X) (v439 X) (v443 X) (v446 X)
def v450 : Vec F S1x1x56x56x192 .bf16 := VecWindow.window (g4 X) ![1, 1, 0, 1, 0] S1x1x56x56x192.size inb_S2x2x58x58x192_S1x1x56x56x192_1_1_0_1_0
def v453 : Vec F S1x192x48 .bf16 := VecWindow.window X.x11 ![2, 0, 0] S1x192x48.size inb_S16x192x48_S1x192x48_2_0_0
def v457 : Vec F S1x1x56x56x192 .bf16 := VecWindow.window (g4 X) ![1, 0, 0, 2, 0] S1x1x56x56x192.size inb_S2x2x58x58x192_S1x1x56x56x192_1_0_0_2_0
def v460 : Vec F S1x192x48 .bf16 := VecWindow.window X.x11 ![3, 0, 0] S1x192x48.size inb_S16x192x48_S1x192x48_3_0_0
def v464 : Vec F S1x1x56x56x192 .bf16 := VecWindow.window (g4 X) ![0, 1, 1, 0, 0] S1x1x56x56x192.size inb_S2x2x58x58x192_S1x1x56x56x192_0_1_1_0_0
def v467 : Vec F S1x192x48 .bf16 := VecWindow.window X.x11 ![4, 0, 0] S1x192x48.size inb_S16x192x48_S1x192x48_4_0_0
def v471 : Vec F S1x1x56x56x192 .bf16 := VecWindow.window (g4 X) ![0, 0, 1, 1, 0] S1x1x56x56x192.size inb_S2x2x58x58x192_S1x1x56x56x192_0_0_1_1_0
def v474 : Vec F S1x192x48 .bf16 := VecWindow.window X.x11 ![5, 0, 0] S1x192x48.size inb_S16x192x48_S1x192x48_5_0_0
def v477 : FVec F S3136x48 .f32 := k0_pay49 (v449 X) (v450 X) (v453 X) (v457 X) (v460 X) (v464 X) (v467 X) (v471 X) (v474 X)
def v478 : Vec F S1x1x56x56x192 .bf16 := VecWindow.window (g4 X) ![0, 1, 1, 1, 0] S1x1x56x56x192.size inb_S2x2x58x58x192_S1x1x56x56x192_0_1_1_1_0
def v481 : Vec F S1x192x48 .bf16 := VecWindow.window X.x11 ![6, 0, 0] S1x192x48.size inb_S16x192x48_S1x192x48_6_0_0
def v485 : Vec F S1x1x56x56x192 .bf16 := VecWindow.window (g4 X) ![0, 0, 1, 2, 0] S1x1x56x56x192.size inb_S2x2x58x58x192_S1x1x56x56x192_0_0_1_2_0
def v488 : Vec F S1x192x48 .bf16 := VecWindow.window X.x11 ![7, 0, 0] S1x192x48.size inb_S16x192x48_S1x192x48_7_0_0
def v492 : Vec F S1x1x56x56x192 .bf16 := VecWindow.window (g4 X) ![1, 1, 1, 0, 0] S1x1x56x56x192.size inb_S2x2x58x58x192_S1x1x56x56x192_1_1_1_0_0
def v495 : Vec F S1x192x48 .bf16 := VecWindow.window X.x11 ![8, 0, 0] S1x192x48.size inb_S16x192x48_S1x192x48_8_0_0
def v499 : Vec F S1x1x56x56x192 .bf16 := VecWindow.window (g4 X) ![1, 0, 1, 1, 0] S1x1x56x56x192.size inb_S2x2x58x58x192_S1x1x56x56x192_1_0_1_1_0
def v502 : Vec F S1x192x48 .bf16 := VecWindow.window X.x11 ![9, 0, 0] S1x192x48.size inb_S16x192x48_S1x192x48_9_0_0
def v498 : FVec F S3136x48 .f32 := k0_pay50 (v477 X) (v478 X) (v481 X) (v485 X) (v488 X) (v492 X) (v495 X)
def v501 : FVec F S3136x192 .bf16 := k0_pay51 (v499 X)
def v503 : FVec F S192x48 .bf16 := k0_pay52 (v502 X)
def v506 : Vec F S1x1x56x56x192 .bf16 := VecWindow.window (g4 X) ![1, 1, 1, 1, 0] S1x1x56x56x192.size inb_S2x2x58x58x192_S1x1x56x56x192_1_1_1_1_0
def v509 : Vec F S1x192x48 .bf16 := VecWindow.window X.x11 ![10, 0, 0] S1x192x48.size inb_S16x192x48_S1x192x48_10_0_0
def v513 : Vec F S1x1x56x56x192 .bf16 := VecWindow.window (g4 X) ![1, 0, 1, 2, 0] S1x1x56x56x192.size inb_S2x2x58x58x192_S1x1x56x56x192_1_0_1_2_0
def v516 : Vec F S1x192x48 .bf16 := VecWindow.window X.x11 ![11, 0, 0] S1x192x48.size inb_S16x192x48_S1x192x48_11_0_0
def v520 : Vec F S1x1x56x56x192 .bf16 := VecWindow.window (g4 X) ![0, 1, 2, 0, 0] S1x1x56x56x192.size inb_S2x2x58x58x192_S1x1x56x56x192_0_1_2_0_0
def v523 : Vec F S1x192x48 .bf16 := VecWindow.window X.x11 ![12, 0, 0] S1x192x48.size inb_S16x192x48_S1x192x48_12_0_0
def v527 : Vec F S1x1x56x56x192 .bf16 := VecWindow.window (g4 X) ![0, 0, 2, 1, 0] S1x1x56x56x192.size inb_S2x2x58x58x192_S1x1x56x56x192_0_0_2_1_0
def v526 : FVec F S3136x48 .f32 := k0_pay53 (v498 X) (v501 X) (v503 X) (v506 X) (v509 X) (v513 X) (v516 X) (v520 X) (v523 X)
def v529 : FVec F S3136x192 .bf16 := k0_pay54 (v527 X)
def v530 : Vec F S1x192x48 .bf16 := VecWindow.window X.x11 ![13, 0, 0] S1x192x48.size inb_S16x192x48_S1x192x48_13_0_0
def v534 : Vec F S1x1x56x56x192 .bf16 := VecWindow.window (g4 X) ![0, 1, 2, 1, 0] S1x1x56x56x192.size inb_S2x2x58x58x192_S1x1x56x56x192_0_1_2_1_0
def v537 : Vec F S1x192x48 .bf16 := VecWindow.window X.x11 ![14, 0, 0] S1x192x48.size inb_S16x192x48_S1x192x48_14_0_0
def v541 : Vec F S1x1x56x56x192 .bf16 := VecWindow.window (g4 X) ![0, 0, 2, 2, 0] S1x1x56x56x192.size inb_S2x2x58x58x192_S1x1x56x56x192_0_0_2_2_0
def v544 : Vec F S1x192x48 .bf16 := VecWindow.window X.x11 ![15, 0, 0] S1x192x48.size inb_S16x192x48_S1x192x48_15_0_0
def v547 : FVec F S3136x48 .f32 := k0_pay55 (v526 X) (v529 X) (v530 X) (v534 X) (v537 X) (v541 X) (v544 X)
/-- The output block the point leaves. -/
def out : Vec F S1x3136x48 .f32 := k0_pay1 (v547 X)

/-! ## The run -/

variable (c : Dev nD) (E : Set ℕ) (i : grid0.Coords)
  (arg1 : Memref sig .tc .vmem S1x113x113x12 .f32) (harg1 : arg1.IsWhole)
  (arg2 : Memref sig .tc .vmem S4x12x192 .f32) (harg2 : arg2.IsWhole)
  (arg3 : Memref sig .tc .vmem S1x192 .f32) (harg3 : arg3.IsWhole)
  (arg4 : Memref sig .tc .vmem S16x192x64 .f32) (harg4 : arg4.IsWhole)
  (arg5 : Memref sig .tc .vmem S1x64 .f32) (harg5 : arg5.IsWhole)
  (arg6 : Memref sig .tc .vmem S64x512 .f32) (harg6 : arg6.IsWhole)
  (arg7 : Memref sig .tc .vmem S1x512 .f32) (harg7 : arg7.IsWhole)
  (arg8 : Memref sig .tc .vmem S512x64 .f32) (harg8 : arg8.IsWhole)
  (arg9 : Memref sig .tc .vmem S16x64x192 .bf16) (harg9 : arg9.IsWhole)
  (arg10 : Memref sig .tc .vmem S1x192 .f32) (harg10 : arg10.IsWhole)
  (arg11 : Memref sig .tc .vmem S16x192x48 .bf16) (harg11 : arg11.IsWhole)
  (arg12 : Memref sig .tc .vmem S1x48 .f32) (harg12 : arg12.IsWhole)
  (arg13 : Memref sig .tc .vmem S1x3136x48 .f32) (harg13 : arg13.IsWhole)
  (arg14 : Memref sig .tc .vmem S2x2x57x57x192 .f32) (harg14 : arg14.IsWhole)
  (arg15 : Memref sig .tc .vmem S58x58x64 .bf16) (harg15 : arg15.IsWhole)
  (arg16 : Memref sig .tc .vmem S2x2x58x58x192 .bf16) (harg16 : arg16.IsWhole)

/-- All buffers a grid point holds: the inputs' at their blocks, the output's and the scratch buffers'. -/
def R (h : Vec F S2x2x57x57x192 .f32) (z : Vec F S58x58x64 .bf16) (g : Vec F S2x2x58x58x192 .bf16) (o : Vec F S1x3136x48 .f32) : sProp 𝕄 :=
  iprop(owns (c : Thread nD τ) arg1 fullShare X.x1 ∗ owns (c : Thread nD τ) arg2 fullShare X.x2 ∗ owns (c : Thread nD τ) arg3 fullShare X.x3 ∗ owns (c : Thread nD τ) arg4 fullShare X.x4 ∗ owns (c : Thread nD τ) arg5 fullShare X.x5 ∗ owns (c : Thread nD τ) arg6 fullShare X.x6 ∗ owns (c : Thread nD τ) arg7 fullShare X.x7 ∗ owns (c : Thread nD τ) arg8 fullShare X.x8 ∗ owns (c : Thread nD τ) arg9 fullShare X.x9 ∗ owns (c : Thread nD τ) arg10 fullShare X.x10 ∗ owns (c : Thread nD τ) arg11 fullShare X.x11 ∗ owns (c : Thread nD τ) arg12 fullShare X.x12
    ∗ owns (c : Thread nD τ) arg13 fullShare o ∗ owns (c : Thread nD τ) arg14 fullShare h ∗ owns (c : Thread nD τ) arg15 fullShare z ∗ owns (c : Thread nD τ) arg16 fullShare g)

variable (h : Vec F S2x2x57x57x192 .f32) (z : Vec F S58x58x64 .bf16) (g : Vec F S2x2x58x58x192 .bf16) (o : Vec F S1x3136x48 .f32)

theorem acc1 : R X c arg1 arg2 arg3 arg4 arg5 arg6 arg7 arg8 arg9 arg10 arg11 arg12 arg13 arg14 arg15 arg16 h z g o ⊢ iprop(owns (c : Thread nD τ) arg1 fullShare X.x1 ∗ (owns (c : Thread nD τ) arg1 fullShare X.x1 -∗ R X c arg1 arg2 arg3 arg4 arg5 arg6 arg7 arg8 arg9 arg10 arg11 arg12 arg13 arg14 arg15 arg16 h z g o)) := by
  unfold R
  iintro ⟨H1, H2, H3, H4, H5, H6, H7, H8, H9, H10, H11, H12, H13, H14, H15, H16⟩
  isplitl [H1]
  · iexact H1
  iintro H1
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

theorem acc2 : R X c arg1 arg2 arg3 arg4 arg5 arg6 arg7 arg8 arg9 arg10 arg11 arg12 arg13 arg14 arg15 arg16 h z g o ⊢ iprop(owns (c : Thread nD τ) arg2 fullShare X.x2 ∗ (owns (c : Thread nD τ) arg2 fullShare X.x2 -∗ R X c arg1 arg2 arg3 arg4 arg5 arg6 arg7 arg8 arg9 arg10 arg11 arg12 arg13 arg14 arg15 arg16 h z g o)) := by
  unfold R
  iintro ⟨H1, H2, H3, H4, H5, H6, H7, H8, H9, H10, H11, H12, H13, H14, H15, H16⟩
  isplitl [H2]
  · iexact H2
  iintro H2
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

theorem acc3 : R X c arg1 arg2 arg3 arg4 arg5 arg6 arg7 arg8 arg9 arg10 arg11 arg12 arg13 arg14 arg15 arg16 h z g o ⊢ iprop(owns (c : Thread nD τ) arg3 fullShare X.x3 ∗ (owns (c : Thread nD τ) arg3 fullShare X.x3 -∗ R X c arg1 arg2 arg3 arg4 arg5 arg6 arg7 arg8 arg9 arg10 arg11 arg12 arg13 arg14 arg15 arg16 h z g o)) := by
  unfold R
  iintro ⟨H1, H2, H3, H4, H5, H6, H7, H8, H9, H10, H11, H12, H13, H14, H15, H16⟩
  isplitl [H3]
  · iexact H3
  iintro H3
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

theorem acc4 : R X c arg1 arg2 arg3 arg4 arg5 arg6 arg7 arg8 arg9 arg10 arg11 arg12 arg13 arg14 arg15 arg16 h z g o ⊢ iprop(owns (c : Thread nD τ) arg4 fullShare X.x4 ∗ (owns (c : Thread nD τ) arg4 fullShare X.x4 -∗ R X c arg1 arg2 arg3 arg4 arg5 arg6 arg7 arg8 arg9 arg10 arg11 arg12 arg13 arg14 arg15 arg16 h z g o)) := by
  unfold R
  iintro ⟨H1, H2, H3, H4, H5, H6, H7, H8, H9, H10, H11, H12, H13, H14, H15, H16⟩
  isplitl [H4]
  · iexact H4
  iintro H4
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

theorem acc5 : R X c arg1 arg2 arg3 arg4 arg5 arg6 arg7 arg8 arg9 arg10 arg11 arg12 arg13 arg14 arg15 arg16 h z g o ⊢ iprop(owns (c : Thread nD τ) arg5 fullShare X.x5 ∗ (owns (c : Thread nD τ) arg5 fullShare X.x5 -∗ R X c arg1 arg2 arg3 arg4 arg5 arg6 arg7 arg8 arg9 arg10 arg11 arg12 arg13 arg14 arg15 arg16 h z g o)) := by
  unfold R
  iintro ⟨H1, H2, H3, H4, H5, H6, H7, H8, H9, H10, H11, H12, H13, H14, H15, H16⟩
  isplitl [H5]
  · iexact H5
  iintro H5
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

theorem acc6 : R X c arg1 arg2 arg3 arg4 arg5 arg6 arg7 arg8 arg9 arg10 arg11 arg12 arg13 arg14 arg15 arg16 h z g o ⊢ iprop(owns (c : Thread nD τ) arg6 fullShare X.x6 ∗ (owns (c : Thread nD τ) arg6 fullShare X.x6 -∗ R X c arg1 arg2 arg3 arg4 arg5 arg6 arg7 arg8 arg9 arg10 arg11 arg12 arg13 arg14 arg15 arg16 h z g o)) := by
  unfold R
  iintro ⟨H1, H2, H3, H4, H5, H6, H7, H8, H9, H10, H11, H12, H13, H14, H15, H16⟩
  isplitl [H6]
  · iexact H6
  iintro H6
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

theorem acc7 : R X c arg1 arg2 arg3 arg4 arg5 arg6 arg7 arg8 arg9 arg10 arg11 arg12 arg13 arg14 arg15 arg16 h z g o ⊢ iprop(owns (c : Thread nD τ) arg7 fullShare X.x7 ∗ (owns (c : Thread nD τ) arg7 fullShare X.x7 -∗ R X c arg1 arg2 arg3 arg4 arg5 arg6 arg7 arg8 arg9 arg10 arg11 arg12 arg13 arg14 arg15 arg16 h z g o)) := by
  unfold R
  iintro ⟨H1, H2, H3, H4, H5, H6, H7, H8, H9, H10, H11, H12, H13, H14, H15, H16⟩
  isplitl [H7]
  · iexact H7
  iintro H7
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

theorem acc8 : R X c arg1 arg2 arg3 arg4 arg5 arg6 arg7 arg8 arg9 arg10 arg11 arg12 arg13 arg14 arg15 arg16 h z g o ⊢ iprop(owns (c : Thread nD τ) arg8 fullShare X.x8 ∗ (owns (c : Thread nD τ) arg8 fullShare X.x8 -∗ R X c arg1 arg2 arg3 arg4 arg5 arg6 arg7 arg8 arg9 arg10 arg11 arg12 arg13 arg14 arg15 arg16 h z g o)) := by
  unfold R
  iintro ⟨H1, H2, H3, H4, H5, H6, H7, H8, H9, H10, H11, H12, H13, H14, H15, H16⟩
  isplitl [H8]
  · iexact H8
  iintro H8
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

theorem acc9 : R X c arg1 arg2 arg3 arg4 arg5 arg6 arg7 arg8 arg9 arg10 arg11 arg12 arg13 arg14 arg15 arg16 h z g o ⊢ iprop(owns (c : Thread nD τ) arg9 fullShare X.x9 ∗ (owns (c : Thread nD τ) arg9 fullShare X.x9 -∗ R X c arg1 arg2 arg3 arg4 arg5 arg6 arg7 arg8 arg9 arg10 arg11 arg12 arg13 arg14 arg15 arg16 h z g o)) := by
  unfold R
  iintro ⟨H1, H2, H3, H4, H5, H6, H7, H8, H9, H10, H11, H12, H13, H14, H15, H16⟩
  isplitl [H9]
  · iexact H9
  iintro H9
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

theorem acc10 : R X c arg1 arg2 arg3 arg4 arg5 arg6 arg7 arg8 arg9 arg10 arg11 arg12 arg13 arg14 arg15 arg16 h z g o ⊢ iprop(owns (c : Thread nD τ) arg10 fullShare X.x10 ∗ (owns (c : Thread nD τ) arg10 fullShare X.x10 -∗ R X c arg1 arg2 arg3 arg4 arg5 arg6 arg7 arg8 arg9 arg10 arg11 arg12 arg13 arg14 arg15 arg16 h z g o)) := by
  unfold R
  iintro ⟨H1, H2, H3, H4, H5, H6, H7, H8, H9, H10, H11, H12, H13, H14, H15, H16⟩
  isplitl [H10]
  · iexact H10
  iintro H10
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

theorem acc11 : R X c arg1 arg2 arg3 arg4 arg5 arg6 arg7 arg8 arg9 arg10 arg11 arg12 arg13 arg14 arg15 arg16 h z g o ⊢ iprop(owns (c : Thread nD τ) arg11 fullShare X.x11 ∗ (owns (c : Thread nD τ) arg11 fullShare X.x11 -∗ R X c arg1 arg2 arg3 arg4 arg5 arg6 arg7 arg8 arg9 arg10 arg11 arg12 arg13 arg14 arg15 arg16 h z g o)) := by
  unfold R
  iintro ⟨H1, H2, H3, H4, H5, H6, H7, H8, H9, H10, H11, H12, H13, H14, H15, H16⟩
  isplitl [H11]
  · iexact H11
  iintro H11
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

theorem acc12 : R X c arg1 arg2 arg3 arg4 arg5 arg6 arg7 arg8 arg9 arg10 arg11 arg12 arg13 arg14 arg15 arg16 h z g o ⊢ iprop(owns (c : Thread nD τ) arg12 fullShare X.x12 ∗ (owns (c : Thread nD τ) arg12 fullShare X.x12 -∗ R X c arg1 arg2 arg3 arg4 arg5 arg6 arg7 arg8 arg9 arg10 arg11 arg12 arg13 arg14 arg15 arg16 h z g o)) := by
  unfold R
  iintro ⟨H1, H2, H3, H4, H5, H6, H7, H8, H9, H10, H11, H12, H13, H14, H15, H16⟩
  isplitl [H12]
  · iexact H12
  iintro H12
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

theorem acc13 (o' : Vec F S1x3136x48 .f32) : R X c arg1 arg2 arg3 arg4 arg5 arg6 arg7 arg8 arg9 arg10 arg11 arg12 arg13 arg14 arg15 arg16 h z g o ⊢ iprop(owns (c : Thread nD τ) arg13 fullShare o ∗ (owns (c : Thread nD τ) arg13 fullShare o' -∗ R X c arg1 arg2 arg3 arg4 arg5 arg6 arg7 arg8 arg9 arg10 arg11 arg12 arg13 arg14 arg15 arg16 h z g o')) := by
  unfold R
  iintro ⟨H1, H2, H3, H4, H5, H6, H7, H8, H9, H10, H11, H12, H13, H14, H15, H16⟩
  isplitl [H13]
  · iexact H13
  iintro H13
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

theorem acc14 (h' : Vec F S2x2x57x57x192 .f32) : R X c arg1 arg2 arg3 arg4 arg5 arg6 arg7 arg8 arg9 arg10 arg11 arg12 arg13 arg14 arg15 arg16 h z g o ⊢ iprop(owns (c : Thread nD τ) arg14 fullShare h ∗ (owns (c : Thread nD τ) arg14 fullShare h' -∗ R X c arg1 arg2 arg3 arg4 arg5 arg6 arg7 arg8 arg9 arg10 arg11 arg12 arg13 arg14 arg15 arg16 h' z g o)) := by
  unfold R
  iintro ⟨H1, H2, H3, H4, H5, H6, H7, H8, H9, H10, H11, H12, H13, H14, H15, H16⟩
  isplitl [H14]
  · iexact H14
  iintro H14
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

theorem acc15 (z' : Vec F S58x58x64 .bf16) : R X c arg1 arg2 arg3 arg4 arg5 arg6 arg7 arg8 arg9 arg10 arg11 arg12 arg13 arg14 arg15 arg16 h z g o ⊢ iprop(owns (c : Thread nD τ) arg15 fullShare z ∗ (owns (c : Thread nD τ) arg15 fullShare z' -∗ R X c arg1 arg2 arg3 arg4 arg5 arg6 arg7 arg8 arg9 arg10 arg11 arg12 arg13 arg14 arg15 arg16 h z' g o)) := by
  unfold R
  iintro ⟨H1, H2, H3, H4, H5, H6, H7, H8, H9, H10, H11, H12, H13, H14, H15, H16⟩
  isplitl [H15]
  · iexact H15
  iintro H15
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

theorem acc16 (g' : Vec F S2x2x58x58x192 .bf16) : R X c arg1 arg2 arg3 arg4 arg5 arg6 arg7 arg8 arg9 arg10 arg11 arg12 arg13 arg14 arg15 arg16 h z g o ⊢ iprop(owns (c : Thread nD τ) arg16 fullShare g ∗ (owns (c : Thread nD τ) arg16 fullShare g' -∗ R X c arg1 arg2 arg3 arg4 arg5 arg6 arg7 arg8 arg9 arg10 arg11 arg12 arg13 arg14 arg15 arg16 h z g' o)) := by
  unfold R
  iintro ⟨H1, H2, H3, H4, H5, H6, H7, H8, H9, H10, H11, H12, H13, H14, H15, H16⟩
  isplitl [H16]
  · iexact H16
  iintro H16
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

/-- The first point's test. -/
abbrev first (i : grid0.Coords) : Prop := Scalar.cmpi .ne (Scalar.extui (Scalar.cmpi .eq (BitVec.ofNat 32 (i 0).val) 0#32) : BitVec 32) 0#32 = 1#1

theorem run_part1a (hi : first i) (eh : h0 X = k0_pay2) (ez : z0 X = k0_pay3) (eg : g0 X = k0_pay4) : Vq.Run (defs := defs₀ (F := F)) Variants.none (c : Thread nD τ) E (R X c arg1 arg2 arg3 arg4 arg5 arg6 arg7 arg8 arg9 arg10 arg11 arg12 arg13 arg14 arg15 arg16 h z g o)
    (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) ⟨v4 X, v27 X, v32 X⟩
    (R X c arg1 arg2 arg3 arg4 arg5 arg6 arg7 arg8 arg9 arg10 arg11 arg12 arg13 arg14 arg15 arg16 (h0 X) (z0 X) (g0 X) o) := by
  rw [k0_part1_eq_skeleton]; unfold k0_part1_skel
  refine Vq.Run.pos hi ?_
  have e1 : VecWindow.put h ![0, 0, 0, 0, 0] S2x2x57x57x192.size (k0_pay2 (F := F)) = k0_pay2 := Vq.put_full _ (fun a => by fin_cases a <;> rfl) _
  have e2 : VecWindow.put z ![0, 0, 0] S58x58x64.size (k0_pay3 (F := F)) = k0_pay3 := Vq.put_full _ (fun a => by fin_cases a <;> rfl) _
  have e3 : VecWindow.put g ![0, 0, 0, 0, 0] S2x2x58x58x192.size (k0_pay4 (F := F)) = k0_pay4 := Vq.put_full _ (fun a => by fin_cases a <;> rfl) _
  refine Vq.Run.bind (Vq.Run.load (acc14 _ _ _ _ _ _ _ _ _ _ _ _ _ _ _ _ _ _ _ _ _ _ _) _ _) ?_
  refine Vq.Run.bind (Vq.Run.store _ _ (acc14 _ _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  refine Vq.Run.bind (Vq.Run.store _ _ (acc15 _ _ _ _ _ _ _ _ _ _ _ _ _ _ _ _ _ _ _ _ _ _ _) _ _) ?_
  refine Vq.Run.bind (Vq.Run.load (acc16 _ _ _ _ _ _ _ _ _ _ _ _ _ _ _ _ _ _ _ _ _ _ _) _ _) ?_
  refine Vq.Run.bind (Vq.Run.store _ _ (acc16 _ _ _ _ _ _ _ _ _ _ _ _ _ _ _ _ _ _ _ _ _ _ _) _ _) ?_
  rw [e1, e2, e3, ← eh, ← ez, ← eg]
  refine Vq.Run.bind (Vq.Run.load (acc1 _ _ _ _ _ _ _ _ _ _ _ _ _ _ _ _ _ _ _ _ _ _) _ _) ?_
  refine Vq.Run.bind (Vq.Run.load (acc3 _ _ _ _ _ _ _ _ _ _ _ _ _ _ _ _ _ _ _ _ _ _) _ _) ?_
  refine Vq.Run.bind (Vq.Run.load (acc2 _ _ _ _ _ _ _ _ _ _ _ _ _ _ _ _ _ _ _ _ _ _) _ _) ?_
  refine Vq.Run.bind (Vq.Run.load (acc2 _ _ _ _ _ _ _ _ _ _ _ _ _ _ _ _ _ _ _ _ _ _) _ _) ?_
  refine Vq.Run.bind (Vq.Run.load (acc2 _ _ _ _ _ _ _ _ _ _ _ _ _ _ _ _ _ _ _ _ _ _) _ _) ?_
  refine Vq.Run.bind (Vq.Run.load (acc2 _ _ _ _ _ _ _ _ _ _ _ _ _ _ _ _ _ _ _ _ _ _) _ _) ?_
  exact Vq.Run.pure _ _

theorem run_part1b (hi : ¬ first i) : Vq.Run (defs := defs₀ (F := F)) Variants.none (c : Thread nD τ) E (R X c arg1 arg2 arg3 arg4 arg5 arg6 arg7 arg8 arg9 arg10 arg11 arg12 arg13 arg14 arg15 arg16 (h0 X) (z0 X) (g0 X) o)
    (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) ⟨v4 X, v27 X, v32 X⟩
    (R X c arg1 arg2 arg3 arg4 arg5 arg6 arg7 arg8 arg9 arg10 arg11 arg12 arg13 arg14 arg15 arg16 (h0 X) (z0 X) (g0 X) o) := by
  rw [k0_part1_eq_skeleton]; unfold k0_part1_skel
  refine Vq.Run.neg (U := UR sig nD τ) hi ?_
  refine Vq.Run.bind (Vq.Run.load (acc1 _ _ _ _ _ _ _ _ _ _ _ _ _ _ _ _ _ _ _ _ _ _) _ _) ?_
  refine Vq.Run.bind (Vq.Run.load (acc3 _ _ _ _ _ _ _ _ _ _ _ _ _ _ _ _ _ _ _ _ _ _) _ _) ?_
  refine Vq.Run.bind (Vq.Run.load (acc2 _ _ _ _ _ _ _ _ _ _ _ _ _ _ _ _ _ _ _ _ _ _) _ _) ?_
  refine Vq.Run.bind (Vq.Run.load (acc2 _ _ _ _ _ _ _ _ _ _ _ _ _ _ _ _ _ _ _ _ _ _) _ _) ?_
  refine Vq.Run.bind (Vq.Run.load (acc2 _ _ _ _ _ _ _ _ _ _ _ _ _ _ _ _ _ _ _ _ _ _) _ _) ?_
  refine Vq.Run.bind (Vq.Run.load (acc2 _ _ _ _ _ _ _ _ _ _ _ _ _ _ _ _ _ _ _ _ _ _) _ _) ?_
  exact Vq.Run.pure _ _

theorem run_part2 : Vq.Run (defs := defs₀ (F := F)) Variants.none (c : Thread nD τ) E (R X c arg1 arg2 arg3 arg4 arg5 arg6 arg7 arg8 arg9 arg10 arg11 arg12 arg13 arg14 arg15 arg16 (h0 X) (z0 X) (g0 X) o)
    (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v4 X) (v27 X) (v32 X)) ⟨v61 X, v63 X⟩
    (R X c arg1 arg2 arg3 arg4 arg5 arg6 arg7 arg8 arg9 arg10 arg11 arg12 arg13 arg14 arg15 arg16 (h4 X) (z0 X) (g0 X) o) := by
  rw [k0_part2_eq_skeleton]; unfold k0_part2_skel
  refine Vq.Run.bind (Vq.Run.load (acc14 _ _ _ _ _ _ _ _ _ _ _ _ _ _ _ _ _ _ _ _ _ _ _) _ _) ?_
  refine Vq.Run.bind (Vq.Run.store _ _ (acc14 _ _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.store _ _ (acc14 _ _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.store _ _ (acc14 _ _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.store _ _ (acc14 _ _ _ _ _ _ _ _ _ _ _ _ _ _ _ _ _ _ _ _ _ _ _) _ _) ?_
  refine Vq.Run.bind (Vq.Run.load (acc3 _ _ _ _ _ _ _ _ _ _ _ _ _ _ _ _ _ _ _ _ _ _) _ _) ?_
  exact Vq.Run.pure _ _

theorem run_part3 : Vq.Run (defs := defs₀ (F := F)) Variants.none (c : Thread nD τ) E (R X c arg1 arg2 arg3 arg4 arg5 arg6 arg7 arg8 arg9 arg10 arg11 arg12 arg13 arg14 arg15 arg16 (h4 X) (z0 X) (g0 X) o)
    (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v4 X) (v61 X) (v63 X)) ⟨v88 X, v95 X, v96 X⟩
    (R X c arg1 arg2 arg3 arg4 arg5 arg6 arg7 arg8 arg9 arg10 arg11 arg12 arg13 arg14 arg15 arg16 (h5 X) (z0 X) (g0 X) o) := by
  rw [k0_part3_eq_skeleton]; unfold k0_part3_skel
  refine Vq.Run.bind (Vq.Run.load (acc2 _ _ _ _ _ _ _ _ _ _ _ _ _ _ _ _ _ _ _ _ _ _) _ _) ?_
  refine Vq.Run.bind (Vq.Run.load (acc2 _ _ _ _ _ _ _ _ _ _ _ _ _ _ _ _ _ _ _ _ _ _) _ _) ?_
  refine Vq.Run.bind (Vq.Run.load (acc2 _ _ _ _ _ _ _ _ _ _ _ _ _ _ _ _ _ _ _ _ _ _) _ _) ?_
  refine Vq.Run.bind (Vq.Run.load (acc2 _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.store _ _ (acc14 _ _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  exact Vq.Run.pure _ _

theorem run_part4 : Vq.Run (defs := defs₀ (F := F)) Variants.none (c : Thread nD τ) E (R X c arg1 arg2 arg3 arg4 arg5 arg6 arg7 arg8 arg9 arg10 arg11 arg12 arg13 arg14 arg15 arg16 (h5 X) (z0 X) (g0 X) o)
    (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v88 X) (v95 X) (v96 X)) ⟨v120 X, v123 X⟩
    (R X c arg1 arg2 arg3 arg4 arg5 arg6 arg7 arg8 arg9 arg10 arg11 arg12 arg13 arg14 arg15 arg16 (h8 X) (z0 X) (g0 X) o) := by
  rw [k0_part4_eq_skeleton]; unfold k0_part4_skel
  refine Vq.Run.bind (Vq.Run.store _ _ (acc14 _ _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.store _ _ (acc14 _ _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.store _ _ (acc14 _ _ _ _ _ _ _ _ _ _ _ _ _ _ _ _ _ _ _ _ _ _ _) _ _) ?_
  refine Vq.Run.bind (Vq.Run.load (acc5 _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.load (acc4 _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  exact Vq.Run.pure _ _

theorem run_part5 : Vq.Run (defs := defs₀ (F := F)) Variants.none (c : Thread nD τ) E (R X c arg1 arg2 arg3 arg4 arg5 arg6 arg7 arg8 arg9 arg10 arg11 arg12 arg13 arg14 arg15 arg16 (h8 X) (z0 X) (g0 X) o)
    (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v120 X) (v123 X)) ⟨v148 X, v150 X⟩
    (R X c arg1 arg2 arg3 arg4 arg5 arg6 arg7 arg8 arg9 arg10 arg11 arg12 arg13 arg14 arg15 arg16 (h8 X) (z0 X) (g0 X) o) := by
  rw [k0_part5_eq_skeleton]; unfold k0_part5_skel
  refine Vq.Run.bind (Vq.Run.load (acc4 _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.load (acc4 _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.load (acc4 _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.load (acc4 _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  exact Vq.Run.pure _ _

theorem run_part6 : Vq.Run (defs := defs₀ (F := F)) Variants.none (c : Thread nD τ) E (R X c arg1 arg2 arg3 arg4 arg5 arg6 arg7 arg8 arg9 arg10 arg11 arg12 arg13 arg14 arg15 arg16 (h8 X) (z0 X) (g0 X) o)
    (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v148 X) (v150 X)) (v176 X)
    (R X c arg1 arg2 arg3 arg4 arg5 arg6 arg7 arg8 arg9 arg10 arg11 arg12 arg13 arg14 arg15 arg16 (h8 X) (z0 X) (g0 X) o) := by
  rw [k0_part6_eq_skeleton]; unfold k0_part6_skel
  refine Vq.Run.bind (Vq.Run.load (acc4 _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.load (acc4 _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.load (acc4 _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.load (acc4 _ _ _ _ _ _ _ _ _ _ _ _ _ _ _ _ _ _ _ _ _ _) _ _) ?_
  exact Vq.Run.pure _ _

theorem run_part7 : Vq.Run (defs := defs₀ (F := F)) Variants.none (c : Thread nD τ) E (R X c arg1 arg2 arg3 arg4 arg5 arg6 arg7 arg8 arg9 arg10 arg11 arg12 arg13 arg14 arg15 arg16 (h8 X) (z0 X) (g0 X) o)
    (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v176 X)) ⟨v197 X, v203 X⟩
    (R X c arg1 arg2 arg3 arg4 arg5 arg6 arg7 arg8 arg9 arg10 arg11 arg12 arg13 arg14 arg15 arg16 (h8 X) (z0 X) (g0 X) o) := by
  rw [k0_part7_eq_skeleton]; unfold k0_part7_skel
  refine Vq.Run.bind (Vq.Run.load (acc14 _ _ _ _ _ _ _ _ _ _ _ _ _ _ _ _ _ _ _ _ _ _ _) _ _) ?_
  refine Vq.Run.bind (Vq.Run.load (acc4 _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.load (acc4 _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.load (acc4 _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.load (acc4 _ _ _ _ _ _ _ _ _ _ _ _ _ _ _ _ _ _ _ _ _ _) _ _) ?_
  exact Vq.Run.pure _ _

theorem run_part8 : Vq.Run (defs := defs₀ (F := F)) Variants.none (c : Thread nD τ) E (R X c arg1 arg2 arg3 arg4 arg5 arg6 arg7 arg8 arg9 arg10 arg11 arg12 arg13 arg14 arg15 arg16 (h8 X) (z0 X) (g0 X) o)
    (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v197 X) (v203 X)) ⟨v225 X, v228 X, v231 X, cst_217 X⟩
    (R X c arg1 arg2 arg3 arg4 arg5 arg6 arg7 arg8 arg9 arg10 arg11 arg12 arg13 arg14 arg15 arg16 (h8 X) (z0 X) (g0 X) o) := by
  rw [k0_part8_eq_skeleton]; unfold k0_part8_skel
  refine Vq.Run.bind (Vq.Run.load (acc14 _ _ _ _ _ _ _ _ _ _ _ _ _ _ _ _ _ _ _ _ _ _ _) _ _) ?_
  refine Vq.Run.bind (Vq.Run.load (acc4 _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.load (acc4 _ _ _ _ _ _ _ _ _ _ _ _ _ _ _ _ _ _ _ _ _ _) _ _) ?_
  refine Vq.Run.bind (Vq.Run.load (acc14 _ _ _ _ _ _ _ _ _ _ _ _ _ _ _ _ _ _ _ _ _ _ _) _ _) ?_
  refine Vq.Run.bind (Vq.Run.load (acc4 _ _ _ _ _ _ _ _ _ _ _ _ _ _ _ _ _ _ _ _ _ _) _ _) ?_
  refine Vq.Run.bind (Vq.Run.load (acc6 _ _ _ _ _ _ _ _ _ _ _ _ _ _ _ _ _ _ _ _ _ _) _ _) ?_
  exact Vq.Run.pure _ _

theorem run_part9 : Vq.Run (defs := defs₀ (F := F)) Variants.none (c : Thread nD τ) E (R X c arg1 arg2 arg3 arg4 arg5 arg6 arg7 arg8 arg9 arg10 arg11 arg12 arg13 arg14 arg15 arg16 (h8 X) (z0 X) (g0 X) o)
    (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v225 X) (v228 X) (v231 X) (cst_217 X)) ⟨v270 X, v273 X, v274 X⟩
    (R X c arg1 arg2 arg3 arg4 arg5 arg6 arg7 arg8 arg9 arg10 arg11 arg12 arg13 arg14 arg15 arg16 (h8 X) (z0 X) (g0 X) o) := by
  rw [k0_part9_eq_skeleton]; unfold k0_part9_skel
  refine Vq.Run.bind (Vq.Run.load (acc7 _ _ _ _ _ _ _ _ _ _ _ _ _ _ _ _ _ _ _ _ _ _) _ _) ?_
  refine Vq.Run.bind (Vq.Run.load (acc6 _ _ _ _ _ _ _ _ _ _ _ _ _ _ _ _ _ _ _ _ _ _) _ _) ?_
  refine Vq.Run.bind (Vq.Run.load (acc7 _ _ _ _ _ _ _ _ _ _ _ _ _ _ _ _ _ _ _ _ _ _) _ _) ?_
  refine Vq.Run.bind (Vq.Run.load (acc8 _ _ _ _ _ _ _ _ _ _ _ _ _ _ _ _ _ _ _ _ _ _) _ _) ?_
  exact Vq.Run.pure _ _

theorem run_part10 : Vq.Run (defs := defs₀ (F := F)) Variants.none (c : Thread nD τ) E (R X c arg1 arg2 arg3 arg4 arg5 arg6 arg7 arg8 arg9 arg10 arg11 arg12 arg13 arg14 arg15 arg16 (h8 X) (z0 X) (g0 X) o)
    (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v270 X) (v273 X) (v274 X)) ⟨v303 X, v305 X⟩
    (R X c arg1 arg2 arg3 arg4 arg5 arg6 arg7 arg8 arg9 arg10 arg11 arg12 arg13 arg14 arg15 arg16 (h8 X) (z1 X) (g0 X) o) := by
  rw [k0_part10_eq_skeleton]; unfold k0_part10_skel
  refine Vq.Run.bind (Vq.Run.load (acc8 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  refine Vq.Run.bind (Vq.Run.storeSub _ _ (acc15 _ _ _ _ _ _ _ _ _ _ _ _ _ _ _ _ _ _ _ _ _ _ _) (acc15 _ _ _ _ _ _ _ _ _ _ _ _ _ _ _ _ _ _ _ _ _ _ _) _ _) ?_
  refine Vq.Run.bind (Vq.Run.load (acc10 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  refine Vq.Run.bind (Vq.Run.load (acc9 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  refine Vq.Run.bind (Vq.Run.load (acc9 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  exact Vq.Run.pure _ _

theorem run_part11 : Vq.Run (defs := defs₀ (F := F)) Variants.none (c : Thread nD τ) E (R X c arg1 arg2 arg3 arg4 arg5 arg6 arg7 arg8 arg9 arg10 arg11 arg12 arg13 arg14 arg15 arg16 (h8 X) (z1 X) (g0 X) o)
    (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v303 X) (v305 X)) ⟨v333 X, v335 X⟩
    (R X c arg1 arg2 arg3 arg4 arg5 arg6 arg7 arg8 arg9 arg10 arg11 arg12 arg13 arg14 arg15 arg16 (h8 X) (z1 X) (g1 X) o) := by
  rw [k0_part11_eq_skeleton]; unfold k0_part11_skel
  refine Vq.Run.bind (Vq.Run.load (acc9 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  refine Vq.Run.bind (Vq.Run.load (acc9 _ _ _ _ _ _ _ _ _ _ _ _ _ _ _ _ _ _ _ _ _ _) _ _) ?_
  refine Vq.Run.bind (Vq.Run.load (acc16 _ _ _ _ _ _ _ _ _ _ _ _ _ _ _ _ _ _ _ _ _ _ _) _ _) ?_
  refine Vq.Run.bind (Vq.Run.storeSub _ _ (acc16 _ _ _ _ _ _ _ _ _ _ _ _ _ _ _ _ _ _ _ _ _ _ _) (acc16 _ _ _ _ _ _ _ _ _ _ _ _ _ _ _ _ _ _ _ _ _ _ _) _ _) ?_
  refine Vq.Run.bind (Vq.Run.load (acc10 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  refine Vq.Run.bind (Vq.Run.load (acc9 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  exact Vq.Run.pure _ _

theorem run_part12 : Vq.Run (defs := defs₀ (F := F)) Variants.none (c : Thread nD τ) E (R X c arg1 arg2 arg3 arg4 arg5 arg6 arg7 arg8 arg9 arg10 arg11 arg12 arg13 arg14 arg15 arg16 (h8 X) (z1 X) (g1 X) o)
    (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v333 X) (v335 X)) ⟨v363 X, v365 X⟩
    (R X c arg1 arg2 arg3 arg4 arg5 arg6 arg7 arg8 arg9 arg10 arg11 arg12 arg13 arg14 arg15 arg16 (h8 X) (z1 X) (g2 X) o) := by
  rw [k0_part12_eq_skeleton]; unfold k0_part12_skel
  refine Vq.Run.bind (Vq.Run.load (acc9 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  refine Vq.Run.bind (Vq.Run.load (acc9 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  refine Vq.Run.bind (Vq.Run.load (acc9 _ _ _ _ _ _ _ _ _ _ _ _ _ _ _ _ _ _ _ _ _ _) _ _) ?_
  refine Vq.Run.bind (Vq.Run.load (acc16 _ _ _ _ _ _ _ _ _ _ _ _ _ _ _ _ _ _ _ _ _ _ _) _ _) ?_
  refine Vq.Run.bind (Vq.Run.storeSub _ _ (acc16 _ _ _ _ _ _ _ _ _ _ _ _ _ _ _ _ _ _ _ _ _ _ _) (acc16 _ _ _ _ _ _ _ _ _ _ _ _ _ _ _ _ _ _ _ _ _ _ _) _ _) ?_
  refine Vq.Run.bind (Vq.Run.load (acc10 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  exact Vq.Run.pure _ _

theorem run_part13 : Vq.Run (defs := defs₀ (F := F)) Variants.none (c : Thread nD τ) E (R X c arg1 arg2 arg3 arg4 arg5 arg6 arg7 arg8 arg9 arg10 arg11 arg12 arg13 arg14 arg15 arg16 (h8 X) (z1 X) (g2 X) o)
    (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v363 X) (v365 X)) (v394 X)
    (R X c arg1 arg2 arg3 arg4 arg5 arg6 arg7 arg8 arg9 arg10 arg11 arg12 arg13 arg14 arg15 arg16 (h8 X) (z1 X) (g2 X) o) := by
  rw [k0_part13_eq_skeleton]; unfold k0_part13_skel
  refine Vq.Run.bind (Vq.Run.load (acc9 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  refine Vq.Run.bind (Vq.Run.load (acc9 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  refine Vq.Run.bind (Vq.Run.load (acc9 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  refine Vq.Run.bind (Vq.Run.load (acc9 _ _ _ _ _ _ _ _ _ _ _ _ _ _ _ _ _ _ _ _ _ _) _ _) ?_
  refine Vq.Run.bind (Vq.Run.load (acc16 _ _ _ _ _ _ _ _ _ _ _ _ _ _ _ _ _ _ _ _ _ _ _) _ _) ?_
  exact Vq.Run.pure _ _

theorem run_part14 : Vq.Run (defs := defs₀ (F := F)) Variants.none (c : Thread nD τ) E (R X c arg1 arg2 arg3 arg4 arg5 arg6 arg7 arg8 arg9 arg10 arg11 arg12 arg13 arg14 arg15 arg16 (h8 X) (z1 X) (g2 X) o)
    (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v394 X)) ⟨v417 X, v422 X⟩
    (R X c arg1 arg2 arg3 arg4 arg5 arg6 arg7 arg8 arg9 arg10 arg11 arg12 arg13 arg14 arg15 arg16 (h8 X) (z1 X) (g3 X) o) := by
  rw [k0_part14_eq_skeleton]; unfold k0_part14_skel
  refine Vq.Run.bind (Vq.Run.storeSub _ _ (acc16 _ _ _ _ _ _ _ _ _ _ _ _ _ _ _ _ _ _ _ _ _ _ _) (acc16 _ _ _ _ _ _ _ _ _ _ _ _ _ _ _ _ _ _ _ _ _ _ _) _ _) ?_
  refine Vq.Run.bind (Vq.Run.load (acc10 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  refine Vq.Run.bind (Vq.Run.load (acc9 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  refine Vq.Run.bind (Vq.Run.load (acc9 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  refine Vq.Run.bind (Vq.Run.load (acc9 _ _ _ _ _ _ _ _ _ _ _ _ _ _ _ _ _ _ _ _ _ _) _ _) ?_
  refine Vq.Run.bind (Vq.Run.load (acc15 _ _ _ _ _ _ _ _ _ _ _ _ _ _ _ _ _ _ _ _ _ _ _) _ _) ?_
  refine Vq.Run.bind (Vq.Run.load (acc9 _ _ _ _ _ _ _ _ _ _ _ _ _ _ _ _ _ _ _ _ _ _) _ _) ?_
  exact Vq.Run.pure _ _

theorem run_part15 : Vq.Run (defs := defs₀ (F := F)) Variants.none (c : Thread nD τ) E (R X c arg1 arg2 arg3 arg4 arg5 arg6 arg7 arg8 arg9 arg10 arg11 arg12 arg13 arg14 arg15 arg16 (h8 X) (z1 X) (g3 X) o)
    (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v417 X) (v422 X)) (v449 X)
    (R X c arg1 arg2 arg3 arg4 arg5 arg6 arg7 arg8 arg9 arg10 arg11 arg12 arg13 arg14 arg15 arg16 (h8 X) (z1 X) (g4 X) o) := by
  rw [k0_part15_eq_skeleton]; unfold k0_part15_skel
  refine Vq.Run.bind (Vq.Run.load (acc16 _ _ _ _ _ _ _ _ _ _ _ _ _ _ _ _ _ _ _ _ _ _ _) _ _) ?_
  refine Vq.Run.bind (Vq.Run.storeSub _ _ (acc16 _ _ _ _ _ _ _ _ _ _ _ _ _ _ _ _ _ _ _ _ _ _ _) (acc16 _ _ _ _ _ _ _ _ _ _ _ _ _ _ _ _ _ _ _ _ _ _ _) _ _) ?_
  refine Vq.Run.bind (Vq.Run.load (acc12 _ _ _ _ _ _ _ _ _ _ _ _ _ _ _ _ _ _ _ _ _ _) _ _) ?_
  refine Vq.Run.bind (Vq.Run.load (acc16 _ _ _ _ _ _ _ _ _ _ _ _ _ _ _ _ _ _ _ _ _ _ _) _ _) ?_
  refine Vq.Run.bind (Vq.Run.load (acc11 _ _ _ _ _ _ _ _ _ _ _ _ _ _ _ _ _ _ _ _ _ _) _ _) ?_
  refine Vq.Run.bind (Vq.Run.load (acc16 _ _ _ _ _ _ _ _ _ _ _ _ _ _ _ _ _ _ _ _ _ _ _) _ _) ?_
  refine Vq.Run.bind (Vq.Run.load (acc11 _ _ _ _ _ _ _ _ _ _ _ _ _ _ _ _ _ _ _ _ _ _) _ _) ?_
  exact Vq.Run.pure _ _

theorem run_part16 : Vq.Run (defs := defs₀ (F := F)) Variants.none (c : Thread nD τ) E (R X c arg1 arg2 arg3 arg4 arg5 arg6 arg7 arg8 arg9 arg10 arg11 arg12 arg13 arg14 arg15 arg16 (h8 X) (z1 X) (g4 X) o)
    (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v449 X)) (v477 X)
    (R X c arg1 arg2 arg3 arg4 arg5 arg6 arg7 arg8 arg9 arg10 arg11 arg12 arg13 arg14 arg15 arg16 (h8 X) (z1 X) (g4 X) o) := by
  rw [k0_part16_eq_skeleton]; unfold k0_part16_skel
  refine Vq.Run.bind (Vq.Run.load (acc16 _ _ _ _ _ _ _ _ _ _ _ _ _ _ _ _ _ _ _ _ _ _ _) _ _) ?_
  refine Vq.Run.bind (Vq.Run.load (acc11 _ _ _ _ _ _ _ _ _ _ _ _ _ _ _ _ _ _ _ _ _ _) _ _) ?_
  refine Vq.Run.bind (Vq.Run.load (acc16 _ _ _ _ _ _ _ _ _ _ _ _ _ _ _ _ _ _ _ _ _ _ _) _ _) ?_
  refine Vq.Run.bind (Vq.Run.load (acc11 _ _ _ _ _ _ _ _ _ _ _ _ _ _ _ _ _ _ _ _ _ _) _ _) ?_
  refine Vq.Run.bind (Vq.Run.load (acc16 _ _ _ _ _ _ _ _ _ _ _ _ _ _ _ _ _ _ _ _ _ _ _) _ _) ?_
  refine Vq.Run.bind (Vq.Run.load (acc11 _ _ _ _ _ _ _ _ _ _ _ _ _ _ _ _ _ _ _ _ _ _) _ _) ?_
  refine Vq.Run.bind (Vq.Run.load (acc16 _ _ _ _ _ _ _ _ _ _ _ _ _ _ _ _ _ _ _ _ _ _ _) _ _) ?_
  refine Vq.Run.bind (Vq.Run.load (acc11 _ _ _ _ _ _ _ _ _ _ _ _ _ _ _ _ _ _ _ _ _ _) _ _) ?_
  exact Vq.Run.pure _ _

theorem run_part17 : Vq.Run (defs := defs₀ (F := F)) Variants.none (c : Thread nD τ) E (R X c arg1 arg2 arg3 arg4 arg5 arg6 arg7 arg8 arg9 arg10 arg11 arg12 arg13 arg14 arg15 arg16 (h8 X) (z1 X) (g4 X) o)
    (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v477 X)) ⟨v498 X, v501 X, v503 X⟩
    (R X c arg1 arg2 arg3 arg4 arg5 arg6 arg7 arg8 arg9 arg10 arg11 arg12 arg13 arg14 arg15 arg16 (h8 X) (z1 X) (g4 X) o) := by
  rw [k0_part17_eq_skeleton]; unfold k0_part17_skel
  refine Vq.Run.bind (Vq.Run.load (acc16 _ _ _ _ _ _ _ _ _ _ _ _ _ _ _ _ _ _ _ _ _ _ _) _ _) ?_
  refine Vq.Run.bind (Vq.Run.load (acc11 _ _ _ _ _ _ _ _ _ _ _ _ _ _ _ _ _ _ _ _ _ _) _ _) ?_
  refine Vq.Run.bind (Vq.Run.load (acc16 _ _ _ _ _ _ _ _ _ _ _ _ _ _ _ _ _ _ _ _ _ _ _) _ _) ?_
  refine Vq.Run.bind (Vq.Run.load (acc11 _ _ _ _ _ _ _ _ _ _ _ _ _ _ _ _ _ _ _ _ _ _) _ _) ?_
  refine Vq.Run.bind (Vq.Run.load (acc16 _ _ _ _ _ _ _ _ _ _ _ _ _ _ _ _ _ _ _ _ _ _ _) _ _) ?_
  refine Vq.Run.bind (Vq.Run.load (acc11 _ _ _ _ _ _ _ _ _ _ _ _ _ _ _ _ _ _ _ _ _ _) _ _) ?_
  refine Vq.Run.bind (Vq.Run.load (acc16 _ _ _ _ _ _ _ _ _ _ _ _ _ _ _ _ _ _ _ _ _ _ _) _ _) ?_
  refine Vq.Run.bind (Vq.Run.load (acc11 _ _ _ _ _ _ _ _ _ _ _ _ _ _ _ _ _ _ _ _ _ _) _ _) ?_
  exact Vq.Run.pure _ _

theorem run_part18 : Vq.Run (defs := defs₀ (F := F)) Variants.none (c : Thread nD τ) E (R X c arg1 arg2 arg3 arg4 arg5 arg6 arg7 arg8 arg9 arg10 arg11 arg12 arg13 arg14 arg15 arg16 (h8 X) (z1 X) (g4 X) o)
    (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v498 X) (v501 X) (v503 X)) ⟨v526 X, v529 X⟩
    (R X c arg1 arg2 arg3 arg4 arg5 arg6 arg7 arg8 arg9 arg10 arg11 arg12 arg13 arg14 arg15 arg16 (h8 X) (z1 X) (g4 X) o) := by
  rw [k0_part18_eq_skeleton]; unfold k0_part18_skel
  refine Vq.Run.bind (Vq.Run.load (acc16 _ _ _ _ _ _ _ _ _ _ _ _ _ _ _ _ _ _ _ _ _ _ _) _ _) ?_
  refine Vq.Run.bind (Vq.Run.load (acc11 _ _ _ _ _ _ _ _ _ _ _ _ _ _ _ _ _ _ _ _ _ _) _ _) ?_
  refine Vq.Run.bind (Vq.Run.load (acc16 _ _ _ _ _ _ _ _ _ _ _ _ _ _ _ _ _ _ _ _ _ _ _) _ _) ?_
  refine Vq.Run.bind (Vq.Run.load (acc11 _ _ _ _ _ _ _ _ _ _ _ _ _ _ _ _ _ _ _ _ _ _) _ _) ?_
  refine Vq.Run.bind (Vq.Run.load (acc16 _ _ _ _ _ _ _ _ _ _ _ _ _ _ _ _ _ _ _ _ _ _ _) _ _) ?_
  refine Vq.Run.bind (Vq.Run.load (acc11 _ _ _ _ _ _ _ _ _ _ _ _ _ _ _ _ _ _ _ _ _ _) _ _) ?_
  refine Vq.Run.bind (Vq.Run.load (acc16 _ _ _ _ _ _ _ _ _ _ _ _ _ _ _ _ _ _ _ _ _ _ _) _ _) ?_
  exact Vq.Run.pure _ _

theorem run_body_a (hi : first i) (eh : h0 X = k0_pay2) (ez : z0 X = k0_pay3) (eg : g0 X = k0_pay4) : Vq.Run (defs := defs₀ (F := F)) Variants.none (c : Thread nD τ) E (R X c arg1 arg2 arg3 arg4 arg5 arg6 arg7 arg8 arg9 arg10 arg11 arg12 arg13 arg14 arg15 arg16 h z g o)
    (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) ⟨⟩
    (R X c arg1 arg2 arg3 arg4 arg5 arg6 arg7 arg8 arg9 arg10 arg11 arg12 arg13 arg14 arg15 arg16 (h8 X) (z1 X) (g4 X) (out X)) := by
  rw [cc0__body_eq_skeleton]; unfold cc0__body_skel
  refine Vq.Run.bind (a := v547 X) (R' := (R X c arg1 arg2 arg3 arg4 arg5 arg6 arg7 arg8 arg9 arg10 arg11 arg12 arg13 arg14 arg15 arg16 (h8 X) (z1 X) (g4 X) o)) ?_ ?_
  · rw [k0_part19_eq_skeleton]; unfold k0_part19_skel
    refine Vq.Run.bind (run_part1a X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h z g o hi eh ez eg) ?_
    refine Vq.Run.bind (run_part2 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part3 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part4 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part5 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part6 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part7 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part8 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part9 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part10 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part11 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part12 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part13 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part14 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part15 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part16 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part17 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part18 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (Vq.Run.load (acc11 _ _ _ _ _ _ _ _ _ _ _ _ _ _ _ _ _ _ _ _ _ _) _ _) ?_
    refine Vq.Run.bind (Vq.Run.load (acc16 _ _ _ _ _ _ _ _ _ _ _ _ _ _ _ _ _ _ _ _ _ _ _) _ _) ?_
    refine Vq.Run.bind (Vq.Run.load (acc11 _ _ _ _ _ _ _ _ _ _ _ _ _ _ _ _ _ _ _ _ _ _) _ _) ?_
    refine Vq.Run.bind (Vq.Run.load (acc16 _ _ _ _ _ _ _ _ _ _ _ _ _ _ _ _ _ _ _ _ _ _ _) _ _) ?_
    refine Vq.Run.bind (Vq.Run.load (acc11 _ _ _ _ _ _ _ _ _ _ _ _ _ _ _ _ _ _ _ _ _ _) _ _) ?_
    exact Vq.Run.pure _ _
  have e : VecWindow.put o ![0, 0, 0] S1x3136x48.size (k0_pay1 (v547 X)) = out X := Vq.put_full _ (fun a => by fin_cases a <;> rfl) _
  rw [← e]
  refine Vq.Run.bind (Vq.Run.load (acc13 _ _ _ _ _ _ _ _ _ _ _ _ _ _ _ _ _ _ _ _ _ _ _) _ _) ?_
  refine Vq.Run.bind (Vq.Run.store _ _ (acc13 _ _ _ _ _ _ _ _ _ _ _ _ _ _ _ _ _ _ _ _ _ _ _) _ _) ?_
  exact Vq.Run.pure _ _

theorem run_body_b (hi : ¬ first i) : Vq.Run (defs := defs₀ (F := F)) Variants.none (c : Thread nD τ) E (R X c arg1 arg2 arg3 arg4 arg5 arg6 arg7 arg8 arg9 arg10 arg11 arg12 arg13 arg14 arg15 arg16 (h0 X) (z0 X) (g0 X) o)
    (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) ⟨⟩
    (R X c arg1 arg2 arg3 arg4 arg5 arg6 arg7 arg8 arg9 arg10 arg11 arg12 arg13 arg14 arg15 arg16 (h8 X) (z1 X) (g4 X) (out X)) := by
  rw [cc0__body_eq_skeleton]; unfold cc0__body_skel
  refine Vq.Run.bind (a := v547 X) (R' := (R X c arg1 arg2 arg3 arg4 arg5 arg6 arg7 arg8 arg9 arg10 arg11 arg12 arg13 arg14 arg15 arg16 (h8 X) (z1 X) (g4 X) o)) ?_ ?_
  · rw [k0_part19_eq_skeleton]; unfold k0_part19_skel
    refine Vq.Run.bind (run_part1b X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o hi) ?_
    refine Vq.Run.bind (run_part2 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part3 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part4 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part5 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part6 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part7 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part8 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part9 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part10 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part11 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part12 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part13 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part14 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part15 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part16 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part17 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (run_part18 X c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 o) ?_
    refine Vq.Run.bind (Vq.Run.load (acc11 _ _ _ _ _ _ _ _ _ _ _ _ _ _ _ _ _ _ _ _ _ _) _ _) ?_
    refine Vq.Run.bind (Vq.Run.load (acc16 _ _ _ _ _ _ _ _ _ _ _ _ _ _ _ _ _ _ _ _ _ _ _) _ _) ?_
    refine Vq.Run.bind (Vq.Run.load (acc11 _ _ _ _ _ _ _ _ _ _ _ _ _ _ _ _ _ _ _ _ _ _) _ _) ?_
    refine Vq.Run.bind (Vq.Run.load (acc16 _ _ _ _ _ _ _ _ _ _ _ _ _ _ _ _ _ _ _ _ _ _ _) _ _) ?_
    refine Vq.Run.bind (Vq.Run.load (acc11 _ _ _ _ _ _ _ _ _ _ _ _ _ _ _ _ _ _ _ _ _ _) _ _) ?_
    exact Vq.Run.pure _ _
  have e : VecWindow.put o ![0, 0, 0] S1x3136x48.size (k0_pay1 (v547 X)) = out X := Vq.put_full _ (fun a => by fin_cases a <;> rfl) _
  rw [← e]
  refine Vq.Run.bind (Vq.Run.load (acc13 _ _ _ _ _ _ _ _ _ _ _ _ _ _ _ _ _ _ _ _ _ _ _) _ _) ?_
  refine Vq.Run.bind (Vq.Run.store _ _ (acc13 _ _ _ _ _ _ _ _ _ _ _ _ _ _ _ _ _ _ _ _ _ _ _) _ _) ?_
  exact Vq.Run.pure _ _

end Cert.KernelIdeal.Body

end
-- ==== Proof.KernelIdealLaunch.lean ====
/- The launch of the kernel: what the three scratch buffers hold from one image to the next, the body obligation at every
   grid point, the run of @main and its frame. -/
module

public import proofs.«01_k».proof.Proof.KernelIdealBody
public import proofs.«01_k».proof.Proof.Gen.KernelIdeal.Frame
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's test holds at point 0 only. -/
theorem first_iff : ∀ t : Fin cfg0.N, first (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have h : first (grid0.coords t) ↔ t.val % 8 = 0 := by
      simp only [first, e0]
      word_cmp
    rw [h, Nat.mod_eq_of_lt ht]
   : ∀ t : Fin grid0.N, first (grid0.coords t) ↔ t.val = 0)

/-- Each window's staging memref at point `t`. -/
abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)
abbrev scM0 : Memref sig .tc .vmem S2x2x57x57x192 .f32 := Memref.whole cc0_scratch0
abbrev scM1 : Memref sig .tc .vmem S58x58x64 .bf16 := Memref.whole cc0_scratch1
abbrev scM2 : Memref sig .tc .vmem S2x2x58x58x192 .bf16 := Memref.whole cc0_scratch2

/-- The scratch buffers at some contents, as the launch hands them over. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- What point `t` reads, given the scratch buffers' contents before it. -/
def envOf (c : Dev nD) (t : Fin cfg0.N) (h : Vec F S2x2x57x57x192 .f32) (z : Vec F S58x58x64 .bf16) (g : Vec F S2x2x58x58x192 .bf16) : Env F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, h, z, g⟩

/-- What point `n` reads: the scratch buffers cleared at the first point, afterwards as the point before left them. -/
def env (c : Dev nD) : (n : ℕ) → n < cfg0.N → Env F
  | 0, hn => envOf m c ⟨0, hn⟩ k0_pay2 k0_pay3 k0_pay4
  | n + 1, hn => envOf m c ⟨n + 1, hn⟩ (h8 (env c n (Nat.lt_of_succ_lt hn))) (z1 (env c n (Nat.lt_of_succ_lt hn))) (g4 (env c n (Nat.lt_of_succ_lt hn)))

theorem env_x1 (c : Dev nD) (n : ℕ) (hn : n < cfg0.N) : (env m c n hn).x1 = iblk m c 0 ⟨n, hn⟩ := by cases n <;> rfl
theorem env_x2 (c : Dev nD) (n : ℕ) (hn : n < cfg0.N) : (env m c n hn).x2 = iblk m c 1 ⟨n, hn⟩ := by cases n <;> rfl
theorem env_x3 (c : Dev nD) (n : ℕ) (hn : n < cfg0.N) : (env m c n hn).x3 = iblk m c 2 ⟨n, hn⟩ := by cases n <;> rfl
theorem env_x4 (c : Dev nD) (n : ℕ) (hn : n < cfg0.N) : (env m c n hn).x4 = iblk m c 3 ⟨n, hn⟩ := by cases n <;> rfl
theorem env_x5 (c : Dev nD) (n : ℕ) (hn : n < cfg0.N) : (env m c n hn).x5 = iblk m c 4 ⟨n, hn⟩ := by cases n <;> rfl
theorem env_x6 (c : Dev nD) (n : ℕ) (hn : n < cfg0.N) : (env m c n hn).x6 = iblk m c 5 ⟨n, hn⟩ := by cases n <;> rfl
theorem env_x7 (c : Dev nD) (n : ℕ) (hn : n < cfg0.N) : (env m c n hn).x7 = iblk m c 6 ⟨n, hn⟩ := by cases n <;> rfl
theorem env_x8 (c : Dev nD) (n : ℕ) (hn : n < cfg0.N) : (env m c n hn).x8 = iblk m c 7 ⟨n, hn⟩ := by cases n <;> rfl
theorem env_x9 (c : Dev nD) (n : ℕ) (hn : n < cfg0.N) : (env m c n hn).x9 = iblk m c 8 ⟨n, hn⟩ := by cases n <;> rfl
theorem env_x10 (c : Dev nD) (n : ℕ) (hn : n < cfg0.N) : (env m c n hn).x10 = iblk m c 9 ⟨n, hn⟩ := by cases n <;> rfl
theorem env_x11 (c : Dev nD) (n : ℕ) (hn : n < cfg0.N) : (env m c n hn).x11 = iblk m c 10 ⟨n, hn⟩ := by cases n <;> rfl
theorem env_x12 (c : Dev nD) (n : ℕ) (hn : n < cfg0.N) : (env m c n hn).x12 = iblk m c 11 ⟨n, hn⟩ := by cases n <;> rfl

/-- The region invariant before position `n`: before the first point the scratch at anything, afterwards as the point
    before left it. -/
def PhiS (c : Dev nD) : (n : ℕ) → n ≤ cfg0.N → sProp 𝕄
  | 0, _ => Pipeline.ΦA spec0 c
  | n + 1, hn => iprop(iprop(owns (c : Thread nD τ) scM0 fullShare (h8 (env m c n hn)) ∗ owns (c : Thread nD τ) scM1 fullShare (z1 (env m c n hn)) ∗ owns (c : Thread nD τ) scM2 fullShare (g4 (env m c n hn))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (h8 (env m c n hn)) ∗ owns (c : Thread nD τ) scM1 fullShare (z1 (env m c n hn)) ∗ owns (c : Thread nD τ) scM2 fullShare (g4 (env m c n hn))) ∗ (∃ r, prngReg c r)) := rfl

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out (env m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out (env m c t.val t.isLt) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 3200000 in
/-- The body's run with the invariant beside it, at the first point. -/
theorem glue_a {D1 D2 D3 D4 D5 D6 D7 D8 D9 D10 D11 D12 D13 : Type} (X : Env F) (c : Dev nD) (i : grid0.Coords) (arg1 : Memref sig .tc .vmem S1x113x113x12 .f32) (harg1 : arg1.IsWhole) (arg2 : Memref sig .tc .vmem S4x12x192 .f32) (harg2 : arg2.IsWhole) (arg3 : Memref sig .tc .vmem S1x192 .f32) (harg3 : arg3.IsWhole) (arg4 : Memref sig .tc .vmem S16x192x64 .f32) (harg4 : arg4.IsWhole) (arg5 : Memref sig .tc .vmem S1x64 .f32) (harg5 : arg5.IsWhole) (arg6 : Memref sig .tc .vmem S64x512 .f32) (harg6 : arg6.IsWhole) (arg7 : Memref sig .tc .vmem S1x512 .f32) (harg7 : arg7.IsWhole) (arg8 : Memref sig .tc .vmem S512x64 .f32) (harg8 : arg8.IsWhole) (arg9 : Memref sig .tc .vmem S16x64x192 .bf16) (harg9 : arg9.IsWhole) (arg10 : Memref sig .tc .vmem S1x192 .f32) (harg10 : arg10.IsWhole) (arg11 : Memref sig .tc .vmem S16x192x48 .bf16) (harg11 : arg11.IsWhole) (arg12 : Memref sig .tc .vmem S1x48 .f32) (harg12 : arg12.IsWhole) (arg13 : Memref sig .tc .vmem S1x3136x48 .f32) (harg13 : arg13.IsWhole) (arg14 : Memref sig .tc .vmem S2x2x57x57x192 .f32) (harg14 : arg14.IsWhole) (arg15 : Memref sig .tc .vmem S58x58x64 .bf16) (harg15 : arg15.IsWhole) (arg16 : Memref sig .tc .vmem S2x2x58x58x192 .bf16) (harg16 : arg16.IsWhole)
    (b1 : Vec F S1x113x113x12 .f32) (b2 : Vec F S4x12x192 .f32) (b3 : Vec F S1x192 .f32) (b4 : Vec F S16x192x64 .f32) (b5 : Vec F S1x64 .f32) (b6 : Vec F S64x512 .f32) (b7 : Vec F S1x512 .f32) (b8 : Vec F S512x64 .f32) (b9 : Vec F S16x64x192 .bf16) (b10 : Vec F S1x192 .f32) (b11 : Vec F S16x192x48 .bf16) (b12 : Vec F S1x48 .f32) (o : D13 → Vec F S1x3136x48 .f32) (q1 : X.x1 = b1) (q2 : X.x2 = b2) (q3 : X.x3 = b3) (q4 : X.x4 = b4) (q5 : X.x5 = b5) (q6 : X.x6 = b6) (q7 : X.x7 = b7) (q8 : X.x8 = b8) (q9 : X.x9 = b9) (q10 : X.x10 = b10) (q11 : X.x11 = b11) (q12 : X.x12 = b12)
    (hi : first i) (eh : h0 X = k0_pay2) (ez : z0 X = k0_pay3) (eg : g0 X = k0_pay4) (G H : sProp 𝕄) :
    iprop((((∃ d, owns (c : Thread nD τ) arg14 fullShare d) ∗ (∃ d, owns (c : Thread nD τ) arg15 fullShare d) ∗ (∃ d, owns (c : Thread nD τ) arg16 fullShare d)) ∗ G) ∗ H
      ∗ (∃ d : D1, owns (c : Thread nD τ) arg1 fullShare b1)
      ∗ (∃ d : D2, owns (c : Thread nD τ) arg2 fullShare b2)
      ∗ (∃ d : D3, owns (c : Thread nD τ) arg3 fullShare b3)
      ∗ (∃ d : D4, owns (c : Thread nD τ) arg4 fullShare b4)
      ∗ (∃ d : D5, owns (c : Thread nD τ) arg5 fullShare b5)
      ∗ (∃ d : D6, owns (c : Thread nD τ) arg6 fullShare b6)
      ∗ (∃ d : D7, owns (c : Thread nD τ) arg7 fullShare b7)
      ∗ (∃ d : D8, owns (c : Thread nD τ) arg8 fullShare b8)
      ∗ (∃ d : D9, owns (c : Thread nD τ) arg9 fullShare b9)
      ∗ (∃ d : D10, owns (c : Thread nD τ) arg10 fullShare b10)
      ∗ (∃ d : D11, owns (c : Thread nD τ) arg11 fullShare b11)
      ∗ (∃ d : D12, owns (c : Thread nD τ) arg12 fullShare b12)
      ∗ (∃ d : D13, owns (c : Thread nD τ) arg13 fullShare (o d)))
    ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun _ => iprop(((owns (c : Thread nD τ) arg14 fullShare (h8 X) ∗ owns (c : Thread nD τ) arg15 fullShare (z1 X) ∗ owns (c : Thread nD τ) arg16 fullShare (g4 X)) ∗ G) ∗ H
      ∗ owns (c : Thread nD τ) arg1 fullShare b1
      ∗ owns (c : Thread nD τ) arg2 fullShare b2
      ∗ owns (c : Thread nD τ) arg3 fullShare b3
      ∗ owns (c : Thread nD τ) arg4 fullShare b4
      ∗ owns (c : Thread nD τ) arg5 fullShare b5
      ∗ owns (c : Thread nD τ) arg6 fullShare b6
      ∗ owns (c : Thread nD τ) arg7 fullShare b7
      ∗ owns (c : Thread nD τ) arg8 fullShare b8
      ∗ owns (c : Thread nD τ) arg9 fullShare b9
      ∗ owns (c : Thread nD τ) arg10 fullShare b10
      ∗ owns (c : Thread nD τ) arg11 fullShare b11
      ∗ owns (c : Thread nD τ) arg12 fullShare b12
      ∗ owns (c : Thread nD τ) arg13 fullShare (out X))) := by
  subst q1
  subst q2
  subst q3
  subst q4
  subst q5
  subst q6
  subst q7
  subst q8
  subst q9
  subst q10
  subst q11
  subst q12
  iintro ⟨⟨⟨⟨%e0, S0⟩, ⟨%e1, S1⟩, ⟨%e2, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_body_a X c Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 e0 e1 e2 (o d12) hi eh ez eg _)
  isplitl [H0 H1 H2 H3 H4 H5 H6 H7 H8 H9 H10 H11 H12 S0 S1 S2]
  · unfold R
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    iexact S2
  · unfold R
    iintro ⟨H0, H1, H2, H3, H4, H5, H6, H7, H8, H9, H10, H11, H12, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

set_option maxHeartbeats 3200000 in
/-- The body's run with the invariant beside it, at a later point. -/
theorem glue_b {D1 D2 D3 D4 D5 D6 D7 D8 D9 D10 D11 D12 D13 : Type} (X : Env F) (c : Dev nD) (i : grid0.Coords) (arg1 : Memref sig .tc .vmem S1x113x113x12 .f32) (harg1 : arg1.IsWhole) (arg2 : Memref sig .tc .vmem S4x12x192 .f32) (harg2 : arg2.IsWhole) (arg3 : Memref sig .tc .vmem S1x192 .f32) (harg3 : arg3.IsWhole) (arg4 : Memref sig .tc .vmem S16x192x64 .f32) (harg4 : arg4.IsWhole) (arg5 : Memref sig .tc .vmem S1x64 .f32) (harg5 : arg5.IsWhole) (arg6 : Memref sig .tc .vmem S64x512 .f32) (harg6 : arg6.IsWhole) (arg7 : Memref sig .tc .vmem S1x512 .f32) (harg7 : arg7.IsWhole) (arg8 : Memref sig .tc .vmem S512x64 .f32) (harg8 : arg8.IsWhole) (arg9 : Memref sig .tc .vmem S16x64x192 .bf16) (harg9 : arg9.IsWhole) (arg10 : Memref sig .tc .vmem S1x192 .f32) (harg10 : arg10.IsWhole) (arg11 : Memref sig .tc .vmem S16x192x48 .bf16) (harg11 : arg11.IsWhole) (arg12 : Memref sig .tc .vmem S1x48 .f32) (harg12 : arg12.IsWhole) (arg13 : Memref sig .tc .vmem S1x3136x48 .f32) (harg13 : arg13.IsWhole) (arg14 : Memref sig .tc .vmem S2x2x57x57x192 .f32) (harg14 : arg14.IsWhole) (arg15 : Memref sig .tc .vmem S58x58x64 .bf16) (harg15 : arg15.IsWhole) (arg16 : Memref sig .tc .vmem S2x2x58x58x192 .bf16) (harg16 : arg16.IsWhole)
    (b1 : Vec F S1x113x113x12 .f32) (b2 : Vec F S4x12x192 .f32) (b3 : Vec F S1x192 .f32) (b4 : Vec F S16x192x64 .f32) (b5 : Vec F S1x64 .f32) (b6 : Vec F S64x512 .f32) (b7 : Vec F S1x512 .f32) (b8 : Vec F S512x64 .f32) (b9 : Vec F S16x64x192 .bf16) (b10 : Vec F S1x192 .f32) (b11 : Vec F S16x192x48 .bf16) (b12 : Vec F S1x48 .f32) (o : D13 → Vec F S1x3136x48 .f32) (q1 : X.x1 = b1) (q2 : X.x2 = b2) (q3 : X.x3 = b3) (q4 : X.x4 = b4) (q5 : X.x5 = b5) (q6 : X.x6 = b6) (q7 : X.x7 = b7) (q8 : X.x8 = b8) (q9 : X.x9 = b9) (q10 : X.x10 = b10) (q11 : X.x11 = b11) (q12 : X.x12 = b12)
    (hi : ¬ first i) (G H : sProp 𝕄) :
    iprop(((owns (c : Thread nD τ) arg14 fullShare (h0 X) ∗ owns (c : Thread nD τ) arg15 fullShare (z0 X) ∗ owns (c : Thread nD τ) arg16 fullShare (g0 X)) ∗ G) ∗ H
      ∗ (∃ d : D1, owns (c : Thread nD τ) arg1 fullShare b1)
      ∗ (∃ d : D2, owns (c : Thread nD τ) arg2 fullShare b2)
      ∗ (∃ d : D3, owns (c : Thread nD τ) arg3 fullShare b3)
      ∗ (∃ d : D4, owns (c : Thread nD τ) arg4 fullShare b4)
      ∗ (∃ d : D5, owns (c : Thread nD τ) arg5 fullShare b5)
      ∗ (∃ d : D6, owns (c : Thread nD τ) arg6 fullShare b6)
      ∗ (∃ d : D7, owns (c : Thread nD τ) arg7 fullShare b7)
      ∗ (∃ d : D8, owns (c : Thread nD τ) arg8 fullShare b8)
      ∗ (∃ d : D9, owns (c : Thread nD τ) arg9 fullShare b9)
      ∗ (∃ d : D10, owns (c : Thread nD τ) arg10 fullShare b10)
      ∗ (∃ d : D11, owns (c : Thread nD τ) arg11 fullShare b11)
      ∗ (∃ d : D12, owns (c : Thread nD τ) arg12 fullShare b12)
      ∗ (∃ d : D13, owns (c : Thread nD τ) arg13 fullShare (o d)))
    ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun _ => iprop(((owns (c : Thread nD τ) arg14 fullShare (h8 X) ∗ owns (c : Thread nD τ) arg15 fullShare (z1 X) ∗ owns (c : Thread nD τ) arg16 fullShare (g4 X)) ∗ G) ∗ H
      ∗ owns (c : Thread nD τ) arg1 fullShare b1
      ∗ owns (c : Thread nD τ) arg2 fullShare b2
      ∗ owns (c : Thread nD τ) arg3 fullShare b3
      ∗ owns (c : Thread nD τ) arg4 fullShare b4
      ∗ owns (c : Thread nD τ) arg5 fullShare b5
      ∗ owns (c : Thread nD τ) arg6 fullShare b6
      ∗ owns (c : Thread nD τ) arg7 fullShare b7
      ∗ owns (c : Thread nD τ) arg8 fullShare b8
      ∗ owns (c : Thread nD τ) arg9 fullShare b9
      ∗ owns (c : Thread nD τ) arg10 fullShare b10
      ∗ owns (c : Thread nD τ) arg11 fullShare b11
      ∗ owns (c : Thread nD τ) arg12 fullShare b12
      ∗ owns (c : Thread nD τ) arg13 fullShare (out X))) := by
  subst q1
  subst q2
  subst q3
  subst q4
  subst q5
  subst q6
  subst q7
  subst q8
  subst q9
  subst q10
  subst q11
  subst q12
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_body_b X c Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (o d12) hi _)
  isplitl [H0 H1 H2 H3 H4 H5 H6 H7 H8 H9 H10 H11 H12 S0 S1 S2]
  · unfold R
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    iexact S2
  · unfold R
    iintro ⟨H0, H1, H2, H3, H4, H5, H6, H7, H8, H9, H10, H11, H12, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ, PhiS_castSucc m c t]
  obtain ⟨n, hn⟩ := t
  cases n with
  | zero =>
    rw [PhiS_zero m c _ _ rfl, PhiA0_eq]
    exact glue_a (env m c 0 hn) c (grid0.coords ⟨0, hn⟩) _ _ _ _ _ _ _ _ _ _ _ _ _ _ _ _ _ _ _ _ _ _ _ _ _ _ _ _ _ _ _ _ _ _ _ _ _ _ _ _ _ _ _ _ (fun d => (dats m 0 c).before 12 ⟨0, hn⟩ d) (env_x1 m c _ hn) (env_x2 m c _ hn) (env_x3 m c _ hn) (env_x4 m c _ hn) (env_x5 m c _ hn) (env_x6 m c _ hn) (env_x7 m c _ hn) (env_x8 m c _ hn) (env_x9 m c _ hn) (env_x10 m c _ hn) (env_x11 m c _ hn) (env_x12 m c _ hn) ((first_iff ⟨0, hn⟩).mpr rfl) rfl rfl rfl _ _
  | succ n =>
    rw [PhiS_succ m c n (Nat.lt_of_succ_lt hn)]
    exact glue_b (env m c (n + 1) hn) c (grid0.coords ⟨n + 1, hn⟩) _ _ _ _ _ _ _ _ _ _ _ _ _ _ _ _ _ _ _ _ _ _ _ _ _ _ _ _ _ _ _ _ _ _ _ _ _ _ _ _ _ _ _ _ (fun d => (dats m 0 c).before 12 ⟨n + 1, hn⟩ d) (env_x1 m c _ hn) (env_x2 m c _ hn) (env_x3 m c _ hn) (env_x4 m c _ hn) (env_x5 m c _ hn) (env_x6 m c _ hn) (env_x7 m c _ hn) (env_x8 m c _ hn) (env_x9 m c _ hn) (env_x10 m c _ hn) (env_x11 m c _ hn) (env_x12 m c _ hn) (fun h => absurd ((first_iff ⟨n + 1, hn⟩).mp h) (Nat.succ_ne_zero n)) _ _

theorem defs₀_row (t : Fin cfg0.N) :
    defs₀ (F := F) .tc cfg0.body (cfg0.bodyArgs t (cfg0.slots t)) = bodyAt0 t := by
  unfold defs₀; rw [Defs.onTc_tc]

/-- The pipeline's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (7 + 1) (by show 8 ≤ grid0.N; rw [N_0]) from by
    have e : ∀ (n : ℕ) (h : n ≤ cfg0.N) (k : ℕ) (h' : k ≤ cfg0.N), n = k → PhiS m c n h = PhiS m c k h' := by
      rintro n h k h' rfl; rfl
    exact e _ _ _ _ (show cfg0.N = 7 + 1 from N_0), PhiS_succ, PhiA0_eq]
  iintro ⟨⟨S0, S1, S2⟩, Hg⟩
  isplitl [S0 S1 S2]
  · isplitl [S0]; · iexists _; iexact S0
    isplitl [S1]; · iexists _; iexact S1
    iexists _; iexact S2
  iexact Hg

set_option backward.isDefEq.respectTransparency.types false in
set_option maxHeartbeats 800000 in
/-- The run of @main: every array as the pipeline and the lines after it leave it, every semaphore counter at zero. -/
theorem run_main : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Body

end
-- ==== Proof.Spec.lean ====
/- The function both programs compute, in coordinates: two strided convolutions, the nearest codeword, two transposed
   convolutions. -/
module

public import Idealize.ShloMosaic.Lib.Pointwise

@[expose] public section

set_option maxRecDepth 16384

noncomputable section

namespace Vq

open Idealize.ShloMosaic

/-- The ten argument arrays. -/
structure Args where
  x : (⟨4, ![8, 3, 224, 224]⟩ : Shape).Idx → EReal
  w1 : (⟨4, ![192, 3, 4, 4]⟩ : Shape).Idx → EReal
  b1 : (⟨1, ![192]⟩ : Shape).Idx → EReal
  w2 : (⟨4, ![64, 192, 4, 4]⟩ : Shape).Idx → EReal
  b2 : (⟨1, ![64]⟩ : Shape).Idx → EReal
  cb : (⟨2, ![512, 64]⟩ : Shape).Idx → EReal
  wd1 : (⟨4, ![192, 64, 4, 4]⟩ : Shape).Idx → EReal
  bd1 : (⟨1, ![192]⟩ : Shape).Idx → EReal
  wd2 : (⟨4, ![3, 192, 4, 4]⟩ : Shape).Idx → EReal
  bd2 : (⟨1, ![3]⟩ : Shape).Idx → EReal

/-- An image with one ring of zeros around it. -/
def pd {n : ℕ} (f : Fin n → Fin n → EReal) (I J : ℕ) : EReal :=
  if h : (1 ≤ I ∧ I - 1 < n) ∧ 1 ≤ J ∧ J - 1 < n then f ⟨I - 1, h.1.2⟩ ⟨J - 1, h.2.2⟩ else 0

/-- Inside the ring the padded image is the image. -/
theorem pd_in {n : ℕ} (f : Fin n → Fin n → EReal) {I J : ℕ} (i j : Fin n) (hI : I = i.val + 1) (hJ : J = j.val + 1) :
    pd f I J = f i j := by
  subst hI hJ
  unfold pd
  rw [dif_pos ⟨⟨by omega, by have := i.isLt; omega⟩, by omega, by have := j.isLt; omega⟩]
  rfl

/-- On the ring and outside it is zero. -/
theorem pd_out {n : ℕ} (f : Fin n → Fin n → EReal) {I J : ℕ} (h : I = 0 ∨ n < I ∨ J = 0 ∨ n < J) : pd f I J = 0 := by
  unfold pd
  rw [dif_neg (by omega)]

/-- A strided convolution at one output element: `W` the window's weights by row, column and input channel, `f` the
    padded input. -/
def cv {m : ℕ} (W : Fin 4 → Fin 4 → Fin m → EReal) (f : Fin m → ℕ → ℕ → EReal) (i j : ℕ) : EReal :=
  ∑ p : Fin 4, ∑ q : Fin 4, ∑ c : Fin m, W p q c * f c (p.val + 2 * i) (q.val + 2 * j)

/-- A transposed convolution at one output element: of the window's rows and columns the two of the element's parity. -/
def dc {m : ℕ} (W : Fin 4 → Fin 4 → Fin m → EReal) (f : Fin m → ℕ → ℕ → EReal) (R C : ℕ) : EReal :=
  ∑ u : Fin 2, ∑ v : Fin 2, ∑ c : Fin m,
    W ⟨R % 2 + 2 * u.val, by have := u.isLt; omega⟩ ⟨C % 2 + 2 * v.val, by have := v.isLt; omega⟩ c
      * f c (R / 2 + R % 2 + u.val) (C / 2 + C % 2 + v.val)

/-- The first index at which `D` is least. -/
def firstMin {n : ℕ} [NeZero n] (D : Fin n → EReal) : Fin n :=
  (Finset.univ.filter fun k => ∀ l, D k ≤ D l).min' (by
    obtain ⟨k, -, hk⟩ := Finset.exists_min_image (Finset.univ : Finset (Fin n)) D ⟨0, Finset.mem_univ _⟩
    exact ⟨k, Finset.mem_filter.2 ⟨Finset.mem_univ _, fun l => hk l (Finset.mem_univ _)⟩⟩)

theorem firstMin_le {n : ℕ} [NeZero n] (D : Fin n → EReal) (l : Fin n) : D (firstMin D) ≤ D l :=
  (Finset.mem_filter.1 (Finset.min'_mem (Finset.univ.filter fun k => ∀ l, D k ≤ D l) _)).2 l

theorem firstMin_eq {n : ℕ} [NeZero n] (D : Fin n → EReal) (k : Fin n) (hk : ∀ l, D k ≤ D l) (hlt : ∀ l, l < k → D k < D l) :
    firstMin D = k := by
  refine le_antisymm (Finset.min'_le _ _ (Finset.mem_filter.2 ⟨Finset.mem_univ _, hk⟩)) (not_lt.1 fun h => ?_)
  exact absurd (firstMin_le D k) (not_le.2 (hlt _ h))

theorem firstMin_lt {n : ℕ} [NeZero n] (D : Fin n → EReal) (l : Fin n) (h : l < firstMin D) : D (firstMin D) < D l := by
  refine lt_of_le_of_ne (firstMin_le D l) fun e => absurd h (not_lt.2 ?_)
  exact Finset.min'_le _ _ (Finset.mem_filter.2 ⟨Finset.mem_univ _, fun k => e ▸ firstMin_le D k⟩)

variable (A : Args)

/-- The padded input. -/
def xP (b : Fin 8) (c : Fin 3) : ℕ → ℕ → EReal := pd fun i j : Fin 224 => A.x (ix4 b c i j)

/-- The hidden layer of the encoder. -/
def h (b : Fin 8) (o : Fin 192) (i j : Fin 112) : EReal :=
  max (cv (fun p q c => A.w1 (ix4 o c p q)) (xP A b) i.val j.val + A.b1 (ix1 o)) 0

def hP (b : Fin 8) (o : Fin 192) : ℕ → ℕ → EReal := pd (h A b o)

/-- The latent vector's entries. -/
def z (b : Fin 8) (d : Fin 64) (i j : Fin 56) : EReal :=
  cv (fun p q c => A.w2 (ix4 d c p q)) (hP A b) i.val j.val + A.b2 (ix1 d)

/-- The squared distance of the latent vector at `(i, j)` to the codeword `k`. -/
def dist (b : Fin 8) (i j : Fin 56) (k : Fin 512) : EReal :=
  (∑ d : Fin 64, z A b d i j * z A b d i j) - Ideal.ofBits FTy.f32 1073741824#32 * (∑ d : Fin 64, z A b d i j * A.cb (ix2 k d))
    + ∑ d : Fin 64, A.cb (ix2 k d) * A.cb (ix2 k d)

/-- The number of the nearest codeword. -/
def code (b : Fin 8) (i j : Fin 56) : Fin 512 := firstMin (dist A b i j)

/-- The quantized latent vector. -/
def zq (b : Fin 8) (d : Fin 64) (i j : Fin 56) : EReal := A.cb (ix2 (code A b i j) d)

def zqP (b : Fin 8) (d : Fin 64) : ℕ → ℕ → EReal := pd (zq A b d)

/-- The hidden layer of the decoder. -/
def g (b : Fin 8) (o : Fin 192) (i j : Fin 112) : EReal :=
  max (dc (fun p q c => A.wd1 (ix4 o c p q)) (zqP A b) i.val j.val + A.bd1 (ix1 o)) 0

def gP (b : Fin 8) (o : Fin 192) : ℕ → ℕ → EReal := pd (g A b o)

/-- The result. -/
def res (b : Fin 8) (c : Fin 3) (i j : Fin 224) : EReal :=
  dc (fun p q o => A.wd2 (ix4 c o p q)) (gP A b) i.val j.val + A.bd2 (ix1 c)

/-- The sixteen terms of a strided convolution, in the order in which a program adds them. -/
theorem cv_eq {m : ℕ} (W : Fin 4 → Fin 4 → Fin m → EReal) (f : Fin m → ℕ → ℕ → EReal) (i j : ℕ) :
    cv W f i j =
      ∑ c, W 0 0 c * f c (2 * i) (2 * j) + ∑ c, W 0 1 c * f c (2 * i) (1 + 2 * j)
      + ∑ c, W 0 2 c * f c (2 * i) (2 + 2 * j) + ∑ c, W 0 3 c * f c (2 * i) (3 + 2 * j)
      + ∑ c, W 1 0 c * f c (1 + 2 * i) (2 * j) + ∑ c, W 1 1 c * f c (1 + 2 * i) (1 + 2 * j)
      + ∑ c, W 1 2 c * f c (1 + 2 * i) (2 + 2 * j) + ∑ c, W 1 3 c * f c (1 + 2 * i) (3 + 2 * j)
      + ∑ c, W 2 0 c * f c (2 + 2 * i) (2 * j) + ∑ c, W 2 1 c * f c (2 + 2 * i) (1 + 2 * j)
      + ∑ c, W 2 2 c * f c (2 + 2 * i) (2 + 2 * j) + ∑ c, W 2 3 c * f c (2 + 2 * i) (3 + 2 * j)
      + ∑ c, W 3 0 c * f c (3 + 2 * i) (2 * j) + ∑ c, W 3 1 c * f c (3 + 2 * i) (1 + 2 * j)
      + ∑ c, W 3 2 c * f c (3 + 2 * i) (2 + 2 * j) + ∑ c, W 3 3 c * f c (3 + 2 * i) (3 + 2 * j) := by
  unfold cv
  simp only [Fin.sum_univ_four, Fin.val_zero, Fin.val_one, Fin.val_two, Nat.zero_add,
    show ((3 : Fin 4) : ℕ) = 3 from rfl, add_assoc]

/-- A row of a dilated image: zero off the even places. -/
def dil {m : ℕ} (f : Fin m → ℕ → ℕ → EReal) (c : Fin m) (I J : ℕ) : EReal :=
  if I % 2 = 0 ∧ J % 2 = 0 then f c (I / 2) (J / 2) else 0

/-- A dilated padded image read at its own places. -/
theorem dil_pd {m n : ℕ} (f : Fin m → Fin n → Fin n → EReal) (c : Fin m) (I J : ℕ) :
    dil (fun c => pd (f c)) c I J =
      if h : (2 ≤ I ∧ (I - 2) % 2 = 0 ∧ (I - 2) / 2 < n) ∧ 2 ≤ J ∧ (J - 2) % 2 = 0 ∧ (J - 2) / 2 < n then
        f c ⟨(I - 2) / 2, h.1.2.2⟩ ⟨(J - 2) / 2, h.2.2.2⟩ else 0 := by
  unfold dil
  split
  · split
    · exact pd_in _ _ _ (by simp only; omega) (by simp only; omega)
    · exact pd_out _ (by omega)
  · rw [dif_neg (by omega)]

/-- A window over a dilated image keeps the rows and columns of one parity: the transposed convolution, its sixteen
    terms in the order in which a program adds them. -/
theorem dc_eq {m : ℕ} (W : Fin 4 → Fin 4 → Fin m → EReal) (f : Fin m → ℕ → ℕ → EReal) (R C : ℕ) :
    dc W f R C =
      ∑ c, W 0 0 c * dil f c R C + ∑ c, W 0 1 c * dil f c R (1 + C)
      + ∑ c, W 0 2 c * dil f c R (2 + C) + ∑ c, W 0 3 c * dil f c R (3 + C)
      + ∑ c, W 1 0 c * dil f c (1 + R) C + ∑ c, W 1 1 c * dil f c (1 + R) (1 + C)
      + ∑ c, W 1 2 c * dil f c (1 + R) (2 + C) + ∑ c, W 1 3 c * dil f c (1 + R) (3 + C)
      + ∑ c, W 2 0 c * dil f c (2 + R) C + ∑ c, W 2 1 c * dil f c (2 + R) (1 + C)
      + ∑ c, W 2 2 c * dil f c (2 + R) (2 + C) + ∑ c, W 2 3 c * dil f c (2 + R) (3 + C)
      + ∑ c, W 3 0 c * dil f c (3 + R) C + ∑ c, W 3 1 c * dil f c (3 + R) (1 + C)
      + ∑ c, W 3 2 c * dil f c (3 + R) (2 + C) + ∑ c, W 3 3 c * dil f c (3 + R) (3 + C) := by
  have hF : ∀ (a a' : Fin 4) (b b' : Fin 4) (I I' J J' : ℕ), a = a' → b = b' → I = I' → J = J' →
      (∑ c, W a b c * f c I J) = ∑ c, W a' b' c * f c I' J' := by
    rintro a _ b _ I _ J _ rfl rfl rfl rfl; rfl
  obtain ⟨r, hr⟩ : ∃ r, R = 2 * r ∨ R = 2 * r + 1 := ⟨R / 2, by omega⟩
  obtain ⟨s, hs⟩ : ∃ s, C = 2 * s ∨ C = 2 * s + 1 := ⟨C / 2, by omega⟩
  have e0 : ∀ n : ℕ, 2 * n % 2 = 0 := by omega
  have e1 : ∀ n : ℕ, (1 + 2 * n) % 2 = 1 := by omega
  have e2 : ∀ n : ℕ, (2 + 2 * n) % 2 = 0 := by omega
  have e3 : ∀ n : ℕ, (3 + 2 * n) % 2 = 1 := by omega
  have o0 : ∀ n : ℕ, (2 * n + 1) % 2 = 1 := by omega
  have o1 : ∀ n : ℕ, (1 + 2 * n + 1) % 2 = 0 := by omega
  have o2 : ∀ n : ℕ, (2 + 2 * n + 1) % 2 = 1 := by omega
  have o3 : ∀ n : ℕ, (3 + 2 * n + 1) % 2 = 0 := by omega
  unfold dc dil
  rcases hr with rfl | rfl <;> rcases hs with rfl | rfl <;>
  · simp only [e0, e1, e2, e3, o0, o1, o2, o3, one_ne_zero, false_and, and_false, and_self, if_true, if_false, mul_zero,
      Finset.sum_const_zero, add_zero, zero_add, Fin.sum_univ_two, ← add_assoc]
    refine congr (congrArg _ (congr (congrArg _ (congr (congrArg _ ?_) ?_)) ?_)) ?_ <;>
    · refine hF _ _ _ _ _ _ _ _ ?_ ?_ ?_ ?_ <;> first | rfl | (simp only [Fin.val_zero, Fin.val_one]; omega)

/-- The same sixteen terms with the bias in front and each product the other way round. -/
theorem cv_eq' {m : ℕ} (W : Fin 4 → Fin 4 → Fin m → EReal) (f : Fin m → ℕ → ℕ → EReal) (i j : ℕ) (b : EReal) :
    cv W f i j + b = b
      + ∑ c, f c (2 * i) (2 * j) * W 0 0 c + ∑ c, f c (2 * i) (1 + 2 * j) * W 0 1 c
      + ∑ c, f c (2 * i) (2 + 2 * j) * W 0 2 c + ∑ c, f c (2 * i) (3 + 2 * j) * W 0 3 c
      + ∑ c, f c (1 + 2 * i) (2 * j) * W 1 0 c + ∑ c, f c (1 + 2 * i) (1 + 2 * j) * W 1 1 c
      + ∑ c, f c (1 + 2 * i) (2 + 2 * j) * W 1 2 c + ∑ c, f c (1 + 2 * i) (3 + 2 * j) * W 1 3 c
      + ∑ c, f c (2 + 2 * i) (2 * j) * W 2 0 c + ∑ c, f c (2 + 2 * i) (1 + 2 * j) * W 2 1 c
      + ∑ c, f c (2 + 2 * i) (2 + 2 * j) * W 2 2 c + ∑ c, f c (2 + 2 * i) (3 + 2 * j) * W 2 3 c
      + ∑ c, f c (3 + 2 * i) (2 * j) * W 3 0 c + ∑ c, f c (3 + 2 * i) (1 + 2 * j) * W 3 1 c
      + ∑ c, f c (3 + 2 * i) (2 + 2 * j) * W 3 2 c + ∑ c, f c (3 + 2 * i) (3 + 2 * j) * W 3 3 c := by
  rw [add_comm, cv_eq]
  simp only [mul_comm (f _ _ _), ← add_assoc]

/-- The part of a strided convolution that one of the four shifts of the rearranged input holds: two rows and two columns
    of the window, each over all channels. -/
def tap {m : ℕ} (W : Fin 4 → Fin 4 → Fin m → EReal) (f : Fin m → ℕ → ℕ → EReal) (n : Fin 4) (I J : ℕ) : EReal :=
  ∑ p : Fin 2, ∑ q : Fin 2, ∑ c : Fin m, f c (2 * I + p.val) (2 * J + q.val)
    * W ⟨2 * (n.val / 2) + p.val, by have := n.isLt; have := p.isLt; omega⟩ ⟨2 * (n.val % 2) + q.val, by have := q.isLt; omega⟩ c

theorem cv_eq_tap {m : ℕ} (W : Fin 4 → Fin 4 → Fin m → EReal) (f : Fin m → ℕ → ℕ → EReal) (i j : ℕ) (b : EReal) :
    cv W f i j + b = b + tap W f 0 i j + tap W f 1 i (1 + j) + tap W f 2 (1 + i) j + tap W f 3 (1 + i) (1 + j) := by
  have hF : ∀ (a a' : Fin 4) (b b' : Fin 4) (I I' J J' : ℕ), a = a' → b = b' → I = I' → J = J' →
      (∑ c, f c I J * W a b c) = ∑ c, f c I' J' * W a' b' c := by
    rintro a _ b _ I _ J _ rfl rfl rfl rfl; rfl
  rw [cv_eq']
  unfold tap
  simp only [Fin.sum_univ_two]
  have e : ∀ t00 t01 t02 t03 t10 t11 t12 t13 t20 t21 t22 t23 t30 t31 t32 t33 : EReal,
      b + t00 + t01 + t02 + t03 + t10 + t11 + t12 + t13 + t20 + t21 + t22 + t23 + t30 + t31 + t32 + t33
      = b + (t00 + t01 + (t10 + t11)) + (t02 + t03 + (t12 + t13)) + (t20 + t21 + (t30 + t31)) + (t22 + t23 + (t32 + t33)) := by
    intros; ac_rfl
  rw [e]
  refine congr (congrArg _ (congr (congrArg _ (congr (congrArg _ (congrArg _ ?_)) ?_)) ?_)) ?_ <;>
  refine congr (congrArg _ (congr (congrArg _ ?_) ?_)) (congr (congrArg _ ?_) ?_) <;>
  · refine hF _ _ _ _ _ _ _ _ ?_ ?_ ?_ ?_ <;> first | rfl | (simp only [Fin.val_zero, Fin.val_one]; omega)

/-- A sum over the twelve lanes of the rearranged input, by row parity, column parity and channel. -/
theorem sum12 {M : Type} [AddCommMonoid M] (f : Fin 12 → M) :
    ∑ k, f k = ∑ p : Fin 2, ∑ q : Fin 2, ∑ c : Fin 3,
      f ⟨(p.val * 2 + q.val) * 3 + c.val, by have := p.isLt; have := q.isLt; have := c.isLt; omega⟩ := by
  simp only [Fin.sum_univ_succ, Fin.sum_univ_zero, add_zero, add_assoc]
  rfl

end Vq
-- ==== Proof.Encode.lean ====
/- What the kernel's first two convolutions leave, in coordinates. -/
module

public import proofs.«01_k».proof.Proof.Spec
public import proofs.«01_k».proof.Proof.KernelIdealBody

@[expose] public section

set_option maxRecDepth 16384

noncomputable section

namespace Cert.KernelIdeal.Body

open Cert.KernelIdeal Cert.KernelIdeal.Gen
open Idealize.ShloMosaic

/-- The lane of the rearranged input that holds row parity `p`, column parity `q` and channel `c`. -/
def lane (p q : Fin 2) (c : Fin 3) : Fin 12 :=
  ⟨(p.val * 2 + q.val) * 3 + c.val, by have := p.isLt; have := q.isLt; have := c.isLt; omega⟩

/-- The column of the last product that holds channel `c` and the place `(ro, co)` in a block of four by four. -/
def col (c : Fin 3) (ro co : Fin 4) : Fin 48 :=
  ⟨c.val * 16 + ro.val * 4 + co.val, by have := c.isLt; have := ro.isLt; have := co.isLt; omega⟩

/-- The point's input blocks hold the arguments, rearranged: image `b` of the batch. -/
structure Reads (X : Env Ideal) (A : Vq.Args) (b : Fin 8) : Prop where
  x1 : ∀ (I J : Fin 113) (p q : Fin 2) (c : Fin 3),
    @Eq EReal (X.x1 (ix4 0 I J (lane p q c))) (Vq.xP A b c (2 * I.val + p.val) (2 * J.val + q.val))
  x2 : ∀ (n : Fin 4) (p q : Fin 2) (c : Fin 3) (o : Fin 192),
    @Eq EReal (X.x2 (ix3 n (lane p q c) o))
      (A.w1 (ix4 o c ⟨2 * (n.val / 2) + p.val, by have := n.isLt; have := p.isLt; omega⟩
        ⟨2 * (n.val % 2) + q.val, by have := q.isLt; omega⟩))
  x3 : ∀ o : Fin 192, @Eq EReal (X.x3 (ix2 0 o)) (A.b1 (ix1 o))
  x4 : ∀ (n : Fin 16) (o : Fin 192) (d : Fin 64),
    @Eq EReal (X.x4 (ix3 n o d)) (A.w2 (ix4 d o ⟨n.val / 4, by have := n.isLt; omega⟩ ⟨n.val % 4, by omega⟩))
  x5 : ∀ d : Fin 64, @Eq EReal (X.x5 (ix2 0 d)) (A.b2 (ix1 d))
  x6 : ∀ (d : Fin 64) (k : Fin 512), @Eq EReal (X.x6 (ix2 d k)) (A.cb (ix2 k d))
  x7 : ∀ k : Fin 512, @Eq EReal (X.x7 (ix2 0 k)) (∑ d : Fin 64, A.cb (ix2 k d) * A.cb (ix2 k d))
  x8 : ∀ (k : Fin 512) (d : Fin 64), @Eq EReal (X.x8 (ix2 k d)) (A.cb (ix2 k d))
  x9 : ∀ (n : Fin 16) (d : Fin 64) (o : Fin 192),
    @Eq EReal (X.x9 (ix3 n d o)) (A.wd1 (ix4 o d ⟨n.val / 8 + 2 * (n.val / 2 % 2), by have := n.isLt; omega⟩
      ⟨n.val / 4 % 2 + 2 * (n.val % 2), by omega⟩))
  x10 : ∀ o : Fin 192, @Eq EReal (X.x10 (ix2 0 o)) (A.bd1 (ix1 o))
  x11 : ∀ (n : Fin 16) (o : Fin 192) (c : Fin 3) (ro co : Fin 4),
    @Eq EReal (X.x11 (ix3 n o (col c ro co)))
      (if h : (ro.val / 2 + ro.val % 2 ≤ n.val / 4 ∧ n.val / 4 ≤ ro.val / 2 + ro.val % 2 + 1)
          ∧ (co.val / 2 + co.val % 2 ≤ n.val % 4 ∧ n.val % 4 ≤ co.val / 2 + co.val % 2 + 1) then
        A.wd2 (ix4 c o ⟨ro.val % 2 + 2 * (n.val / 4 - (ro.val / 2 + ro.val % 2)), by omega⟩
          ⟨co.val % 2 + 2 * (n.val % 4 - (co.val / 2 + co.val % 2)), by omega⟩)
      else 0)
  x12 : ∀ (c : Fin 3) (ro co : Fin 4), @Eq EReal (X.x12 (ix2 0 (col c ro co))) (A.bd2 (ix1 c))

/-- The scratch buffers' borders hold zeros. -/
structure Clear (X : Env Ideal) : Prop where
  h0 : ∀ (r s : Fin 2) (k l : Fin 57) (o : Fin 192),
    2 * k.val + r.val = 0 ∨ 2 * k.val + r.val = 113 ∨ 2 * l.val + s.val = 0 ∨ 2 * l.val + s.val = 113 →
    @Eq EReal (X.h0 (ix5 r s k l o)) 0
  z0 : ∀ (k l : Fin 58) (d : Fin 64), k.val = 0 ∨ k.val = 57 ∨ l.val = 0 ∨ l.val = 57 → @Eq EReal (X.z0 (ix3 k l d)) 0
  g0 : ∀ (e f : Fin 2) (k l : Fin 58) (o : Fin 192), k.val = 0 ∨ k.val = 57 ∨ l.val = 0 ∨ l.val = 57 →
    @Eq EReal (X.g0 (ix5 e f k l o)) 0

variable {X : Env Ideal} {A : Vq.Args} {b : Fin 8}

/-- One of the four products of the first convolution. -/
theorem tap_read (hX : Reads X A b) (n : Fin 4) (o : Fin 192) (I J : Fin 113) {i j : ℕ} (hI : I.val = i)
    (hJ : J.val = j) :
    @Eq EReal (∑ k : Fin 12, (X.x1 (ix4 0 I J k) : EReal) * X.x2 (ix3 n k o))
      (Vq.tap (fun p q c => A.w1 (ix4 o c p q)) (Vq.xP A b) n i j) := by
  subst hI hJ
  rw [Vq.sum12]
  refine Finset.sum_congr rfl fun p _ => Finset.sum_congr rfl fun q _ => Finset.sum_congr rfl fun c _ => ?_
  exact congr (congrArg _ (hX.x1 I J p q c)) (hX.x2 n p q c o)

theorem relu_congr {a b c d e a' b' c' d' e' : EReal} (ha : a = a') (hb : b = b') (hc : c = c') (hd : d = d')
    (he : e = e') : max (a + b + c + d + e) 0 = max (a' + b' + c' + d' + e') 0 := by
  rw [ha, hb, hc, hd, he]

/-- The hidden layer, its first 56 rows. -/
theorem enc_top (hX : Reads X A b) (i : Fin 28) (a : Fin 2) (j : Fin 56) (c : Fin 2) (o : Fin 192) :
    @Eq EReal (k0_pay8 (v27 X) (v32 X) (ix5 i a j c o))
      (Vq.h A b o ⟨2 * i.val + a.val, by omega⟩ ⟨2 * j.val + c.val, by omega⟩) := by
  unfold Vq.h
  rw [Vq.cv_eq_tap]
  pointwise [k0_pay8, v27, v32, k0_pay5, k0_pay6, k0_pay7, v3, v6, v12, v18, v24, v30, VecWindow.window_eq_ld]
  exact relu_congr (hX.x3 o)
    (tap_read hX 0 o _ _ (by dsimp only; omega) (by dsimp only; omega))
    (tap_read hX 1 o _ _ (by dsimp only; omega) (by dsimp only; omega))
    (tap_read hX 2 o _ _ (by dsimp only; omega) (by dsimp only; omega))
    (tap_read hX 3 o _ _ (by dsimp only; omega) (by dsimp only; omega))

/-- The same, its last 56 rows. -/
theorem enc_bot (hX : Reads X A b) (i : Fin 28) (a : Fin 2) (j : Fin 56) (c : Fin 2) (o : Fin 192) :
    @Eq EReal (v88 X (ix5 i a j c o))
      (Vq.h A b o ⟨56 + (2 * i.val + a.val), by omega⟩ ⟨2 * j.val + c.val, by omega⟩) := by
  unfold Vq.h
  rw [Vq.cv_eq_tap]
  pointwise [v88, v4, v61, v63, v64, v70, v76, v82, v58, k0_pay15, k0_pay14, k0_pay13, k0_pay5, v3, VecWindow.window_eq_ld]
  exact relu_congr (hX.x3 o)
    (tap_read hX 0 o _ _ (by dsimp only; omega) (by dsimp only; omega))
    (tap_read hX 1 o _ _ (by dsimp only; omega) (by dsimp only; omega))
    (tap_read hX 2 o _ _ (by dsimp only; omega) (by dsimp only; omega))
    (tap_read hX 3 o _ _ (by dsimp only; omega) (by dsimp only; omega))

theorem hP_in {o : Fin 192} {I J : ℕ} (i j : Fin 112) (hI : I = i.val + 1) (hJ : J = j.val + 1) :
    Vq.hP A b o I J = Vq.h A b o i j := Vq.pd_in _ i j hI hJ

/-- The first half's rows and columns of one parity, which the scratch buffer receives apart. -/
theorem top_slice (hX : Reads X A b) (u v : Fin 1) (i : Fin 28) (j : Fin 56) (o : Fin 192) (I J : ℕ) :
    (I = 2 * i.val + 1 → J = 2 * j.val + 1 →
      @Eq EReal (k0_pay9 (v27 X) (v32 X) (ix5 u v i j o)) (Vq.hP A b o I J)) ∧
    (I = 2 * i.val + 1 → J = 2 * j.val + 2 →
      @Eq EReal (k0_pay10 (v27 X) (v32 X) (ix5 u v i j o)) (Vq.hP A b o I J)) ∧
    (I = 2 * i.val + 2 → J = 2 * j.val + 1 →
      @Eq EReal (k0_pay11 (v27 X) (v32 X) (ix5 u v i j o)) (Vq.hP A b o I J)) ∧
    (I = 2 * i.val + 2 → J = 2 * j.val + 2 →
      @Eq EReal (k0_pay12 (v27 X) (v32 X) (ix5 u v i j o)) (Vq.hP A b o I J)) := by
  refine ⟨fun hI hJ => ?_, fun hI hJ => ?_, fun hI hJ => ?_, fun hI hJ => ?_⟩
  · rw [hP_in ⟨2 * i.val + 0, by omega⟩ ⟨2 * j.val + 0, by omega⟩ hI hJ]
    refine Eq.trans ?_ (enc_top hX i 0 j 0 o)
    pointwise [k0_pay9]
  · rw [hP_in ⟨2 * i.val + 0, by omega⟩ ⟨2 * j.val + 1, by omega⟩ hI hJ]
    refine Eq.trans ?_ (enc_top hX i 0 j 1 o)
    pointwise [k0_pay10]
  · rw [hP_in ⟨2 * i.val + 1, by omega⟩ ⟨2 * j.val + 0, by omega⟩ hI hJ]
    refine Eq.trans ?_ (enc_top hX i 1 j 0 o)
    pointwise [k0_pay11]
  · rw [hP_in ⟨2 * i.val + 1, by omega⟩ ⟨2 * j.val + 1, by omega⟩ hI hJ]
    refine Eq.trans ?_ (enc_top hX i 1 j 1 o)
    pointwise [k0_pay12]

/-- The second half's. -/
theorem bot_slice (hX : Reads X A b) (u v : Fin 1) (i : Fin 28) (j : Fin 56) (o : Fin 192) (I J : ℕ) :
    (I = 56 + (2 * i.val + 0) + 1 → J = 2 * j.val + 1 →
      @Eq EReal (k0_pay16 (v4 X) (v61 X) (v63 X) (v64 X) (v70 X) (v76 X) (v82 X) (ix5 u v i j o)) (Vq.hP A b o I J)) ∧
    (I = 56 + (2 * i.val + 0) + 1 → J = 2 * j.val + 2 →
      @Eq EReal (k0_pay18 (v95 X) (ix5 u v i j o)) (Vq.hP A b o I J)) ∧
    (I = 56 + (2 * i.val + 1) + 1 → J = 2 * j.val + 1 →
      @Eq EReal (k0_pay19 (v88 X) (ix5 u v i j o)) (Vq.hP A b o I J)) ∧
    (I = 56 + (2 * i.val + 1) + 1 → J = 2 * j.val + 2 →
      @Eq EReal (k0_pay20 (v88 X) (ix5 u v i j o)) (Vq.hP A b o I J)) := by
  refine ⟨fun hI hJ => ?_, fun hI hJ => ?_, fun hI hJ => ?_, fun hI hJ => ?_⟩
  · rw [hP_in ⟨56 + (2 * i.val + 0), by omega⟩ ⟨2 * j.val + 0, by omega⟩ hI hJ]
    refine Eq.trans ?_ (enc_bot hX i 0 j 0 o)
    pointwise [k0_pay16, v88]
  · rw [hP_in ⟨56 + (2 * i.val + 0), by omega⟩ ⟨2 * j.val + 1, by omega⟩ hI hJ]
    refine Eq.trans ?_ (enc_bot hX i 0 j 1 o)
    pointwise [k0_pay18, v95, k0_pay17, v88]
  · rw [hP_in ⟨56 + (2 * i.val + 1), by omega⟩ ⟨2 * j.val + 0, by omega⟩ hI hJ]
    refine Eq.trans ?_ (enc_bot hX i 1 j 0 o)
    pointwise [k0_pay19]
  · rw [hP_in ⟨56 + (2 * i.val + 1), by omega⟩ ⟨2 * j.val + 1, by omega⟩ hI hJ]
    refine Eq.trans ?_ (enc_bot hX i 1 j 1 o)
    pointwise [k0_pay20]

set_option maxHeartbeats 2000000 in
/-- The scratch image holds the padded hidden layer, its four parities apart. -/
theorem h8_read (hX : Reads X A b) (hC : Clear X) (r s : Fin 2) (k l : Fin 57) (o : Fin 192) :
    @Eq EReal (h8 X (ix5 r s k l o)) (Vq.hP A b o (2 * k.val + r.val) (2 * l.val + s.val)) := by
  pointwise [h8, h7, h6, h5, h4, h3, h2, h1, h0, VecWindow.put_eq_updateSlice]
  split_ifs with c1 c2 c3 c4 c5 c6 c7 c8
  · exact (bot_slice hX _ _ _ _ o _ _).2.2.2 (by dsimp only; omega) (by dsimp only; omega)
  · exact (bot_slice hX _ _ _ _ o _ _).2.2.1 (by dsimp only; omega) (by dsimp only; omega)
  · exact (bot_slice hX _ _ _ _ o _ _).2.1 (by dsimp only; omega) (by dsimp only; omega)
  · exact (bot_slice hX _ _ _ _ o _ _).1 (by dsimp only; omega) (by dsimp only; omega)
  · exact (top_slice hX _ _ _ _ o _ _).2.2.2 (by dsimp only; omega) (by dsimp only; omega)
  · exact (top_slice hX _ _ _ _ o _ _).2.2.1 (by dsimp only; omega) (by dsimp only; omega)
  · exact (top_slice hX _ _ _ _ o _ _).2.1 (by dsimp only; omega) (by dsimp only; omega)
  · exact (top_slice hX _ _ _ _ o _ _).1 (by dsimp only; omega) (by dsimp only; omega)
  · exact (hC.h0 r s k l o (by omega)).trans (Vq.pd_out _ (by omega)).symm

/-- One of the sixteen products of the second convolution. -/
theorem conv_term (hX : Reads X A b) (hC : Clear X) (d : Fin 64) (n : Fin 16) (r s : Fin 2) (k l : Fin 57) {i j : ℕ}
    (hi : 2 * k.val + r.val = i) (hj : 2 * l.val + s.val = j) :
    @Eq EReal (∑ x : Fin 192, (h8 X (ix5 r s k l x) : EReal) * X.x4 (ix3 n x d))
      (∑ x : Fin 192, Vq.hP A b x i j * A.w2 (ix4 d x ⟨n.val / 4, by omega⟩ ⟨n.val % 4, by omega⟩)) := by
  subst hi hj
  exact Finset.sum_congr rfl fun x _ => congr (congrArg _ (h8_read hX hC r s k l x)) (hX.x4 n x d)

theorem sum16_congr {b t0 t1 t2 t3 t4 t5 t6 t7 t8 t9 t10 t11 t12 t13 t14 t15 b' s0 s1 s2 s3 s4 s5 s6 s7 s8 s9 s10 s11
    s12 s13 s14 s15 : EReal} (hb : b = b') (h0 : t0 = s0) (h1 : t1 = s1) (h2 : t2 = s2) (h3 : t3 = s3) (h4 : t4 = s4)
    (h5 : t5 = s5) (h6 : t6 = s6) (h7 : t7 = s7) (h8 : t8 = s8) (h9 : t9 = s9) (h10 : t10 = s10) (h11 : t11 = s11)
    (h12 : t12 = s12) (h13 : t13 = s13) (h14 : t14 = s14) (h15 : t15 = s15) :
    b + t0 + t1 + t2 + t3 + t4 + t5 + t6 + t7 + t8 + t9 + t10 + t11 + t12 + t13 + t14 + t15
      = b' + s0 + s1 + s2 + s3 + s4 + s5 + s6 + s7 + s8 + s9 + s10 + s11 + s12 + s13 + s14 + s15 := by
  subst hb h0 h1 h2 h3 h4 h5 h6 h7 h8 h9 h10 h11 h12 h13 h14 h15
  rfl

set_option maxHeartbeats 2000000 in
/-- The latent vectors. -/
theorem z_read (hX : Reads X A b) (hC : Clear X) (n : Fin 3136) (d : Fin 64) :
    @Eq EReal (v225 X (ix2 n d)) (Vq.z A b d ⟨n.val / 56, by omega⟩ ⟨n.val % 56, by omega⟩) := by
  unfold Vq.z
  rw [Vq.cv_eq']
  pointwise [v225, v197, v203, v205, v208, v212, v215, v219, v222, v176, v177, v180, v184, v187, v191, v194, v198, v201,
    v148, v150, v152, v156, v159, v163, v166, v170, v173, v120, v123, v124, v128, v131, v135, v138, v142, v145, v149,
    v110, v114, v117, v121, k0_pay28, k0_pay27, k0_pay26, k0_pay25, k0_pay24, k0_pay23, k0_pay22, k0_pay21,
    VecWindow.window_eq_ld]
  refine sum16_congr (hX.x5 d) ?_ ?_ ?_ ?_ ?_ ?_ ?_ ?_ ?_ ?_ ?_ ?_ ?_ ?_ ?_ ?_
  all_goals exact conv_term hX hC d _ _ _ _ _ (by simp; try omega) (by simp; try omega)

end Cert.KernelIdeal.Body
-- ==== Proof.Codes.lean ====
/- The two ways of finding the nearest codeword give the first index at which the distance is least. -/
module

public import proofs.«01_k».proof.Proof.Spec

@[expose] public section

set_option maxRecDepth 16384

noncomputable section

namespace Vq

open Idealize.ShloMosaic

/-- The least of finitely many values, from plus infinity. -/
theorem fold_min_top {n : ℕ} [NeZero n] (D : Fin n → EReal) :
    (Finset.univ : Finset (Fin n)).fold min ⊤ D = D (firstMin D) :=
  le_antisymm (Finset.fold_min_le _ |>.2 (Or.inr ⟨_, Finset.mem_univ _, le_refl _⟩))
    ((Finset.le_fold_min _).2 ⟨le_top, fun l _ => firstMin_le D l⟩)

/-- The pattern of plus infinity. -/
theorem ofBits_inf : Ideal.ofBits .f32 0x7F800000#32 = ⊤ := by simp [Ideal.ofBits, Ideal.ieee]

theorem toInt_minsi (a b : BitVec 32) : (IntOp.minsi a b).toInt = min a.toInt b.toInt := by
  unfold IntOp.minsi
  split
  · rename_i h; simp only [BitVec.slt, decide_eq_true_eq] at h; omega
  · rename_i h; simp only [BitVec.slt, decide_eq_true_eq] at h; omega

theorem toInt_small (k : ℕ) (hk : k < 2 ^ 31) : (BitVec.ofNat 32 k).toInt = k := by
  rw [BitVec.toInt_eq_toNat_of_lt (by rw [BitVec.toNat_ofNat]; omega), BitVec.toNat_ofNat, Nat.mod_eq_of_lt (by omega)]

/-- The least index at which the value is the least one, found as a minimum of the indices. -/
theorem fold_minsi_first (D : Fin 512 → EReal) :
    (Finset.univ : Finset (Fin 512)).fold IntOp.minsi 2147483647#32
        (fun k => if D k = D (firstMin D) then BitVec.ofNat 32 k.val else 511#32) = BitVec.ofNat 32 (firstMin D).val := by
  apply BitVec.eq_of_toInt_eq
  rw [← Finset.fold_hom (op := IntOp.minsi) (op' := min) (m := BitVec.toInt) (fun a b => (toInt_minsi a b)),
    toInt_small (firstMin D).val (by have := (firstMin D).isLt; omega)]
  have hlt := (firstMin D).isLt
  refine le_antisymm ((Finset.fold_min_le _).2 (Or.inr ⟨firstMin D, Finset.mem_univ _, ?_⟩)) ((Finset.le_fold_min _).2 ⟨?_, fun k _ => ?_⟩)
  · rw [if_pos rfl, toInt_small (firstMin D).val (by omega)]
  · rw [show (2147483647#32 : BitVec 32).toInt = 2147483647 from by decide]; omega
  · split
    · rename_i h
      rw [toInt_small k.val (by omega)]
      refine Int.ofNat_le.2 (not_lt.1 fun hk => ?_)
      exact absurd h (ne_of_gt (firstMin_lt D k hk))
    · rw [show (511#32 : BitVec 32).toInt = 511 from by decide]; omega

end Vq
-- ==== Proof.Quantize.lean ====
/- The kernel's codebook step: the nearest of the two halves' codewords, and the row it names. -/
module

public import proofs.«01_k».proof.Proof.Encode
public import proofs.«01_k».proof.Proof.Codes

@[expose] public section

set_option maxRecDepth 16384

noncomputable section

namespace Cert.KernelIdeal.Body

open Cert.KernelIdeal Cert.KernelIdeal.Gen
open Idealize.ShloMosaic

variable {X : Env Ideal} {A : Vq.Args} {b : Fin 8}

open Classical in
/-- The index reduction along a row: the first index at which the row is least. -/
theorem reduceIndex_row (x : FVec Ideal S3136x256 .f32) (n : Fin 3136) (D : Fin 256 → EReal)
    (hD : ∀ k, @Eq EReal (x (ix2 n k)) (D k)) (h : S3136x256.Reduces [1] S3136) :
    reduceIndex .argMin 1 S3136 x h (ix1 n) = BitVec.ofNat 32 (Vq.firstMin D).val := by
  have mem : ∀ i : S3136x256.Idx, h.drop i = ix1 n ↔ i 0 = n := by
    intro i
    have e := h.drop_apply_val_of_eq i 0 0
    constructor
    · intro hi
      exact Fin.ext (e.symm.trans (by rw [hi]; rfl))
    · intro hi
      funext a
      have ha : a = 0 := Subsingleton.elim (α := Fin 1) _ _
      subst ha
      exact Fin.ext (e.trans (by rw [hi]; rfl))
  have at2 : ∀ i : S3136x256.Idx, i 0 = n → @Eq EReal (x i) (D (i 1)) := by
    intro i hi
    rw [← hD (i 1), ← hi]
    exact congrArg x (eq_ix2 i)
  show Ideal.reduceIndex .argMin 1 h x (ix1 n) = _
  unfold Ideal.reduceIndex
  simp only [reduceCtorEq, if_false, Finset.mem_filter, Finset.mem_univ, true_and, mem, not_lt]
  refine congrArg (BitVec.ofNat 32) ?_
  have e : ((Finset.filter (fun i : S3136x256.Idx => ∀ i' : S3136x256.Idx, i' 0 = n → x i ≤ x i')
      (Finset.filter (fun i : S3136x256.Idx => h.drop i = ix1 n) Finset.univ)).image fun i => (i 1).val).min
      = ((Vq.firstMin D).val : WithTop ℕ) := by
    refine le_antisymm (Finset.min_le ?_) (Finset.le_min ?_)
    · refine Finset.mem_image.2 ⟨ix2 n (Vq.firstMin D), ?_, rfl⟩
      refine Finset.mem_filter.2 ⟨Finset.mem_filter.2 ⟨Finset.mem_univ _, (mem _).2 rfl⟩, fun i' hi' => ?_⟩
      rw [at2 i' hi']
      exact (hD _).le.trans (Vq.firstMin_le D _)
    · intro a ha
      obtain ⟨i, hi, rfl⟩ := Finset.mem_image.1 ha
      obtain ⟨hi, hle⟩ := Finset.mem_filter.1 hi
      have hi0 := (mem i).1 (Finset.mem_filter.1 hi).2
      refine WithTop.coe_le_coe.2 (not_lt.1 fun hlt => ?_)
      have l1 := Vq.firstMin_lt D (i 1) hlt
      have l2 := hle (ix2 n (Vq.firstMin D)) rfl
      rw [at2 i hi0] at l2
      exact absurd (l2.trans (hD _).le) (not_le.2 l1)
  simp only [mem] at e
  rw [e]
  rfl

/-- Of two halves of a list, the half whose least value is less has the first least index; the first half on a tie. -/
theorem firstMin_halves (D : Fin 512 → EReal) (D1 D2 : Fin 256 → EReal) (h1 : ∀ k, D1 k = D ⟨k.val, by omega⟩)
    (h2 : ∀ k, D2 k = D ⟨256 + k.val, by omega⟩) :
    (if D2 (Vq.firstMin D2) < D1 (Vq.firstMin D1) then 256 + (Vq.firstMin D2).val else (Vq.firstMin D1).val)
      = (Vq.firstMin D).val := by
  have f1 := Vq.firstMin_le D1
  have f2 := Vq.firstMin_le D2
  have g1 := Vq.firstMin_lt D1
  have g2 := Vq.firstMin_lt D2
  generalize Vq.firstMin D1 = m1 at *
  generalize Vq.firstMin D2 = m2 at *
  have c1 : ∀ (l : Fin 512) (hl : l.val < 256), D l = D1 ⟨l.val, hl⟩ := fun l hl => (h1 ⟨l.val, hl⟩).symm
  have c2 : ∀ (l : Fin 512) (hl : 256 ≤ l.val), D l = D2 ⟨l.val - 256, by omega⟩ := fun l hl =>
    ((h2 _).trans (congrArg D (Fin.ext (by dsimp only; omega)))).symm
  split
  · rename_i hlt
    refine (congrArg Fin.val (Vq.firstMin_eq D ⟨256 + m2.val, by omega⟩ (fun l => ?_) fun l hl => ?_)).symm
    · rw [← h2]
      by_cases c : l.val < 256
      · rw [c1 l c]; exact hlt.le.trans (f1 _)
      · rw [c2 l (by omega)]; exact f2 _
    · rw [← h2]
      have hl := Fin.lt_def.1 hl
      by_cases c : l.val < 256
      · rw [c1 l c]; exact hlt.trans_le (f1 _)
      · rw [c2 l (by omega)]; exact g2 _ (Fin.lt_def.2 (by dsimp only at *; omega))
  · rename_i hge
    have hge := not_lt.1 hge
    refine (congrArg Fin.val (Vq.firstMin_eq D ⟨m1.val, by omega⟩ (fun l => ?_) fun l hl => ?_)).symm
    · rw [← h1]
      by_cases c : l.val < 256
      · rw [c1 l c]; exact f1 _
      · rw [c2 l (by omega)]; exact hge.trans (f2 _)
    · have hl := Fin.lt_def.1 hl
      dsimp only at hl
      rw [← h1, c1 l (by omega)]
      exact g1 _ (Fin.lt_def.2 hl)

/-- The chosen codewords' numbers. -/
def codes (X : Env Ideal) : IVec S3136 32 :=
  k0_pay31 (v225 X) (v228 X) (v231 X) (cst_217 X) (v236 X) (v242 X) (v249 X)

/-- The distances to the first half of the codebook. -/
theorem near_read (hX : Reads X A b) (hC : Clear X) (n : Fin 3136) (k : Fin 256) :
    @Eq EReal ((v228 X (ix2 n 0) : EReal) - Ideal.ofBits FTy.f32 1073741824#32 * v231 X (ix2 n k) + v236 X (ix2 0 k))
      (Vq.dist A b ⟨n.val / 56, by omega⟩ ⟨n.val % 56, by omega⟩ ⟨k.val, by omega⟩) := by
  have e2 : @Eq EReal (v231 X (ix2 n k)) (∑ d : Fin 64, (v225 X (ix2 n d) : EReal) * v229 X (ix2 d k)) := by
    pointwise [v231, k0_pay30, v225]
  have e3 : @Eq EReal (v228 X (ix2 n 0)) (∑ d : Fin 64, (v225 X (ix2 n d) : EReal) * v225 X (ix2 n d)) := by
    pointwise [v228, k0_pay29, v225]
  have e4 : ∀ d : Fin 64, @Eq EReal (v229 X (ix2 d k)) (X.x6 (ix2 d ⟨k.val, by omega⟩)) := by
    intro d; pointwise [v229, VecWindow.window_eq_ld]
  have e5 : @Eq EReal (v236 X (ix2 0 k)) (X.x7 (ix2 0 ⟨k.val, by omega⟩)) := by
    pointwise [v236, VecWindow.window_eq_ld]
  rw [e2, e3, e5, hX.x7]
  simp only [z_read hX hC, e4, hX.x6]
  rfl

/-- And to the second half. -/
theorem far_read (hX : Reads X A b) (hC : Clear X) (n : Fin 3136) (k : Fin 256) :
    @Eq EReal ((v228 X (ix2 n 0) : EReal)
        - Ideal.ofBits FTy.f32 1073741824#32 * (∑ d : Fin 64, (v225 X (ix2 n d) : EReal) * v242 X (ix2 d k)) + v249 X (ix2 0 k))
      (Vq.dist A b ⟨n.val / 56, by omega⟩ ⟨n.val % 56, by omega⟩ ⟨256 + k.val, by omega⟩) := by
  have e3 : @Eq EReal (v228 X (ix2 n 0)) (∑ d : Fin 64, (v225 X (ix2 n d) : EReal) * v225 X (ix2 n d)) := by
    pointwise [v228, k0_pay29, v225]
  have e4 : ∀ d : Fin 64, @Eq EReal (v242 X (ix2 d k)) (X.x6 (ix2 d ⟨256 + k.val, by omega⟩)) := by
    intro d; pointwise [v242, VecWindow.window_eq_ld]
  have e5 : @Eq EReal (v249 X (ix2 0 k)) (X.x7 (ix2 0 ⟨256 + k.val, by omega⟩)) := by
    pointwise [v249, VecWindow.window_eq_ld]
  rw [e3, e5, hX.x7]
  simp only [z_read hX hC, e4, hX.x6]
  rfl

theorem codes_read (hX : Reads X A b) (hC : Clear X) (n : Fin 3136) :
    codes X (ix1 n) = BitVec.ofNat 32 (Vq.code A b ⟨n.val / 56, by omega⟩ ⟨n.val % 56, by omega⟩).val := by
  unfold Vq.code
  have hn := fun k => near_read hX hC n k
  have hf := fun k => far_read hX hC n k
  generalize Vq.dist A b ⟨n.val / 56, by omega⟩ ⟨n.val % 56, by omega⟩ = D at hn hf ⊢
  have r1 := fun x hx => reduceIndex_row x n (fun k : Fin 256 => D ⟨k.val, by omega⟩) hx reduces_S3136x256_S3136
  have r2 := fun x hx => reduceIndex_row x n (fun k : Fin 256 => D ⟨256 + k.val, by omega⟩) hx reduces_S3136x256_S3136
  have m1 := Vq.fold_min_top fun k : Fin 256 => D ⟨k.val, by omega⟩
  have m2 := Vq.fold_min_top fun k : Fin 256 => D ⟨256 + k.val, by omega⟩
  rw [← firstMin_halves D (fun k : Fin 256 => D ⟨k.val, by omega⟩) (fun k : Fin 256 => D ⟨256 + k.val, by omega⟩)
    (fun _ => rfl) fun _ => rfl]
  pointwise [codes, k0_pay31, cst_217]
  rw [r2, r1]
  · simp only [hn, hf, Vq.ofBits_inf]
    rw [m1, m2]
    rw [apply_ite (BitVec.ofNat 32), BitVec.ofNat_add, BitVec.add_comm]
    rfl
  · intro k
    refine Eq.trans ?_ (hn k)
    pointwise []
  · intro k
    refine Eq.trans ?_ (hf k)
    pointwise []

theorem sitofp_bit (p : Prop) [Decidable p] :
    @Eq EReal (FloatOps.sitofp (F := Ideal) FTy.f32 (BitVec.setWidth 32 (BitVec.ofBool (decide p)))) (if p then 1 else 0) := by
  by_cases c : p
  · simp only [c, decide_true, if_true]
    show ((((1#32 : BitVec 32).toInt : ℝ)) : EReal) = 1
    rw [show (1#32 : BitVec 32).toInt = 1 from by decide]
    simp
  · simp only [c, decide_false, if_false]
    show ((((0#32 : BitVec 32).toInt : ℝ)) : EReal) = 0
    rw [show (0#32 : BitVec 32).toInt = 0 from by decide]
    simp

/-- A row of marks picks the marked entry of the other factor. -/
theorem pick_row (m : ℕ) (hm : m < 512) (w : BitVec 32) (hw : w = BitVec.ofNat 32 m) (f : Fin 512 → EReal)
    (p q : Fin 256 → EReal) (hp : ∀ x, p x = f ⟨x.val, by omega⟩) (hq : ∀ x, q x = f ⟨256 + x.val, by omega⟩) :
    @Eq EReal (∑ x : Fin 256, (FloatOps.sitofp (F := Ideal) FTy.f32 (BitVec.setWidth 32
          (IntOp.cmpi CmpIPredicate.eq (IntOp.addi (BitVec.ofNat 32 x.val) 0#32) w)) : EReal) * p x
        + ∑ x : Fin 256, (FloatOps.sitofp (F := Ideal) FTy.f32 (BitVec.setWidth 32
          (IntOp.cmpi CmpIPredicate.eq (IntOp.addi (BitVec.ofNat 32 x.val) 256#32) w)) : EReal) * q x)
      (f ⟨m, hm⟩) := by
  subst hw
  have mark : ∀ k : ℕ, k < 512 → @Eq EReal (FloatOps.sitofp (F := Ideal) FTy.f32 (BitVec.setWidth 32
      (IntOp.cmpi CmpIPredicate.eq (BitVec.ofNat 32 k) (BitVec.ofNat 32 m)))) (if k = m then 1 else 0) := by
    intro k hk
    have e : (BitVec.ofNat 32 k == BitVec.ofNat 32 m) = decide (k = m) := by
      rw [Bool.eq_iff_iff, beq_iff_eq, decide_eq_true_eq]
      refine ⟨fun e => ?_, fun e => e ▸ rfl⟩
      have := congrArg BitVec.toNat e
      simp only [BitVec.toNat_ofNat] at this
      omega
    simp only [IntOp.cmpi, e]
    exact sitofp_bit _
  have t0 : ∀ x : Fin 256, @Eq EReal ((FloatOps.sitofp (F := Ideal) FTy.f32 (BitVec.setWidth 32
      (IntOp.cmpi CmpIPredicate.eq (IntOp.addi (BitVec.ofNat 32 x.val) 0#32) (BitVec.ofNat 32 m))) : EReal) * p x)
      (if x.val = m then p x else 0) := fun x => by
    rw [show IntOp.addi (BitVec.ofNat 32 x.val) 0#32 = BitVec.ofNat 32 x.val from by simp [IntOp.addi],
      mark x.val (by omega), ite_mul, one_mul, zero_mul]
  have t1 : ∀ x : Fin 256, @Eq EReal ((FloatOps.sitofp (F := Ideal) FTy.f32 (BitVec.setWidth 32
      (IntOp.cmpi CmpIPredicate.eq (IntOp.addi (BitVec.ofNat 32 x.val) 256#32) (BitVec.ofNat 32 m))) : EReal) * q x)
      (if 256 + x.val = m then q x else 0) := fun x => by
    rw [show IntOp.addi (BitVec.ofNat 32 x.val) 256#32 = BitVec.ofNat 32 (256 + x.val) from by
        simp [IntOp.addi, BitVec.ofNat_add, BitVec.add_comm],
      mark (256 + x.val) (by omega), ite_mul, one_mul, zero_mul]
  rw [Finset.sum_congr rfl fun x _ => t0 x, Finset.sum_congr rfl fun x _ => t1 x]
  by_cases c : m < 256
  · rw [Finset.sum_eq_single (⟨m, c⟩ : Fin 256) (fun x _ hx => if_neg fun e => hx (Fin.ext e)) (fun h => absurd (Finset.mem_univ _) h),
      if_pos rfl, Finset.sum_eq_zero (fun x _ => if_neg (by omega)), add_zero, hp]
  · rw [Finset.sum_eq_zero (fun x _ => if_neg (by omega)), zero_add,
      Finset.sum_eq_single (⟨m - 256, by omega⟩ : Fin 256) (fun x _ hx => if_neg fun e => hx (Fin.ext (by dsimp only; omega)))
        (fun h => absurd (Finset.mem_univ _) h), if_pos (by dsimp only; omega), hq]
    exact congrArg f (Fin.ext (by dsimp only; omega))

set_option maxHeartbeats 2000000 in
/-- The padded quantized latent vector. -/
theorem z1_read (hX : Reads X A b) (hC : Clear X) (k l : Fin 58) (d : Fin 64) :
    @Eq EReal (z1 X (ix3 k l d)) (Vq.zqP A b d k.val l.val) := by
  pointwise [z1, VecWindow.put_eq_updateSlice, VecWindow.window_eq_ld, k0_pay35, v270, v273, v274, k0_pay32, k0_pay33, k0_pay34, v279, v268, z0]
  split_ifs with c1 c2
  · refine Eq.trans ?_ (Vq.pd_in (Vq.zq A b d) ⟨k.val - 1, by omega⟩ ⟨l.val - 1, by omega⟩ (by dsimp only; omega) (by dsimp only; omega)).symm
    have e1 : ((k.val - 1) * 56 + (l.val - 1)) / 56 = k.val - 1 := by omega
    have e2 : ((k.val - 1) * 56 + (l.val - 1)) % 56 = l.val - 1 := by omega
    have hc := codes_read hX hC ⟨(k.val - 1) * 56 + (l.val - 1), by omega⟩
    simp only [e1, e2] at hc
    exact pick_row _ (Fin.isLt _) _ hc (fun r => A.cb (ix2 r d)) _ _ (fun x => hX.x8 _ d) fun x => hX.x8 _ d
  · refine Eq.trans ?_ ((hC.z0 k l d (by omega)).trans (Vq.pd_out _ (by omega)).symm)
    exact congrArg X.z0 (congrArg (fun k' => ix3 k' l d) (Fin.ext (by dsimp only; omega)))
  · exact (hC.z0 k l d (by omega)).trans (Vq.pd_out _ (by omega)).symm

end Cert.KernelIdeal.Body
-- ==== Proof.Decode.lean ====
/- What the kernel's two transposed convolutions leave, in coordinates. -/
module

public import proofs.«01_k».proof.Proof.Quantize

@[expose] public section

set_option maxRecDepth 16384

noncomputable section

namespace Cert.KernelIdeal.Body

open Cert.KernelIdeal Cert.KernelIdeal.Gen
open Idealize.ShloMosaic

variable {X : Env Ideal} {A : Vq.Args} {b : Fin 8}

/-- One parity of a transposed convolution, its four terms after the bias. -/
theorem dc_phase {m : ℕ} (W : Fin 4 → Fin 4 → Fin m → EReal) (f : Fin m → ℕ → ℕ → EReal) (e d : Fin 2) (i j R C : ℕ)
    (hR : R = 2 * i + e.val) (hC : C = 2 * j + d.val) (bias : EReal) :
    Vq.dc W f R C + bias = bias
      + ∑ c, f c (i + e.val) (j + d.val) * W ⟨e.val, by omega⟩ ⟨d.val, by omega⟩ c
      + ∑ c, f c (i + e.val) (j + d.val + 1) * W ⟨e.val, by omega⟩ ⟨d.val + 2, by omega⟩ c
      + ∑ c, f c (i + e.val + 1) (j + d.val) * W ⟨e.val + 2, by omega⟩ ⟨d.val, by omega⟩ c
      + ∑ c, f c (i + e.val + 1) (j + d.val + 1) * W ⟨e.val + 2, by omega⟩ ⟨d.val + 2, by omega⟩ c := by
  have t : ∀ u v : Fin 2, (∑ c, W ⟨R % 2 + 2 * u.val, by omega⟩ ⟨C % 2 + 2 * v.val, by omega⟩ c
        * f c (R / 2 + R % 2 + u.val) (C / 2 + C % 2 + v.val))
      = ∑ c, f c (i + e.val + u.val) (j + d.val + v.val) * W ⟨e.val + 2 * u.val, by omega⟩ ⟨d.val + 2 * v.val, by omega⟩ c := by
    intro u v
    refine Finset.sum_congr rfl fun c _ => ?_
    have h1 : R / 2 + R % 2 = i + e.val := by omega
    have h2 : C / 2 + C % 2 = j + d.val := by omega
    have h3 : R % 2 = e.val := by omega
    have h4 : C % 2 = d.val := by omega
    rw [mul_comm, h1, h2]
    simp only [h3, h4]
  unfold Vq.dc
  simp only [t, Fin.sum_univ_two]
  rw [add_comm]
  simp only [← add_assoc]
  rfl

/-- One of a phase's four products. -/
theorem dec_term (hX : Reads X A b) (hC : Clear X) (o : Fin 192) (n : Fin 16) (k l : Fin 58) {I J : ℕ}
    (hI : k.val = I) (hJ : l.val = J) :
    @Eq EReal (∑ x : Fin 64, (z1 X (ix3 k l x) : EReal) * X.x9 (ix3 n x o))
      (∑ x : Fin 64, Vq.zqP A b x I J * A.wd1 (ix4 o x ⟨n.val / 8 + 2 * (n.val / 2 % 2), by omega⟩
        ⟨n.val / 4 % 2 + 2 * (n.val % 2), by omega⟩)) := by
  subst hI hJ
  exact Finset.sum_congr rfl fun x _ => congr (congrArg _ (z1_read hX hC k l x)) (hX.x9 n x o)

theorem gP_in {o : Fin 192} {I J : ℕ} (i j : Fin 112) (hI : I = i.val + 1) (hJ : J = j.val + 1) :
    Vq.gP A b o I J = Vq.g A b o i j := Vq.pd_in _ i j hI hJ

/-- The decoder's hidden layer at one parity. -/
theorem g_phase (A : Vq.Args) (b : Fin 8) (o : Fin 192) (e d : Fin 2) (i j : Fin 56) (R C : Fin 112)
    (hR : R.val = 2 * i.val + e.val) (hC : C.val = 2 * j.val + d.val) :
    Vq.g A b o R C = max (A.bd1 (ix1 o)
      + ∑ c, Vq.zqP A b c (i.val + e.val) (j.val + d.val) * A.wd1 (ix4 o c ⟨e.val, by omega⟩ ⟨d.val, by omega⟩)
      + ∑ c, Vq.zqP A b c (i.val + e.val) (j.val + d.val + 1) * A.wd1 (ix4 o c ⟨e.val, by omega⟩ ⟨d.val + 2, by omega⟩)
      + ∑ c, Vq.zqP A b c (i.val + e.val + 1) (j.val + d.val) * A.wd1 (ix4 o c ⟨e.val + 2, by omega⟩ ⟨d.val, by omega⟩)
      + ∑ c, Vq.zqP A b c (i.val + e.val + 1) (j.val + d.val + 1) * A.wd1 (ix4 o c ⟨e.val + 2, by omega⟩ ⟨d.val + 2, by omega⟩)) 0 :=
  congrArg (max · 0) (dc_phase _ _ e d i.val j.val R.val C.val hR hC _)

theorem phase00 (hX : Reads X A b) (hC : Clear X) (u v : Fin 1) (i j : Fin 56) (o : Fin 192) :
    @Eq EReal (k0_pay38 (v303 X) (v305 X) (v306 X) (v310 X) (v312 X) (ix5 u v i j o))
      (Vq.g A b o ⟨2 * i.val + 0, by omega⟩ ⟨2 * j.val + 0, by omega⟩) := by
  rw [g_phase A b o 0 0 i j _ _ rfl rfl]
  pointwise [k0_pay38, v303, v305, v306, v310, v312, k0_pay36, k0_pay37, v288, v292, v294, v298, v300, v304, VecWindow.window_eq_ld]
  refine relu_congr (hX.x10 o) ?_ ?_ ?_ ?_ <;> exact dec_term hX hC o _ _ _ (by simp; try omega) (by simp; try omega)

theorem phase01 (hX : Reads X A b) (hC : Clear X) (u v : Fin 1) (i j : Fin 56) (o : Fin 192) :
    @Eq EReal (k0_pay41 (v333 X) (v335 X) (v336 X) (v340 X) (v342 X) (v346 X) (v348 X) (ix5 u v i j o))
      (Vq.g A b o ⟨2 * i.val + 0, by omega⟩ ⟨2 * j.val + 1, by omega⟩) := by
  rw [g_phase A b o 0 1 i j _ _ rfl rfl]
  pointwise [k0_pay41, v333, v335, v336, v340, v342, v346, v348, k0_pay39, k0_pay40, v324, v328, v330, v334, VecWindow.window_eq_ld]
  refine relu_congr (hX.x10 o) ?_ ?_ ?_ ?_ <;> exact dec_term hX hC o _ _ _ (by simp; try omega) (by simp; try omega)

theorem phase10 (hX : Reads X A b) (hC : Clear X) (u v : Fin 1) (i j : Fin 56) (o : Fin 192) :
    @Eq EReal (v394 X (ix5 u v i j o)) (Vq.g A b o ⟨2 * i.val + 1, by omega⟩ ⟨2 * j.val + 0, by omega⟩) := by
  rw [g_phase A b o 1 0 i j _ _ rfl rfl]
  pointwise [v394, k0_pay44, v363, v365, v366, v370, v372, v376, v378, v382, v384, k0_pay42, k0_pay43, v360, v364, VecWindow.window_eq_ld]
  refine relu_congr (hX.x10 o) ?_ ?_ ?_ ?_ <;> exact dec_term hX hC o _ _ _ (by simp; try omega) (by simp; try omega)

theorem phase11 (hX : Reads X A b) (hC : Clear X) (u v : Fin 1) (i j : Fin 56) (o : Fin 192) :
    @Eq EReal (k0_pay47 (v417 X) (v422 X) (ix5 u v i j o)) (Vq.g A b o ⟨2 * i.val + 1, by omega⟩ ⟨2 * j.val + 1, by omega⟩) := by
  rw [g_phase A b o 1 1 i j _ _ rfl rfl]
  pointwise [k0_pay47, v417, v422, k0_pay45, k0_pay46, v396, v400, v402, v406, v408, v412, v414, v418, v420, VecWindow.window_eq_ld]
  refine relu_congr (hX.x10 o) ?_ ?_ ?_ ?_ <;> exact dec_term hX hC o _ _ _ (by simp; try omega) (by simp; try omega)

theorem at_coords {G : S2x2x58x58x192.Idx → EReal} {e e' f f' : Fin 2} {k k' l : Fin 58} {o : Fin 192}
    (he : e.val = e'.val) (hf : f.val = f'.val) (hk : k.val = k'.val) : G (ix5 e f k l o) = G (ix5 e' f' k' l o) := by
  rw [Fin.ext he, Fin.ext hf, Fin.ext hk]

/-- What the store of the parity `(0, 0)` leaves at an element. -/
theorem g1_step (e f : Fin 2) (k l : Fin 58) (o : Fin 192) (T : EReal)
    (hP : e.val = 0 → f.val = 0 → ∀ (hk : 1 ≤ k.val ∧ k.val < 57) (hl : 1 ≤ l.val ∧ l.val < 57) (u v : Fin 1),
      @Eq EReal (k0_pay38 (v303 X) (v305 X) (v306 X) (v310 X) (v312 X)
        (ix5 u v ⟨k.val - 1, by omega⟩ ⟨l.val - 1, by omega⟩ o)) T)
    (hG : ¬ (e.val = 0 ∧ f.val = 0 ∧ (1 ≤ k.val ∧ k.val < 57) ∧ 1 ≤ l.val ∧ l.val < 57) →
      @Eq EReal (g0 X (ix5 e f k l o)) T) : @Eq EReal (g1 X (ix5 e f k l o)) T := by
  pointwise [g1, VecWindow.put_eq_updateSlice, VecWindow.window_eq_ld]
  split_ifs with c1 c2
  · exact hP (by omega) (by omega) (by omega) (by omega) _ _
  · exact (at_coords (by dsimp only <;> omega) (by dsimp only <;> omega) (by dsimp only <;> omega)).trans (hG (by omega))
  · exact hG (by omega)

/-- What the store of the parity `(0, 1)` leaves at an element. -/
theorem g2_step (e f : Fin 2) (k l : Fin 58) (o : Fin 192) (T : EReal)
    (hP : e.val = 0 → f.val = 1 → ∀ (hk : 1 ≤ k.val ∧ k.val < 57) (hl : 1 ≤ l.val ∧ l.val < 57) (u v : Fin 1),
      @Eq EReal (k0_pay41 (v333 X) (v335 X) (v336 X) (v340 X) (v342 X) (v346 X) (v348 X)
        (ix5 u v ⟨k.val - 1, by omega⟩ ⟨l.val - 1, by omega⟩ o)) T)
    (hG : ¬ (e.val = 0 ∧ f.val = 1 ∧ (1 ≤ k.val ∧ k.val < 57) ∧ 1 ≤ l.val ∧ l.val < 57) →
      @Eq EReal (g1 X (ix5 e f k l o)) T) : @Eq EReal (g2 X (ix5 e f k l o)) T := by
  pointwise [g2, VecWindow.put_eq_updateSlice, VecWindow.window_eq_ld]
  split_ifs with c1 c2
  · exact hP (by omega) (by omega) (by omega) (by omega) _ _
  · exact (at_coords (by dsimp only <;> omega) (by dsimp only <;> omega) (by dsimp only <;> omega)).trans (hG (by omega))
  · exact hG (by omega)

/-- What the store of the parity `(1, 0)` leaves at an element. -/
theorem g3_step (e f : Fin 2) (k l : Fin 58) (o : Fin 192) (T : EReal)
    (hP : e.val = 1 → f.val = 0 → ∀ (hk : 1 ≤ k.val ∧ k.val < 57) (hl : 1 ≤ l.val ∧ l.val < 57) (u v : Fin 1),
      @Eq EReal (v394 X
        (ix5 u v ⟨k.val - 1, by omega⟩ ⟨l.val - 1, by omega⟩ o)) T)
    (hG : ¬ (e.val = 1 ∧ f.val = 0 ∧ (1 ≤ k.val ∧ k.val < 57) ∧ 1 ≤ l.val ∧ l.val < 57) →
      @Eq EReal (g2 X (ix5 e f k l o)) T) : @Eq EReal (g3 X (ix5 e f k l o)) T := by
  pointwise [g3, VecWindow.put_eq_updateSlice, VecWindow.window_eq_ld]
  split_ifs with c1 c2
  · exact hP (by omega) (by omega) (by omega) (by omega) _ _
  · exact (at_coords (by dsimp only <;> omega) (by dsimp only <;> omega) (by dsimp only <;> omega)).trans (hG (by omega))
  · exact hG (by omega)

/-- What the store of the parity `(1, 1)` leaves at an element. -/
theorem g4_step (e f : Fin 2) (k l : Fin 58) (o : Fin 192) (T : EReal)
    (hP : e.val = 1 → f.val = 1 → ∀ (hk : 1 ≤ k.val ∧ k.val < 57) (hl : 1 ≤ l.val ∧ l.val < 57) (u v : Fin 1),
      @Eq EReal (k0_pay47 (v417 X) (v422 X)
        (ix5 u v ⟨k.val - 1, by omega⟩ ⟨l.val - 1, by omega⟩ o)) T)
    (hG : ¬ (e.val = 1 ∧ f.val = 1 ∧ (1 ≤ k.val ∧ k.val < 57) ∧ 1 ≤ l.val ∧ l.val < 57) →
      @Eq EReal (g3 X (ix5 e f k l o)) T) : @Eq EReal (g4 X (ix5 e f k l o)) T := by
  pointwise [g4, VecWindow.put_eq_updateSlice, VecWindow.window_eq_ld]
  split_ifs with c1 c2
  · exact hP (by omega) (by omega) (by omega) (by omega) _ _
  · exact (at_coords (by dsimp only <;> omega) (by dsimp only <;> omega) (by dsimp only <;> omega)).trans (hG (by omega))
  · exact hG (by omega)

set_option maxHeartbeats 1000000 in
/-- The scratch image holds the decoder's padded hidden layer, its four parities apart. -/
theorem g4_read (hX : Reads X A b) (hC : Clear X) (e f : Fin 2) (k l : Fin 58) (o : Fin 192) :
    @Eq EReal (g4 X (ix5 e f k l o)) (Vq.gP A b o (2 * k.val + e.val - 1) (2 * l.val + f.val - 1)) := by
  refine g4_step e f k l o _ (fun he hf hk hl u v => (phase11 hX hC u v _ _ o).trans
    (gP_in _ _ (by dsimp only <;> omega) (by dsimp only <;> omega)).symm) fun h4 => ?_
  refine g3_step e f k l o _ (fun he hf hk hl u v => (phase10 hX hC u v _ _ o).trans
    (gP_in _ _ (by dsimp only <;> omega) (by dsimp only <;> omega)).symm) fun h3 => ?_
  refine g2_step e f k l o _ (fun he hf hk hl u v => (phase01 hX hC u v _ _ o).trans
    (gP_in _ _ (by dsimp only <;> omega) (by dsimp only <;> omega)).symm) fun h2 => ?_
  refine g1_step e f k l o _ (fun he hf hk hl u v => (phase00 hX hC u v _ _ o).trans
    (gP_in _ _ (by dsimp only <;> omega) (by dsimp only <;> omega)).symm) fun h1 => ?_
  exact (hC.g0 e f k l o (by omega)).trans (Vq.pd_out _ (by omega)).symm

/-- Two terms of four. -/
theorem band (s : ℕ) (hs : s ≤ 2) (F : Fin 2 → EReal) :
    (∑ p : Fin 4, if h : s ≤ p.val ∧ p.val ≤ s + 1 then F ⟨p.val - s, by omega⟩ else 0) = ∑ u, F u := by
  interval_cases s <;> simp [Fin.sum_univ_four, Fin.sum_univ_two]

/-- Sixteen terms after the bias, as a square. -/
theorem sum16_square (bias : EReal) (K : Fin 16 → EReal) :
    bias + K 0 + K 1 + K 2 + K 3 + K 4 + K 5 + K 6 + K 7 + K 8 + K 9 + K 10 + K 11 + K 12 + K 13 + K 14 + K 15
      = (∑ p : Fin 4, ∑ q : Fin 4, K ⟨4 * p.val + q.val, by omega⟩) + bias := by
  simp only [Fin.sum_univ_four]
  show _ = K 0 + K 1 + K 2 + K 3 + (K 4 + K 5 + K 6 + K 7) + (K 8 + K 9 + K 10 + K 11) + (K 12 + K 13 + K 14 + K 15) + bias
  ac_rfl

/-- The term of the last convolution at one tap of its own. -/
def lastTerm (A : Vq.Args) (b : Fin 8) (c : Fin 3) (R C : ℕ) (u v : Fin 2) : EReal :=
  ∑ x : Fin 192, A.wd2 (ix4 c x ⟨R % 2 + 2 * u.val, by omega⟩ ⟨C % 2 + 2 * v.val, by omega⟩)
    * Vq.gP A b x (R / 2 + R % 2 + u.val) (C / 2 + C % 2 + v.val)

/-- The kernel's tap `n`: a tap of the convolution, or nothing. -/
def lastTap (A : Vq.Args) (b : Fin 8) (c : Fin 3) (ro co : Fin 4) (R C : ℕ) (n : Fin 16) : EReal :=
  if h : ro.val / 2 + ro.val % 2 ≤ n.val / 4 ∧ n.val / 4 ≤ ro.val / 2 + ro.val % 2 + 1 then
    if h' : co.val / 2 + co.val % 2 ≤ n.val % 4 ∧ n.val % 4 ≤ co.val / 2 + co.val % 2 + 1 then
      lastTerm A b c R C ⟨n.val / 4 - (ro.val / 2 + ro.val % 2), by omega⟩ ⟨n.val % 4 - (co.val / 2 + co.val % 2), by omega⟩
    else 0
  else 0

theorem last_read (hX : Reads X A b) (hC : Clear X) (c : Fin 3) (ro co : Fin 4) (i j : ℕ) (n : Fin 16) (e f : Fin 2)
    (k l : Fin 58) (hI : 2 * k.val + e.val = 2 * i + n.val / 4 + 1) (hJ : 2 * l.val + f.val = 2 * j + n.val % 4 + 1) :
    @Eq EReal (∑ x : Fin 192, (g4 X (ix5 e f k l x) : EReal) * X.x11 (ix3 n x (col c ro co)))
      (lastTap A b c ro co (4 * i + ro.val) (4 * j + co.val) n) := by
  unfold lastTap
  have e1 : 2 * k.val + e.val - 1 = 2 * i + n.val / 4 := by omega
  have e2 : 2 * l.val + f.val - 1 = 2 * j + n.val % 4 := by omega
  have hg := fun x => g4_read hX hC e f k l x
  have hw := fun x => hX.x11 n x c ro co
  by_cases h1 : ro.val / 2 + ro.val % 2 ≤ n.val / 4 ∧ n.val / 4 ≤ ro.val / 2 + ro.val % 2 + 1
  · by_cases h2 : co.val / 2 + co.val % 2 ≤ n.val % 4 ∧ n.val % 4 ≤ co.val / 2 + co.val % 2 + 1
    · rw [dif_pos h1, dif_pos h2]
      refine Finset.sum_congr rfl fun x _ => (congr (congrArg _ (hg x)) ((hw x).trans (dif_pos ⟨h1, h2⟩))).trans ?_
      rw [mul_comm, e1, e2]
      have h3 : (4 * i + ro.val) / 2 + (4 * i + ro.val) % 2 + (n.val / 4 - (ro.val / 2 + ro.val % 2)) = 2 * i + n.val / 4 := by omega
      have h4 : (4 * j + co.val) / 2 + (4 * j + co.val) % 2 + (n.val % 4 - (co.val / 2 + co.val % 2)) = 2 * j + n.val % 4 := by omega
      have h5 : (4 * i + ro.val) % 2 = ro.val % 2 := by omega
      have h6 : (4 * j + co.val) % 2 = co.val % 2 := by omega
      rw [← h3, ← h4]
      simp only [h5, h6]
    · rw [dif_pos h1, dif_neg h2]
      exact Finset.sum_eq_zero fun x _ => (congrArg _ ((hw x).trans (dif_neg fun h => h2 h.2))).trans (mul_zero _)
  · rw [dif_neg h1]
    exact Finset.sum_eq_zero fun x _ => (congrArg _ ((hw x).trans (dif_neg fun h => h1 h.1))).trans (mul_zero _)

set_option maxHeartbeats 2000000 in
/-- The kernel's sixteen taps are the convolution's four. -/
theorem last_sum (A : Vq.Args) (b : Fin 8) (c : Fin 3) (ro co : Fin 4) (R C : ℕ) :
    (∑ p : Fin 4, ∑ q : Fin 4, lastTap A b c ro co R C ⟨4 * p.val + q.val, by omega⟩)
      = Vq.dc (fun p q o => A.wd2 (ix4 c o p q)) (Vq.gP A b) R C := by
  have e : ∀ p q : Fin 4, lastTap A b c ro co R C ⟨4 * p.val + q.val, by omega⟩ =
      if h : ro.val / 2 + ro.val % 2 ≤ p.val ∧ p.val ≤ ro.val / 2 + ro.val % 2 + 1 then
        if h' : co.val / 2 + co.val % 2 ≤ q.val ∧ q.val ≤ co.val / 2 + co.val % 2 + 1 then
          lastTerm A b c R C ⟨p.val - (ro.val / 2 + ro.val % 2), by omega⟩ ⟨q.val - (co.val / 2 + co.val % 2), by omega⟩
        else 0
      else 0 := by
    intro p q
    have h1 : (4 * p.val + q.val) / 4 = p.val := by omega
    have h2 : (4 * p.val + q.val) % 4 = q.val := by omega
    unfold lastTap
    simp only [h1, h2]
  have s : ∀ p : Fin 4, (∑ q : Fin 4, lastTap A b c ro co R C ⟨4 * p.val + q.val, by omega⟩) =
      if h : ro.val / 2 + ro.val % 2 ≤ p.val ∧ p.val ≤ ro.val / 2 + ro.val % 2 + 1 then
        (fun u => ∑ v, lastTerm A b c R C u v) ⟨p.val - (ro.val / 2 + ro.val % 2), by omega⟩
      else 0 := by
    intro p
    rw [Finset.sum_congr rfl fun q _ => e p q]
    by_cases h1 : ro.val / 2 + ro.val % 2 ≤ p.val ∧ p.val ≤ ro.val / 2 + ro.val % 2 + 1
    · simp only [dif_pos h1]
      exact band (co.val / 2 + co.val % 2) (by omega) fun v =>
        lastTerm A b c R C ⟨p.val - (ro.val / 2 + ro.val % 2), by omega⟩ v
    · simp only [dif_neg h1, Finset.sum_const_zero]
  rw [Finset.sum_congr rfl fun p _ => s p]
  exact band (ro.val / 2 + ro.val % 2) (by omega) fun u => ∑ v, lastTerm A b c R C u v

set_option maxHeartbeats 4000000 in
/-- The point's block of the result. -/
theorem out_block (hX : Reads X A b) (hC : Clear X) (n : Fin 3136) (c : Fin 3) (ro co : Fin 4) :
    @Eq EReal (out X (ix3 0 n (col c ro co)))
      (Vq.res A b c ⟨4 * (n.val / 56) + ro.val, by omega⟩ ⟨4 * (n.val % 56) + co.val, by omega⟩) := by
  unfold Vq.res
  rw [← last_sum A b c ro co, ← sum16_square]
  pointwise [out, k0_pay1, v547, v526, v529, v530, v534, v537, v541, v544, v498, v501, v503, v506, v509, v513, v516, v520,
    v523, v527, v477, v478, v481, v485, v488, v492, v495, v499, v502, v449, v450, v453, v457, v460, v464, v467, v471, v474,
    v432, v436, v439, v443, v446, k0_pay48, k0_pay49, k0_pay50, k0_pay51, k0_pay52, k0_pay53, k0_pay54, k0_pay55,
    VecWindow.window_eq_ld]
  refine sum16_congr (hX.x12 c ro co) ?_ ?_ ?_ ?_ ?_ ?_ ?_ ?_ ?_ ?_ ?_ ?_ ?_ ?_ ?_ ?_
  all_goals exact last_read hX hC c ro co _ _ _ _ _ _ _ (by simp; try omega) (by simp; try omega)

end Cert.KernelIdeal.Body
-- ==== Proof.Prefix.lean ====
/- What the host operations before the kernel leave in the kernel's windows, in coordinates. -/
module

public import proofs.«01_k».proof.Proof.Decode
public import proofs.«01_k».proof.Proof.KernelIdealLaunch
public import Idealize.ShloMosaic.Lib.StableHlo.RunRead
public import Idealize.ShloMosaic.Lib.Pointwise
public import Idealize.ShloMosaic.Lib.Pipeline.ValueKit
public import Idealize.ShloMosaic.Lib.Tactic.CleanTypes

@[expose] public section

set_option maxRecDepth 16384

noncomputable section

namespace Cert.KernelIdeal.Body

open Cert.KernelIdeal Cert.KernelIdeal.Gen
open Idealize.ShloMosaic Idealize.ShloMosaic.TcCoe

variable (m : (ℓ : Loc nD τ sig) → Buf (Elt Ideal) ℓ) (c : Dev nD)

/-- The kernel's arguments. -/
def kargs : Vq.Args where
  x := m (c, Proc.devRef .tc main_arg0)
  w1 := m (c, Proc.devRef .tc main_arg1)
  b1 := m (c, Proc.devRef .tc main_arg2)
  w2 := m (c, Proc.devRef .tc main_arg3)
  b2 := m (c, Proc.devRef .tc main_arg4)
  cb := m (c, Proc.devRef .tc main_arg5)
  wd1 := m (c, Proc.devRef .tc main_arg6)
  bd1 := m (c, Proc.devRef .tc main_arg7)
  wd2 := m (c, Proc.devRef .tc main_arg8)
  bd2 := m (c, Proc.devRef .tc main_arg9)

/-- Sixteen unit slabs along the first axis, read slab by slab. -/
theorem stack_read {a b : ℕ} (w0 w1 w2 w3 w4 w5 w6 w7 w8 w9 w10 w11 w12 w13 w14 w15 : (⟨3, ![1, a, b]⟩ : Shape).Idx → EReal)
    (h) (i : Fin a) (j : Fin b) (f : Fin 16 → EReal)
    (h0 : w0 (ix3 0 i j) = f 0) (h1 : w1 (ix3 0 i j) = f 1) (h2 : w2 (ix3 0 i j) = f 2) (h3 : w3 (ix3 0 i j) = f 3)
    (h4 : w4 (ix3 0 i j) = f 4) (h5 : w5 (ix3 0 i j) = f 5) (h6 : w6 (ix3 0 i j) = f 6) (h7 : w7 (ix3 0 i j) = f 7)
    (h8 : w8 (ix3 0 i j) = f 8) (h9 : w9 (ix3 0 i j) = f 9) (h10 : w10 (ix3 0 i j) = f 10) (h11 : w11 (ix3 0 i j) = f 11)
    (h12 : w12 (ix3 0 i j) = f 12) (h13 : w13 (ix3 0 i j) = f 13) (h14 : w14 (ix3 0 i j) = f 14) (h15 : w15 (ix3 0 i j) = f 15)
    (n : Fin 16) :
    @Eq EReal (truncf (F := Ideal) .bf16 (concatenate (⟨3, ![16, a, b]⟩ : Shape) 0 [⟨⟨3, ![1, a, b]⟩, w0⟩, ⟨⟨3, ![1, a, b]⟩, w1⟩, ⟨⟨3, ![1, a, b]⟩, w2⟩,
      ⟨⟨3, ![1, a, b]⟩, w3⟩, ⟨⟨3, ![1, a, b]⟩, w4⟩, ⟨⟨3, ![1, a, b]⟩, w5⟩, ⟨⟨3, ![1, a, b]⟩, w6⟩, ⟨⟨3, ![1, a, b]⟩, w7⟩,
      ⟨⟨3, ![1, a, b]⟩, w8⟩, ⟨⟨3, ![1, a, b]⟩, w9⟩, ⟨⟨3, ![1, a, b]⟩, w10⟩, ⟨⟨3, ![1, a, b]⟩, w11⟩, ⟨⟨3, ![1, a, b]⟩, w12⟩,
      ⟨⟨3, ![1, a, b]⟩, w13⟩, ⟨⟨3, ![1, a, b]⟩, w14⟩, ⟨⟨3, ![1, a, b]⟩, w15⟩] h) bitsLt_bf16_f32 (ix3 n i j)) (f n) := by
  refine (concatenate_ofFn_unit_apply (s₁ := ⟨3, ![1, a, b]⟩) 0 (![w0, w1, w2, w3, w4, w5, w6, w7, w8, w9, w10, w11, w12, w13, w14, w15]) h rfl rfl
    (ix3 n i j) n rfl (ix3 0 i j) ?_).trans ?_
  · intro x hx
    fin_cases x
    · exact absurd rfl hx
    · rfl
    · rfl
  · fin_cases n <;> assumption

/-- Sixteen unit slabs along the middle axis, moved last and flattened with the axis before it. -/
theorem tile_read (w0 w1 w2 w3 w4 w5 w6 w7 w8 w9 w10 w11 w12 w13 w14 w15 : S192x1x3.Idx → EReal)
    (h) (ht : S192x16x3.Transposes [0, 2, 1] S192x3x16) (hc : S192x3x16.ShapeCasts S192x48) (hb : S192x48.BroadcastsInDim S1x192x48 ![1, 2])
    (o : Fin 192) (k : Fin 3) (f : Fin 16 → EReal)
    (h0 : w0 (ix3 o 0 k) = f 0) (h1 : w1 (ix3 o 0 k) = f 1) (h2 : w2 (ix3 o 0 k) = f 2) (h3 : w3 (ix3 o 0 k) = f 3)
    (h4 : w4 (ix3 o 0 k) = f 4) (h5 : w5 (ix3 o 0 k) = f 5) (h6 : w6 (ix3 o 0 k) = f 6) (h7 : w7 (ix3 o 0 k) = f 7)
    (h8 : w8 (ix3 o 0 k) = f 8) (h9 : w9 (ix3 o 0 k) = f 9) (h10 : w10 (ix3 o 0 k) = f 10) (h11 : w11 (ix3 o 0 k) = f 11)
    (h12 : w12 (ix3 o 0 k) = f 12) (h13 : w13 (ix3 o 0 k) = f 13) (h14 : w14 (ix3 o 0 k) = f 14) (h15 : w15 (ix3 o 0 k) = f 15)
    (ro co : Fin 4) :
    broadcastInDim S1x192x48 ![1, 2] hb (shapeCast S192x48 (transpose S192x3x16 [0, 2, 1]
      (concatenate S192x16x3 1 [⟨S192x1x3, w0⟩, ⟨S192x1x3, w1⟩, ⟨S192x1x3, w2⟩,
      ⟨S192x1x3, w3⟩, ⟨S192x1x3, w4⟩, ⟨S192x1x3, w5⟩, ⟨S192x1x3, w6⟩, ⟨S192x1x3, w7⟩,
      ⟨S192x1x3, w8⟩, ⟨S192x1x3, w9⟩, ⟨S192x1x3, w10⟩, ⟨S192x1x3, w11⟩, ⟨S192x1x3, w12⟩,
      ⟨S192x1x3, w13⟩, ⟨S192x1x3, w14⟩, ⟨S192x1x3, w15⟩] h) ht) hc) (ix3 0 o (col k ro co)) = f ⟨4 * ro.val + co.val, by omega⟩ := by
  have key : ∀ q : Fin 16, concatenate S192x16x3 1 [⟨S192x1x3, w0⟩, ⟨S192x1x3, w1⟩, ⟨S192x1x3, w2⟩,
      ⟨S192x1x3, w3⟩, ⟨S192x1x3, w4⟩, ⟨S192x1x3, w5⟩, ⟨S192x1x3, w6⟩, ⟨S192x1x3, w7⟩,
      ⟨S192x1x3, w8⟩, ⟨S192x1x3, w9⟩, ⟨S192x1x3, w10⟩, ⟨S192x1x3, w11⟩, ⟨S192x1x3, w12⟩,
      ⟨S192x1x3, w13⟩, ⟨S192x1x3, w14⟩, ⟨S192x1x3, w15⟩] h (ix3 o q k) = f q := by
    intro q
    refine (concatenate_ofFn_unit_apply (s₁ := S192x1x3) 1 (![w0, w1, w2, w3, w4, w5, w6, w7, w8, w9, w10, w11, w12, w13, w14, w15]) h rfl rfl
      (ix3 o q k) q rfl (ix3 o 0 k) ?_).trans ?_
    · intro x hx
      fin_cases x
      · rfl
      · exact absurd rfl hx
      · rfl
    · fin_cases q <;> assumption
  revert key
  generalize concatenate S192x16x3 1 _ h = C
  intro key
  pointwise
  refine Eq.trans (congrArg C (congrArg₂ (fun a b => ix3 o a b) (Fin.ext ?_) (Fin.ext ?_))) (key ⟨4 * ro.val + co.val, by omega⟩)
  · simp only [col]
    omega
  · simp only [col]
    omega

/-- The zero slab. -/
theorem zero_piece (hb : S192x3.BroadcastsInDim S192x1x3 ![0, 2]) (hz : S_.BroadcastsInDim S192x3 ![]) (o : Fin 192) (k : Fin 3) :
    @Eq EReal (broadcastInDim S192x1x3 ![0, 2] hb (broadcastInDim S192x3 ![] hz (constant (F := Ideal) S_ .f32 0x00000000#32)) (ix3 o 0 k)) 0 := by
  pointwise

/-- The slab of one weight position. -/
theorem slice_piece (hb : S192x3.BroadcastsInDim S192x1x3 ![0, 2]) (hc : S1x1x192x3.ShapeCasts S192x3)
    (ht : S3x192x4x4.Transposes [2, 3, 1, 0] S4x4x192x3) (W : S3x192x4x4.Idx → EReal) (u v : ℕ) (hu : u < 4) (hv : v < 4)
    (hs : S4x4x192x3.Slices ![u, v, 0, 0] S1x1x192x3) (o : Fin 192) (k : Fin 3) :
    broadcastInDim S192x1x3 ![0, 2] hb (shapeCast S192x3 (extractStridedSlice S1x1x192x3 ![u, v, 0, 0]
      (transpose S4x4x192x3 [2, 3, 1, 0] W ht) hs) hc) (ix3 o 0 k) = W (ix4 k o ⟨u, hu⟩ ⟨v, hv⟩) := by
  pointwise

/-- The weights of the last layer by place, place of the neighbourhood and place in the tile. -/
def wtap (A : Vq.Args) (n : Fin 16) (o : Fin 192) (k : Fin 3) (q : Fin 16) : EReal :=
  if h : (q.val / 4 / 2 + q.val / 4 % 2 ≤ n.val / 4 ∧ n.val / 4 ≤ q.val / 4 / 2 + q.val / 4 % 2 + 1)
      ∧ (q.val % 4 / 2 + q.val % 4 % 2 ≤ n.val % 4 ∧ n.val % 4 ≤ q.val % 4 / 2 + q.val % 4 % 2 + 1) then
    A.wd2 (ix4 k o ⟨q.val / 4 % 2 + 2 * (n.val / 4 - (q.val / 4 / 2 + q.val / 4 % 2)), by omega⟩
      ⟨q.val % 4 % 2 + 2 * (n.val % 4 - (q.val % 4 / 2 + q.val % 4 % 2)), by omega⟩)
  else 0

/-- A place that the neighbourhood does not reach has weight zero. -/
theorem wtap_out (A : Vq.Args) (n : Fin 16) (o : Fin 192) (k : Fin 3) (q : Fin 16) (h : ¬ ((q.val / 4 / 2 + q.val / 4 % 2 ≤ n.val / 4 ∧ n.val / 4 ≤ q.val / 4 / 2 + q.val / 4 % 2 + 1)
      ∧ (q.val % 4 / 2 + q.val % 4 % 2 ≤ n.val % 4 ∧ n.val % 4 ≤ q.val % 4 / 2 + q.val % 4 % 2 + 1))) :
    0 = wtap A n o k q := by
  unfold wtap
  rw [dif_neg h]

/-- A place that it reaches has the weight at the position `u`, `v`. -/
theorem wtap_in (A : Vq.Args) (n : Fin 16) (o : Fin 192) (k : Fin 3) (q : Fin 16) (u v : ℕ) (hu : u < 4) (hv : v < 4) (h : (q.val / 4 / 2 + q.val / 4 % 2 ≤ n.val / 4 ∧ n.val / 4 ≤ q.val / 4 / 2 + q.val / 4 % 2 + 1)
      ∧ (q.val % 4 / 2 + q.val % 4 % 2 ≤ n.val % 4 ∧ n.val % 4 ≤ q.val % 4 / 2 + q.val % 4 % 2 + 1))
    (eu : u = q.val / 4 % 2 + 2 * (n.val / 4 - (q.val / 4 / 2 + q.val / 4 % 2)))
    (ev : v = q.val % 4 % 2 + 2 * (n.val % 4 - (q.val % 4 / 2 + q.val % 4 % 2))) :
    A.wd2 (ix4 k o ⟨u, hu⟩ ⟨v, hv⟩) = wtap A n o k q := by
  subst eu ev
  unfold wtap
  rw [dif_pos h]

set_option maxHeartbeats 4000000 in
/-- The weights of the last layer, all places of the neighbourhood stacked. -/
theorem v517_read (n : Fin 16) (o : Fin 192) (k : Fin 3) (ro co : Fin 4) :
    @Eq EReal (V m c main_v517 (ix3 n o (col k ro co))) (wtap (kargs m c) n o k ⟨4 * ro.val + co.val, by omega⟩) := by
  after_reads_simp [Matrix.cons_val]
  refine stack_read _ _ _ _ _ _ _ _ _ _ _ _ _ _ _ _
    concatenates_S1x192x48_S1x192x48_S1x192x48_S1x192x48_S1x192x48_S1x192x48_S1x192x48_S1x192x48_S1x192x48_S1x192x48_S1x192x48_S1x192x48_S1x192x48_S1x192x48_S1x192x48_S1x192x48_S16x192x48_d0
    o (col k ro co) (fun n => wtap (kargs m c) n o k ⟨4 * ro.val + co.val, by omega⟩)
    ?_ ?_ ?_ ?_ ?_ ?_ ?_ ?_ ?_ ?_ ?_ ?_ ?_ ?_ ?_ ?_ n
  all_goals
    after_reads_simp [Matrix.cons_val]
    refine tile_read _ _ _ _ _ _ _ _ _ _ _ _ _ _ _ _
      concatenates_S192x1x3_S192x1x3_S192x1x3_S192x1x3_S192x1x3_S192x1x3_S192x1x3_S192x1x3_S192x1x3_S192x1x3_S192x1x3_S192x1x3_S192x1x3_S192x1x3_S192x1x3_S192x1x3_S192x16x3_d1
      transposes_S192x16x3_S192x3x16_0_2_1 shapeCasts_S192x3x16_S192x48 bcast_S192x48_S1x192x48_1_2 o k (fun q => wtap (kargs m c) _ o k q)
      ?_ ?_ ?_ ?_ ?_ ?_ ?_ ?_ ?_ ?_ ?_ ?_ ?_ ?_ ?_ ?_ ro co
  all_goals
    after_reads_simp [Matrix.cons_val]
    first
      | (refine (zero_piece bcast_S192x3_S192x1x3_0_2 bcast_S_S192x3 o k).trans ?_
         refine wtap_out (kargs m c) _ _ _ _ ?_
         decide)
      | (refine (slice_piece bcast_S192x3_S192x1x3_0_2 shapeCasts_S1x1x192x3_S192x3
          transposes_S3x192x4x4_S4x4x192x3_2_3_1_0 _ _ _ ?_ ?_ ?_ o k).trans ?_
         all_goals first | decide | (refine wtap_in (kargs m c) _ _ _ _ _ _ _ _ ?_ ?_ ?_ <;> decide))

/-- The slab of one position of the first transposed convolution's weights. -/
theorem slab_read (W : S192x64x4x4.Idx → EReal) (u v : ℕ) (hu : u < 4) (hv : v < 4)
    (hs : S4x4x64x192.Slices ![u, v, 0, 0] S1x1x64x192) (d : Fin 64) (o : Fin 192) :
    broadcastInDim S1x64x192 ![1, 2] bcast_S64x192_S1x64x192_1_2 (shapeCast S64x192 (extractStridedSlice S1x1x64x192 ![u, v, 0, 0]
      (transpose S4x4x64x192 [2, 3, 1, 0] W transposes_S192x64x4x4_S4x4x64x192_2_3_1_0) hs) shapeCasts_S1x1x64x192_S64x192) (ix3 0 d o)
      = W (ix4 o d ⟨u, hu⟩ ⟨v, hv⟩) := by
  pointwise

/-- A weight of the first transposed convolution, its position in any form. -/
theorem ix4_eq (A : Vq.Args) (o : Fin 192) (d : Fin 64) (u v u' v' : ℕ) (hu : u < 4) (hv : v < 4) (hu' : u' < 4) (hv' : v' < 4) (eu : u = u') (ev : v = v') :
    A.wd1 (ix4 o d ⟨u, hu⟩ ⟨v, hv⟩) = A.wd1 (ix4 o d ⟨u', hu'⟩ ⟨v', hv'⟩) := by
  subst eu ev
  rfl

set_option maxHeartbeats 1000000 in
/-- The weights of the first transposed convolution, by output parity and tap. -/
theorem v65_read (n : Fin 16) (d : Fin 64) (o : Fin 192) :
    @Eq EReal (V m c main_v65 (ix3 n d o)) ((kargs m c).wd1 (ix4 o d ⟨n.val / 8 + 2 * (n.val / 2 % 2), by omega⟩ ⟨n.val / 4 % 2 + 2 * (n.val % 2), by omega⟩)) := by
  after_reads_simp [Matrix.cons_val]
  refine stack_read _ _ _ _ _ _ _ _ _ _ _ _ _ _ _ _
    concatenates_S1x64x192_S1x64x192_S1x64x192_S1x64x192_S1x64x192_S1x64x192_S1x64x192_S1x64x192_S1x64x192_S1x64x192_S1x64x192_S1x64x192_S1x64x192_S1x64x192_S1x64x192_S1x64x192_S16x64x192_d0
    d o (fun n : Fin 16 => (kargs m c).wd1 (ix4 o d ⟨n.val / 8 + 2 * (n.val / 2 % 2), by omega⟩ ⟨n.val / 4 % 2 + 2 * (n.val % 2), by omega⟩))
    ?_ ?_ ?_ ?_ ?_ ?_ ?_ ?_ ?_ ?_ ?_ ?_ ?_ ?_ ?_ ?_ n
  all_goals
    after_reads_simp [Matrix.cons_val]
    refine (slab_read _ _ _ ?_ ?_ ?_ d o).trans ?_
    all_goals first | decide | (refine ix4_eq (kargs m c) _ _ _ _ _ _ _ _ _ _ ?_ ?_ <;> decide)

/-- The last bias, at a channel and a place in the tile. -/
theorem v520_read (k : Fin 3) (ro co : Fin 4) : @Eq EReal (V m c main_v520 (ix2 (0 : Fin 1) (col k ro co))) ((kargs m c).bd2 (ix1 k)) := by
  after_reads_simp
  pointwise
  refine congrArg (kargs m c).bd2 (congrArg ix1 (Fin.ext ?_))
  simp only [col]
  omega

/-- The first bias. -/
theorem v521_read (o : Fin 192) : @Eq EReal (V m c main_v521 (ix2 (0 : Fin 1) o)) ((kargs m c).b1 (ix1 o)) := by
  after_reads_simp
  pointwise
  rfl

/-- The second bias. -/
theorem v522_read (d : Fin 64) : @Eq EReal (V m c main_v522 (ix2 (0 : Fin 1) d)) ((kargs m c).b2 (ix1 d)) := by
  after_reads_simp
  pointwise
  rfl

/-- The third bias. -/
theorem v523_read (o : Fin 192) : @Eq EReal (V m c main_v523 (ix2 (0 : Fin 1) o)) ((kargs m c).bd1 (ix1 o)) := by
  after_reads_simp
  pointwise
  rfl

/-- The codebook. -/
theorem arg5_read (k : Fin 512) (d : Fin 64) : @Eq EReal (V m c main_arg5 (ix2 k d)) ((kargs m c).cb (ix2 k d)) := by
  after_reads_simp
  rfl

/-- The codebook transposed. -/
theorem v11_read (d : Fin 64) (k : Fin 512) : @Eq EReal (V m c main_v11 (ix2 d k)) ((kargs m c).cb (ix2 k d)) := by
  after_reads_simp
  pointwise
  rfl

/-- The squared lengths of the codewords. -/
theorem v14_read (k : Fin 512) : @Eq EReal (V m c main_v14 (ix2 (0 : Fin 1) k)) (∑ d : Fin 64, (kargs m c).cb (ix2 k d) * (kargs m c).cb (ix2 k d)) := by
  after_reads_simp
  pointwise
  rfl

/-- The weights of the second convolution by position. -/
theorem v10_read (n : Fin 16) (o : Fin 192) (d : Fin 64) : @Eq EReal (V m c main_v10 (ix3 n o d))
    ((kargs m c).w2 (ix4 d o ⟨n.val / 4, by omega⟩ ⟨n.val % 4, by omega⟩)) := by
  after_reads_simp
  pointwise
  rfl

/-- The weights of the first convolution: the position in a square of two by two, then the position in the pixel block and the channel. -/
theorem v8_read (n : Fin 4) (p q : Fin 2) (k : Fin 3) (o : Fin 192) : @Eq EReal (V m c main_v8 (ix3 n (lane p q k) o))
    ((kargs m c).w1 (ix4 o k ⟨2 * (n.val / 2) + p.val, by omega⟩ ⟨2 * (n.val % 2) + q.val, by omega⟩)) := by
  after_reads_simp
  pointwise
  refine congrArg (kargs m c).w1 (congr (congrArg₂ (fun a b d => ix4 o a b d) (Fin.ext ?_) (Fin.ext ?_)) (Fin.ext ?_))
  all_goals
    simp only [lane]
    omega

/-- A padded image at a position, its coordinates in any form. -/
theorem pad_read (x : S8x3x224x224.Idx → EReal) (b : Fin 8) (k : Fin 3) (K I J I' J' : ℕ) (z : EReal) (hk : K < 3) (eK : K = k.val)
    (eI : I = I') (eJ : J = J') (ez : z = 0) :
    (if h : (1 ≤ I ∧ I - 1 < 224) ∧ 1 ≤ J ∧ J - 1 < 224 then x (ix4 b ⟨K, hk⟩ ⟨I - 1, h.1.2⟩ ⟨J - 1, h.2.2⟩) else z)
      = Vq.pd (fun i j : Fin 224 => x (ix4 b k i j)) I' J' := by
  subst eK eI eJ ez
  rfl

/-- The padded images, four pixels and three channels in one row. -/
theorem v4_read (b : Fin 8) (I J : Fin 113) (p q : Fin 2) (k : Fin 3) : @Eq EReal (V m c main_v4 (ix4 b I J (lane p q k)))
    (Vq.xP (kargs m c) b k (2 * I.val + p.val) (2 * J.val + q.val)) := by
  after_reads_simp
  simp -implicitDefEqProofs only [StableHlo.TRef.toBuf, StableHlo.TRef.ofBuf, cast_cast, cast_eq]
  clean_types
  pointwise
  refine pad_read (kargs m c).x b k _ _ _ _ _ _ (Nat.mod_lt _ (by decide)) ?_ ?_ ?_ ?_
  · simp only [lane]
    omega
  · simp only [lane]
    omega
  · simp only [lane]
    omega
  · show (((0#32 : BitVec 32).toInt : ℝ) : EReal) = 0
    simp
-- ==== Proof.Blocks.lean ====
/- What a point's input blocks hold, and that the scratch buffers' borders stay zero. -/
module

public import proofs.«01_k».proof.Proof.Prefix

@[expose] public section

set_option maxRecDepth 16384

noncomputable section

namespace Cert.KernelIdeal.Body

open Cert.KernelIdeal Cert.KernelIdeal.Gen
open Idealize.ShloMosaic Idealize.ShloMosaic.TcCoe

/-! ## The input blocks of a point -/

/-- The first window's block at point `t` is image `t`. -/
theorem index0 (t : Fin cfg0.N) : win0_0.index t = ![t.val, 0, 0, 0] := by
  have ht : t.val < 8 := Nat.lt_of_lt_of_eq t.isLt N_0
  have e0 : (grid0.coords t 0).val = t.val / 1 % 8 := Pipeline.Grid.coords_val t 0 (by decide) rfl
  show cc0_transform_0 (grid0.coords t) = _
  unfold cc0_transform_0
  simp only [e0, BitVec.toNat_ofNat]
  congr 1
  omega

/-- … read at an index. -/
theorem read0 (X : S8x113x113x12.Idx → EReal) (t : Fin cfg0.N) (i j : Fin 113) (l : Fin 12) :
    ((cfg0.win 0).blk t).view.read (Elt Ideal) X (ix4 0 i j l) = X (ix4 ⟨t.val, Nat.lt_of_lt_of_eq t.isLt N_0⟩ i j l) := by
  blk_ext [index0 t]

/-! The other windows' blocks are their whole arrays. -/

theorem index1 (t : Fin cfg0.N) : win0_1.index t = ![0, 0, 0] := rfl
theorem read1 (X : S4x12x192.Idx → EReal) (t : Fin cfg0.N) (a : Fin 4) (b : Fin 12) (c : Fin 192) :
    ((cfg0.win 1).blk t).view.read (Elt Ideal) X (ix3 a b c) = X (ix3 a b c) := by
  blk_ext [index1 t]

theorem index2 (t : Fin cfg0.N) : win0_2.index t = ![0, 0] := rfl
theorem read2 (X : S1x192.Idx → EReal) (t : Fin cfg0.N) (a : Fin 1) (b : Fin 192) :
    ((cfg0.win 2).blk t).view.read (Elt Ideal) X (ix2 a b) = X (ix2 a b) := by
  blk_ext [index2 t]

theorem index3 (t : Fin cfg0.N) : win0_3.index t = ![0, 0, 0] := rfl
theorem read3 (X : S16x192x64.Idx → EReal) (t : Fin cfg0.N) (a : Fin 16) (b : Fin 192) (c : Fin 64) :
    ((cfg0.win 3).blk t).view.read (Elt Ideal) X (ix3 a b c) = X (ix3 a b c) := by
  blk_ext [index3 t]

theorem index4 (t : Fin cfg0.N) : win0_4.index t = ![0, 0] := rfl
theorem read4 (X : S1x64.Idx → EReal) (t : Fin cfg0.N) (a : Fin 1) (b : Fin 64) :
    ((cfg0.win 4).blk t).view.read (Elt Ideal) X (ix2 a b) = X (ix2 a b) := by
  blk_ext [index4 t]

theorem index5 (t : Fin cfg0.N) : win0_5.index t = ![0, 0] := rfl
theorem read5 (X : S64x512.Idx → EReal) (t : Fin cfg0.N) (a : Fin 64) (b : Fin 512) :
    ((cfg0.win 5).blk t).view.read (Elt Ideal) X (ix2 a b) = X (ix2 a b) := by
  blk_ext [index5 t]

theorem index6 (t : Fin cfg0.N) : win0_6.index t = ![0, 0] := rfl
theorem read6 (X : S1x512.Idx → EReal) (t : Fin cfg0.N) (a : Fin 1) (b : Fin 512) :
    ((cfg0.win 6).blk t).view.read (Elt Ideal) X (ix2 a b) = X (ix2 a b) := by
  blk_ext [index6 t]

theorem index7 (t : Fin cfg0.N) : win0_7.index t = ![0, 0] := rfl
theorem read7 (X : S512x64.Idx → EReal) (t : Fin cfg0.N) (a : Fin 512) (b : Fin 64) :
    ((cfg0.win 7).blk t).view.read (Elt Ideal) X (ix2 a b) = X (ix2 a b) := by
  blk_ext [index7 t]

theorem index8 (t : Fin cfg0.N) : win0_8.index t = ![0, 0, 0] := rfl
theorem read8 (X : S16x64x192.Idx → EReal) (t : Fin cfg0.N) (a : Fin 16) (b : Fin 64) (c : Fin 192) :
    ((cfg0.win 8).blk t).view.read (Elt Ideal) X (ix3 a b c) = X (ix3 a b c) := by
  blk_ext [index8 t]

theorem index9 (t : Fin cfg0.N) : win0_9.index t = ![0, 0] := rfl
theorem read9 (X : S1x192.Idx → EReal) (t : Fin cfg0.N) (a : Fin 1) (b : Fin 192) :
    ((cfg0.win 9).blk t).view.read (Elt Ideal) X (ix2 a b) = X (ix2 a b) := by
  blk_ext [index9 t]

theorem index10 (t : Fin cfg0.N) : win0_10.index t = ![0, 0, 0] := rfl
theorem read10 (X : S16x192x48.Idx → EReal) (t : Fin cfg0.N) (a : Fin 16) (b : Fin 192) (c : Fin 48) :
    ((cfg0.win 10).blk t).view.read (Elt Ideal) X (ix3 a b c) = X (ix3 a b c) := by
  blk_ext [index10 t]

theorem index11 (t : Fin cfg0.N) : win0_11.index t = ![0, 0] := rfl
theorem read11 (X : S1x48.Idx → EReal) (t : Fin cfg0.N) (a : Fin 1) (b : Fin 48) :
    ((cfg0.win 11).blk t).view.read (Elt Ideal) X (ix2 a b) = X (ix2 a b) := by
  blk_ext [index11 t]

variable (m : (ℓ : Loc nD τ sig) → Buf (Elt Ideal) ℓ) (c : Dev nD)

/-- The weights of the last layer, the place in the tile by its row and column. -/
theorem wtap_eq (A : Vq.Args) (n : Fin 16) (o : Fin 192) (k : Fin 3) (ro co : Fin 4) (q : Fin 16) (hq : q.val = 4 * ro.val + co.val) :
    wtap A n o k q = if h : (ro.val / 2 + ro.val % 2 ≤ n.val / 4 ∧ n.val / 4 ≤ ro.val / 2 + ro.val % 2 + 1)
          ∧ (co.val / 2 + co.val % 2 ≤ n.val % 4 ∧ n.val % 4 ≤ co.val / 2 + co.val % 2 + 1) then
        A.wd2 (ix4 k o ⟨ro.val % 2 + 2 * (n.val / 4 - (ro.val / 2 + ro.val % 2)), by omega⟩
          ⟨co.val % 2 + 2 * (n.val % 4 - (co.val / 2 + co.val % 2)), by omega⟩)
      else 0 := by
  have e1 : q.val / 4 = ro.val := by omega
  have e2 : q.val % 4 = co.val := by omega
  unfold wtap
  simp only [e1, e2]

/-- The blocks of point `n` hold the arguments, rearranged: image `n` of the batch. -/
theorem reads (n : ℕ) (hn : n < cfg0.N) : Reads (env m c n hn) (kargs m c) ⟨n, Nat.lt_of_lt_of_eq hn N_0⟩ where
  x1 I J p q k := by
    rw [env_x1]
    exact (read0 _ _ I J _).trans (v4_read m c _ I J p q k)
  x2 i p q k o := by
    rw [env_x2]
    exact (read1 _ _ i _ o).trans (v8_read m c i p q k o)
  x3 o := by
    rw [env_x3]
    exact (read2 _ _ _ o).trans (v521_read m c o)
  x4 i o d := by
    rw [env_x4]
    exact (read3 _ _ i o d).trans (v10_read m c i o d)
  x5 d := by
    rw [env_x5]
    exact (read4 _ _ _ d).trans (v522_read m c d)
  x6 d k := by
    rw [env_x6]
    exact (read5 _ _ d k).trans (v11_read m c d k)
  x7 k := by
    rw [env_x7]
    exact (read6 _ _ _ k).trans (v14_read m c k)
  x8 k d := by
    rw [env_x8]
    exact (read7 _ _ k d).trans (arg5_read m c k d)
  x9 i d o := by
    rw [env_x9]
    exact (read8 _ _ i d o).trans (v65_read m c i d o)
  x10 o := by
    rw [env_x10]
    exact (read9 _ _ _ o).trans (v523_read m c o)
  x11 i o k ro co := by
    rw [env_x11]
    exact (read10 _ _ i o _).trans ((v517_read m c i o k ro co).trans (wtap_eq _ i o k ro co _ rfl))
  x12 k ro co := by
    rw [env_x12]
    exact (read11 _ _ _ _).trans (v520_read m c k ro co)

/-! ## The borders of the scratch buffers stay zero -/

/-- The hidden layer's scratch buffer, cleared. -/
theorem zeros_h (i : S2x2x57x57x192.Idx) : @Eq EReal (k0_pay2 (F := Ideal) i) 0 := by
  pointwise [k0_pay2]

/-- The latent vectors' scratch buffer, cleared. -/
theorem zeros_z (i : S58x58x64.Idx) : @Eq EReal (k0_pay3 (F := Ideal) i) 0 := by
  pointwise [k0_pay3]

/-- The decoder's scratch buffer, cleared. -/
theorem zeros_g (i : S2x2x58x58x192.Idx) : @Eq EReal (k0_pay4 (F := Ideal) i) 0 := by
  pointwise [k0_pay4]

/-- The borders are zero at every point: the first point clears the buffers, and no point writes anything else there. -/
theorem clear : ∀ (n : ℕ) (hn : n < cfg0.N), Clear (env m c n hn)
  | 0, hn => ⟨fun r s k l o _ => zeros_h (ix5 r s k l o), fun k l d _ => zeros_z (ix3 k l d), fun e f k l o _ => zeros_g (ix5 e f k l o)⟩
  | n + 1, hn => by
    have hX := reads m c n (Nat.lt_of_succ_lt hn)
    have hC := clear n (Nat.lt_of_succ_lt hn)
    exact ⟨fun r s k l o h => (h8_read hX hC r s k l o).trans (Vq.pd_out _ (by omega)),
      fun k l d h => (z1_read hX hC k l d).trans (Vq.pd_out _ (by omega)),
      fun e f k l o h => (g4_read hX hC e f k l o).trans (Vq.pd_out _ (by omega))⟩

end Cert.KernelIdeal.Body

end
-- ==== Proof.Result.lean ====
/- The idealized kernel's result is the plain one. -/
module

public import proofs.«01_k».proof.Proof.Blocks

@[expose] public section

set_option maxRecDepth 16384

noncomputable section

namespace Cert.KernelIdeal.Body

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The output window's block at point `t` is image `t`. -/
theorem index12 (t : Fin cfg0.N) : win0_12.index t = ![t.val, 0, 0] := by
  have ht : t.val < 8 := Nat.lt_of_lt_of_eq t.isLt N_0
  have e0 : (grid0.coords t 0).val = t.val / 1 % 8 := Pipeline.Grid.coords_val t 0 (by decide) rfl
  show cc0_transform_12 (grid0.coords t) = _
  unfold cc0_transform_12
  simp only [e0, BitVec.toNat_ofNat]
  congr 1
  omega

/-- What the kernel leaves in its output array: image `i 0`'s block, each row one place, each column a channel and a place in
    the tile. -/
def left (i : S8x3136x48.Idx) : EReal :=
  out (env m c (i 0).val (Nat.lt_of_lt_of_eq (i 0).isLt N_0.symm)) (ix3 0 (i 1) (i 2))

/-- … read at an index. -/
theorem read12 (X : S8x3136x48.Idx → EReal) (t : Fin cfg0.N) (n : Fin 3136) (l : Fin 48) :
    ((cfg0.win 12).blk t).view.read (Elt Ideal) X (ix3 0 n l) = X (ix3 ⟨t.val, Nat.lt_of_lt_of_eq t.isLt N_0⟩ n l) := by
  blk_ext [index12 t]

/-- The output array after the last point. -/
theorem arr_out : (dats m 0 c).arrAt 12 cfg0.N = left m c := by
  refine (dats m 0 c).arrAt_eq_of_covers 12 _ (by decide +kernel) fun t hf y => ?_
  blk_simp
  rw [after0_12]
  have h0 : y 0 = (0 : Fin 1) := Subsingleton.elim (α := Fin 1) _ _
  have hy : y = ix3 (0 : Fin 1) (y 1) (y 2) := by
    rw [← h0]
    exact eq_ix3 (n0 := 1) (n1 := 3136) (n2 := 48) y
  rw [hy]
  exact (read12 (left m c) t (y 1) (y 2)).symm

/-- The result at an index. -/
theorem tail_read (b : Fin 8) (k : Fin 3) (i j : Fin 224) :
    @Eq EReal (Pipeline.afterTail₀ cfgs (dats m) 0 (V0 m) [hostOps1] c main_v527 (ix4 b k i j)) (Vq.res (kargs m c) b k i j) := by
  unfold Pipeline.afterTail₀
  have e := (Pipeline.withArrays_arr (cfgs 0).spec (by decide) c (V0 m c) (fun w => (dats m 0 c).arrAt w (cfgs 0).N) 12).trans
    (arr_out m c)
  generalize Pipeline.withArrays (cfgs 0).spec c (V0 m c) (fun w => (dats m 0 c).arrAt w (cfgs 0).N) = W at e ⊢
  simp only [List.flatten_cons, List.flatten_nil, List.append_nil]
  after_reads_simp
  replace e : W (Proc.devRef .tc main_v524) = left m c := e
  rw [e]
  pointwise [left]
  have h := out_block (reads m c b.val (Nat.lt_of_lt_of_eq b.isLt N_0.symm)) (clear m c b.val (Nat.lt_of_lt_of_eq b.isLt N_0.symm))
    ⟨i.val / 4 * 56 + j.val / 4, by omega⟩ k ⟨i.val % 4, by omega⟩ ⟨j.val % 4, by omega⟩
  refine h.trans ?_
  congr 1 <;> (apply Fin.ext; dsimp only; omega)

/-- The kernel runs and its result is the plain one. -/
theorem out_run : θ_run (defs (F := Ideal)) (onTc (main (F := Ideal))) ⟨m, fun _ => 0, ρ⟩ fun r => ∀ c : Dev nD,
    r.2.mem ((c.tc : Thread nD τ).loc main_v527) = (fun i : S8x3x224x224.Idx => Vq.res (kargs m c) (i 0) (i 1) (i 2) (i 3)) := by
  refine (θ_run _ _ _).mono (fun r h c => ?_) (run_main m ρ)
  refine ((h.1 c).2 main_v527 (Pipeline.mem_restRefs_of main_v527 (by decide) (by decide))).trans ?_
  funext i
  have hi : i = ix4 (i 0) (i 1) (i 2) (i 3) := eq_ix4 i
  rw [hi]
  exact tail_read m c _ _ _ _

end Cert.KernelIdeal.Body

end
-- ==== Proof.RefValue.lean ====
/- The reference's result is the function of Spec.lean. -/
module

public import proofs.«01_k».proof.Proof.Codes
public import proofs.«01_k».proof.Proof.Gen.ReferenceIdeal.Run
public import Idealize.ShloMosaic.Lib.Routing.Ops
public import Idealize.ShloMosaic.Lib.Tactic.CleanTypes

@[expose] public section

set_option maxRecDepth 16384

noncomputable section

namespace Cert.ReferenceIdeal.Math

open Cert.ReferenceIdeal Cert.ReferenceIdeal.Value Cert.ReferenceIdeal.Gen
open Idealize.ShloMosaic Idealize.ShloMosaic.TcCoe Idealize.ShloMosaic.StableHlo
open Idealize.SL Idealize.SL.Sem

variable (V0 : Valuation τ sig (Elt Ideal))

/-- The reference's arguments. -/
def args : Vq.Args where
  x := V0 (Proc.devRef .tc main_arg0)
  w1 := V0 (Proc.devRef .tc main_arg1)
  b1 := V0 (Proc.devRef .tc main_arg2)
  w2 := V0 (Proc.devRef .tc main_arg3)
  b2 := V0 (Proc.devRef .tc main_arg4)
  cb := V0 (Proc.devRef .tc main_arg5)
  wd1 := V0 (Proc.devRef .tc main_arg6)
  bd1 := V0 (Proc.devRef .tc main_arg7)
  wd2 := V0 (Proc.devRef .tc main_arg8)
  bd2 := V0 (Proc.devRef .tc main_arg9)

theorem sitofp_zero : @Eq EReal (FloatOps.sitofp (F := Ideal) FTy.f32 0#32) 0 := by
  show (((0#32 : BitVec 32).toInt : ℝ) : EReal) = 0
  simp

theorem x_read (b : Fin 8) (c : Fin 3) (I J : Fin 226) :
    @Eq EReal (res_main_v0 V0 (ix4 b c I J)) (Vq.xP (args V0) b c I.val J.val) := by
  unfold res_main_v0 Vq.xP Vq.pd args
  clean_types
  pointwise
  split
  · rfl
  · exact sitofp_zero

theorem h_read (b : Fin 8) (o : Fin 192) (I J : Fin 114) :
    @Eq EReal (res_main_v100 V0 (ix4 b o I J)) (Vq.hP (args V0) b o I.val J.val) := by
  simp only [Vq.hP, Vq.pd, Vq.h, Vq.cv_eq]
  unfold res_main_v100 res_main_v53
  clean_types
  pointwise
  simp only [x_read, sitofp_zero]
  rfl

theorem z_read (n : Fin 25088) (d : Fin 64) :
    @Eq EReal (res_main_v200 V0 (ix2 n d))
      (Vq.z (args V0) ⟨n.val / 3136, by have := n.isLt; omega⟩ d ⟨n.val / 56 % 56, by omega⟩ ⟨n.val % 56, by omega⟩) := by
  unfold Vq.z
  rw [Vq.cv_eq]
  pointwise [res_main_v200, res_main_v153]
  simp only [h_read]
  rfl

theorem dist_read (n : Fin 25088) (k : Fin 512) :
    @Eq EReal (res_main_v214 V0 (ix2 n k))
      (Vq.dist (args V0) ⟨n.val / 3136, by have := n.isLt; omega⟩ ⟨n.val / 56 % 56, by omega⟩ ⟨n.val % 56, by omega⟩ k) := by
  unfold Vq.dist
  pointwise [res_main_v214]
  simp only [z_read]
  rfl

theorem zq_read (b : Fin 8) (d : Fin 64) (I J : Fin 115) :
    @Eq EReal (res_main_v226 V0 (ix4 b d I J)) (Vq.dil (Vq.zqP (args V0) b) d I.val J.val) := by
  unfold Vq.zqP
  rw [Vq.dil_pd]
  unfold res_main_v226
  clean_types
  pointwise
  split
  · rename_i hI
    refine Routing.gather_row _ rfl rfl rfl rfl rfl _ _ _ _ _ ?_ (by norm_num)
    pointwise
    rw [Vq.ofBits_inf, Vq.fold_min_top]
    refine (Vq.fold_minsi_first _).trans ?_
    unfold Vq.code
    refine congrArg (fun D => BitVec.ofNat 32 (Vq.firstMin D : Fin 512).val) (funext fun k => (dist_read V0 _ k).trans ?_)
    congr 1 <;> exact Fin.ext (by simp only; omega)
  · rfl

theorem g_read (b : Fin 8) (o : Fin 192) (I J : Fin 227) :
    @Eq EReal (res_main_v326 V0 (ix4 b o I J)) (Vq.dil (Vq.gP (args V0) b) o I.val J.val) := by
  unfold Vq.gP
  rw [Vq.dil_pd]
  simp only [Vq.g, Vq.dc_eq]
  unfold res_main_v326 res_main_v279
  clean_types
  pointwise
  simp only [zq_read]
  rfl

/-- The reference's result buffer. -/
theorem out_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v424)
        = (fun i : S8x3x224x224.Idx => Vq.res (args (launchContents m c)) (i 0) (i 1) (i 2) (i 3)) := by
  refine (θ_run defs _ _).mono (fun r h c => ((h c).1).trans ?_) (Value.run m ρ)
  funext i
  obtain ⟨b, k, R, C, rfl⟩ : ∃ (b : Fin 8) (k : Fin 3) (R C : Fin 224), i = ix4 b k R C := ⟨i 0, i 1, i 2, i 3, eq_ix4 i⟩
  show _ = Vq.res (args (launchContents m c)) b k R C
  unfold Vq.res
  rw [Vq.dc_eq]
  pointwise [res_main_v385]
  simp only [g_read]
  rfl

end Cert.ReferenceIdeal.Math
-- ==== Proof.Assemble.lean ====
/- The two idealized programs' results are equal. -/
module

public import proofs.«01_k».proof.Proof.Result
public import proofs.«01_k».proof.Proof.RefValue

@[expose] public section

noncomputable section

namespace Cert.Proof

open Idealize.ShloMosaic Idealize.SL.Sem Idealize.ShloMosaic.TcCoe

/-- Arguments that agree one by one are the same. -/
theorem mk_congr {x x' w1 w1' b1 b1' w2 w2' b2 b2' cb cb' wd1 wd1' bd1 bd1' wd2 wd2' bd2 bd2'}
    (h0 : x = x') (h1 : w1 = w1') (h2 : b1 = b1') (h3 : w2 = w2') (h4 : b2 = b2') (h5 : cb = cb') (h6 : wd1 = wd1')
    (h7 : bd1 = bd1') (h8 : wd2 = wd2') (h9 : bd2 = bd2') :
    (⟨x, w1, b1, w2, b2, cb, wd1, bd1, wd2, bd2⟩ : Vq.Args) = ⟨x', w1', b1', w2', b2', cb', wd1', bd1', wd2', bd2'⟩ := by
  subst h0 h1 h2 h3 h4 h5 h6 h7 h8 h9
  rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Where the two programs' arguments agree, they are the same arguments of the plain function. -/
theorem args_eq
    (h0 : @Eq (Cert.KernelIdeal.S8x3x224x224.Idx → EReal) (m' ((c.tc : Thread Cert.ReferenceIdeal.nD Cert.ReferenceIdeal.τ).loc Cert.ReferenceIdeal.main_arg0))
      (m ((c.tc : Thread Cert.KernelIdeal.nD Cert.KernelIdeal.τ).loc Cert.KernelIdeal.main_arg0)))
    (h1 : @Eq (Cert.KernelIdeal.S192x3x4x4.Idx → EReal) (m' ((c.tc : Thread Cert.ReferenceIdeal.nD Cert.ReferenceIdeal.τ).loc Cert.ReferenceIdeal.main_arg1))
      (m ((c.tc : Thread Cert.KernelIdeal.nD Cert.KernelIdeal.τ).loc Cert.KernelIdeal.main_arg1)))
    (h2 : @Eq (Cert.KernelIdeal.S192.Idx → EReal) (m' ((c.tc : Thread Cert.ReferenceIdeal.nD Cert.ReferenceIdeal.τ).loc Cert.ReferenceIdeal.main_arg2))
      (m ((c.tc : Thread Cert.KernelIdeal.nD Cert.KernelIdeal.τ).loc Cert.KernelIdeal.main_arg2)))
    (h3 : @Eq (Cert.KernelIdeal.S64x192x4x4.Idx → EReal) (m' ((c.tc : Thread Cert.ReferenceIdeal.nD Cert.ReferenceIdeal.τ).loc Cert.ReferenceIdeal.main_arg3))
      (m ((c.tc : Thread Cert.KernelIdeal.nD Cert.KernelIdeal.τ).loc Cert.KernelIdeal.main_arg3)))
    (h4 : @Eq (Cert.KernelIdeal.S64.Idx → EReal) (m' ((c.tc : Thread Cert.ReferenceIdeal.nD Cert.ReferenceIdeal.τ).loc Cert.ReferenceIdeal.main_arg4))
      (m ((c.tc : Thread Cert.KernelIdeal.nD Cert.KernelIdeal.τ).loc Cert.KernelIdeal.main_arg4)))
    (h5 : @Eq (Cert.KernelIdeal.S512x64.Idx → EReal) (m' ((c.tc : Thread Cert.ReferenceIdeal.nD Cert.ReferenceIdeal.τ).loc Cert.ReferenceIdeal.main_arg5))
      (m ((c.tc : Thread Cert.KernelIdeal.nD Cert.KernelIdeal.τ).loc Cert.KernelIdeal.main_arg5)))
    (h6 : @Eq (Cert.KernelIdeal.S192x64x4x4.Idx → EReal) (m' ((c.tc : Thread Cert.ReferenceIdeal.nD Cert.ReferenceIdeal.τ).loc Cert.ReferenceIdeal.main_arg6))
      (m ((c.tc : Thread Cert.KernelIdeal.nD Cert.KernelIdeal.τ).loc Cert.KernelIdeal.main_arg6)))
    (h7 : @Eq (Cert.KernelIdeal.S192.Idx → EReal) (m' ((c.tc : Thread Cert.ReferenceIdeal.nD Cert.ReferenceIdeal.τ).loc Cert.ReferenceIdeal.main_arg7))
      (m ((c.tc : Thread Cert.KernelIdeal.nD Cert.KernelIdeal.τ).loc Cert.KernelIdeal.main_arg7)))
    (h8 : @Eq (Cert.KernelIdeal.S3x192x4x4.Idx → EReal) (m' ((c.tc : Thread Cert.ReferenceIdeal.nD Cert.ReferenceIdeal.τ).loc Cert.ReferenceIdeal.main_arg8))
      (m ((c.tc : Thread Cert.KernelIdeal.nD Cert.KernelIdeal.τ).loc Cert.KernelIdeal.main_arg8)))
    (h9 : @Eq (Cert.KernelIdeal.S3.Idx → EReal) (m' ((c.tc : Thread Cert.ReferenceIdeal.nD Cert.ReferenceIdeal.τ).loc Cert.ReferenceIdeal.main_arg9))
      (m ((c.tc : Thread Cert.KernelIdeal.nD Cert.KernelIdeal.τ).loc Cert.KernelIdeal.main_arg9))) :
    Cert.ReferenceIdeal.Math.args (StableHlo.launchContents m' c) = Cert.KernelIdeal.Body.kargs m c :=
  mk_congr h0 h1 h2 h3 h4 h5 h6 h7 h8 h9

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Assemble
public import Idealize.ShloMosaic.Lib.Quiescent
public import proofs.«01_k».proof.Proof.Gen.Pre_no_tie
public import Idealize.ShloMosaic.Adequacy
public import Idealize.ShloMosaic.Init

@[expose] public section

noncomputable section

namespace Cert.Proof

open Idealize.ShloMosaic Idealize.SL.Sem Cert.Kernel

/-- The reference runs, its arguments end unchanged and every semaphore counter at zero. -/
theorem reference_frame : Cert.quiescent_ReferenceIdeal := fun m ρ _ =>
  (θ_run _ _ _).mono (fun r h => ⟨fun c => (h c).2, sem_eq_zero_of_no_sems (by decide) r.2⟩) (Cert.ReferenceIdeal.Value.run m ρ)

set_option maxHeartbeats 4000000 in
/-- The idealized kernel's result is the idealized reference's: both are the plain one, of equal arguments. -/
theorem algebraic : Cert.algebraic_KernelIdeal_ReferenceIdeal := by
  intro m ρ m' ρ' _ hargs
  refine ⟨fun c => (fun i : Cert.KernelIdeal.S8x3x224x224.Idx => Vq.res (Cert.KernelIdeal.Body.kargs m c) (i 0) (i 1) (i 2) (i 3)), ?_, ?_⟩
  · exact (θ_run _ _ _).mono (fun r h c => ⟨h.1 c, h.2.1 c⟩)
      (θ_run_and (Cert.KernelIdeal.Body.out_run m ρ) (Cert.KernelIdeal.Body.frame m ρ))
  · refine (θ_run _ _ _).mono (fun r h c => ⟨(h.1 c).trans ?_, (h.2 c).2⟩)
      (θ_run_and (Cert.ReferenceIdeal.Math.out_read m' ρ') (Cert.ReferenceIdeal.Value.run m' ρ'))
    rw [args_eq m m' c (hargs c).1 (hargs c).2.1 (hargs c).2.2.1 (hargs c).2.2.2.1 (hargs c).2.2.2.2.1 (hargs c).2.2.2.2.2.1 (hargs c).2.2.2.2.2.2.1 (hargs c).2.2.2.2.2.2.2.1 (hargs c).2.2.2.2.2.2.2.2.1 (hargs c).2.2.2.2.2.2.2.2.2]

set_option maxHeartbeats 4000000 in
/-- Every claim. -/
theorem claim : Cert.Claim := ⟨Cert.Kernel.Gen.facts, Cert.KernelIdeal.Gen.facts, Cert.ReferenceIdeal.Gen.facts, Cert.Pre_no_tie.Gen.facts,
  fun m ρ _ => Cert.Kernel.Body.frame m ρ, fun m ρ _ => Cert.Kernel.Body.frame m ρ, fun m ρ _ => Cert.KernelIdeal.Body.frame m ρ,
  reference_frame, fun m ρ _ => reference_frame m ρ trivial, trivial, algebraic⟩

end Cert.Proof

end
